-- ==== Defs.lean ====
def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Topk (m : (ℓ : Loc Cert.Topk.nD Cert.Topk.τ Cert.Topk.sig) → Buf (Elt Bits) ℓ) : Prop :=
  True

def Pre_TopkIdeal (m : (ℓ : Loc Cert.TopkIdeal.nD Cert.TopkIdeal.τ Cert.TopkIdeal.sig) → Buf (Elt Ideal) ℓ) : Prop :=
  True

def Pre_TopkRefIdeal (m : (ℓ : Loc Cert.TopkRefIdeal.nD Cert.TopkRefIdeal.τ Cert.TopkRefIdeal.sig) → Buf (Elt Ideal) ℓ) : Prop :=
  True

def Pre_Xw (m : (ℓ : Loc Cert.Xw.nD Cert.Xw.τ Cert.Xw.sig) → Buf (Elt Bits) ℓ) : Prop :=
  True

def Pre_XwIdeal (m : (ℓ : Loc Cert.XwIdeal.nD Cert.XwIdeal.τ Cert.XwIdeal.sig) → Buf (Elt Ideal) ℓ) : Prop :=
  True

def Pre_XwRefIdeal (m : (ℓ : Loc Cert.XwRefIdeal.nD Cert.XwRefIdeal.τ Cert.XwRefIdeal.sig) → Buf (Elt Ideal) ℓ) : Prop :=
  True

def Pre_Step1 (m : (ℓ : Loc Cert.Step1.nD Cert.Step1.τ Cert.Step1.sig) → Buf (Elt Bits) ℓ) : Prop :=
  True

def Pre_Step1Ideal (m : (ℓ : Loc Cert.Step1Ideal.nD Cert.Step1Ideal.τ Cert.Step1Ideal.sig) → Buf (Elt Ideal) ℓ) : Prop :=
  True

def Pre_Step1RefIdeal (m : (ℓ : Loc Cert.Step1RefIdeal.nD Cert.Step1RefIdeal.τ Cert.Step1RefIdeal.sig) → Buf (Elt Ideal) ℓ) : Prop :=
  True

def Pre_Step2 (m : (ℓ : Loc Cert.Step2.nD Cert.Step2.τ Cert.Step2.sig) → Buf (Elt Bits) ℓ) : Prop :=
  True

def Pre_Step2Ideal (m : (ℓ : Loc Cert.Step2Ideal.nD Cert.Step2Ideal.τ Cert.Step2Ideal.sig) → Buf (Elt Ideal) ℓ) : Prop :=
  True

def Pre_Step2RefIdeal (m : (ℓ : Loc Cert.Step2RefIdeal.nD Cert.Step2RefIdeal.τ Cert.Step2RefIdeal.sig) → Buf (Elt Ideal) ℓ) : Prop :=
  True

def Pre_Step3 (m : (ℓ : Loc Cert.Step3.nD Cert.Step3.τ Cert.Step3.sig) → Buf (Elt Bits) ℓ) : Prop :=
  True

def Pre_Step3Ideal (m : (ℓ : Loc Cert.Step3Ideal.nD Cert.Step3Ideal.τ Cert.Step3Ideal.sig) → Buf (Elt Ideal) ℓ) : Prop :=
  True

def Pre_Step3RefIdeal (m : (ℓ : Loc Cert.Step3RefIdeal.nD Cert.Step3RefIdeal.τ Cert.Step3RefIdeal.sig) → Buf (Elt Ideal) ℓ) : Prop :=
  True

def Pre_Step4 (m : (ℓ : Loc Cert.Step4.nD Cert.Step4.τ Cert.Step4.sig) → Buf (Elt Bits) ℓ) : Prop :=
  True

def Pre_Step4Ideal (m : (ℓ : Loc Cert.Step4Ideal.nD Cert.Step4Ideal.τ Cert.Step4Ideal.sig) → Buf (Elt Ideal) ℓ) : Prop :=
  True

def Pre_Step4RefIdeal (m : (ℓ : Loc Cert.Step4RefIdeal.nD Cert.Step4RefIdeal.τ Cert.Step4RefIdeal.sig) → Buf (Elt Ideal) ℓ) : Prop :=
  True

def Pre_Step5 (m : (ℓ : Loc Cert.Step5.nD Cert.Step5.τ Cert.Step5.sig) → Buf (Elt Bits) ℓ) : Prop :=
  True

def Pre_Step5Ideal (m : (ℓ : Loc Cert.Step5Ideal.nD Cert.Step5Ideal.τ Cert.Step5Ideal.sig) → Buf (Elt Ideal) ℓ) : Prop :=
  True

def Pre_Step5RefIdeal (m : (ℓ : Loc Cert.Step5RefIdeal.nD Cert.Step5RefIdeal.τ Cert.Step5RefIdeal.sig) → Buf (Elt Ideal) ℓ) : Prop :=
  True

def Pre_Step6 (m : (ℓ : Loc Cert.Step6.nD Cert.Step6.τ Cert.Step6.sig) → Buf (Elt Bits) ℓ) : Prop :=
  True

def Pre_Step6Ideal (m : (ℓ : Loc Cert.Step6Ideal.nD Cert.Step6Ideal.τ Cert.Step6Ideal.sig) → Buf (Elt Ideal) ℓ) : Prop :=
  True

def Pre_Step6RefIdeal (m : (ℓ : Loc Cert.Step6RefIdeal.nD Cert.Step6RefIdeal.τ Cert.Step6RefIdeal.sig) → Buf (Elt Ideal) ℓ) : Prop :=
  True

def Pre_Step7 (m : (ℓ : Loc Cert.Step7.nD Cert.Step7.τ Cert.Step7.sig) → Buf (Elt Bits) ℓ) : Prop :=
  True

def Pre_Step7Ideal (m : (ℓ : Loc Cert.Step7Ideal.nD Cert.Step7Ideal.τ Cert.Step7Ideal.sig) → Buf (Elt Ideal) ℓ) : Prop :=
  True

def Pre_Step7RefIdeal (m : (ℓ : Loc Cert.Step7RefIdeal.nD Cert.Step7RefIdeal.τ Cert.Step7RefIdeal.sig) → Buf (Elt Ideal) ℓ) : Prop :=
  True

def Pre_Step8 (m : (ℓ : Loc Cert.Step8.nD Cert.Step8.τ Cert.Step8.sig) → Buf (Elt Bits) ℓ) : Prop :=
  True

def Pre_Step8Ideal (m : (ℓ : Loc Cert.Step8Ideal.nD Cert.Step8Ideal.τ Cert.Step8Ideal.sig) → Buf (Elt Ideal) ℓ) : Prop :=
  True

def Pre_Step8RefIdeal (m : (ℓ : Loc Cert.Step8RefIdeal.nD Cert.Step8RefIdeal.τ Cert.Step8RefIdeal.sig) → Buf (Elt Ideal) ℓ) : Prop :=
  True

def Pre_Step16 (m : (ℓ : Loc Cert.Step16.nD Cert.Step16.τ Cert.Step16.sig) → Buf (Elt Bits) ℓ) : Prop :=
  True

def Pre_Step16Ideal (m : (ℓ : Loc Cert.Step16Ideal.nD Cert.Step16Ideal.τ Cert.Step16Ideal.sig) → Buf (Elt Ideal) ℓ) : Prop :=
  True

def Pre_Step16RefIdeal (m : (ℓ : Loc Cert.Step16RefIdeal.nD Cert.Step16RefIdeal.τ Cert.Step16RefIdeal.sig) → Buf (Elt Ideal) ℓ) : Prop :=
  True

def Pre_Step24 (m : (ℓ : Loc Cert.Step24.nD Cert.Step24.τ Cert.Step24.sig) → Buf (Elt Bits) ℓ) : Prop :=
  True

def Pre_Step24Ideal (m : (ℓ : Loc Cert.Step24Ideal.nD Cert.Step24Ideal.τ Cert.Step24Ideal.sig) → Buf (Elt Ideal) ℓ) : Prop :=
  True

def Pre_Step24RefIdeal (m : (ℓ : Loc Cert.Step24RefIdeal.nD Cert.Step24RefIdeal.τ Cert.Step24RefIdeal.sig) → Buf (Elt Ideal) ℓ) : Prop :=
  True

def Pre_Step32 (m : (ℓ : Loc Cert.Step32.nD Cert.Step32.τ Cert.Step32.sig) → Buf (Elt Bits) ℓ) : Prop :=
  True

def Pre_Step32Ideal (m : (ℓ : Loc Cert.Step32Ideal.nD Cert.Step32Ideal.τ Cert.Step32Ideal.sig) → Buf (Elt Ideal) ℓ) : Prop :=
  True

def Pre_Step32RefIdeal (m : (ℓ : Loc Cert.Step32RefIdeal.nD Cert.Step32RefIdeal.τ Cert.Step32RefIdeal.sig) → Buf (Elt Ideal) ℓ) : Prop :=
  True

def Pre_Step40 (m : (ℓ : Loc Cert.Step40.nD Cert.Step40.τ Cert.Step40.sig) → Buf (Elt Bits) ℓ) : Prop :=
  True

def Pre_Step40Ideal (m : (ℓ : Loc Cert.Step40Ideal.nD Cert.Step40Ideal.τ Cert.Step40Ideal.sig) → Buf (Elt Ideal) ℓ) : Prop :=
  True

def Pre_Step40RefIdeal (m : (ℓ : Loc Cert.Step40RefIdeal.nD Cert.Step40RefIdeal.τ Cert.Step40RefIdeal.sig) → Buf (Elt Ideal) ℓ) : Prop :=
  True

def Pre_Step48 (m : (ℓ : Loc Cert.Step48.nD Cert.Step48.τ Cert.Step48.sig) → Buf (Elt Bits) ℓ) : Prop :=
  True

def Pre_Step48Ideal (m : (ℓ : Loc Cert.Step48Ideal.nD Cert.Step48Ideal.τ Cert.Step48Ideal.sig) → Buf (Elt Ideal) ℓ) : Prop :=
  True

def Pre_Step48RefIdeal (m : (ℓ : Loc Cert.Step48RefIdeal.nD Cert.Step48RefIdeal.τ Cert.Step48RefIdeal.sig) → Buf (Elt Ideal) ℓ) : Prop :=
  True

def Pre_Step56 (m : (ℓ : Loc Cert.Step56.nD Cert.Step56.τ Cert.Step56.sig) → Buf (Elt Bits) ℓ) : Prop :=
  True

def Pre_Step56Ideal (m : (ℓ : Loc Cert.Step56Ideal.nD Cert.Step56Ideal.τ Cert.Step56Ideal.sig) → Buf (Elt Ideal) ℓ) : Prop :=
  True

def Pre_Step56RefIdeal (m : (ℓ : Loc Cert.Step56RefIdeal.nD Cert.Step56RefIdeal.τ Cert.Step56RefIdeal.sig) → Buf (Elt Ideal) ℓ) : Prop :=
  True

def Pre_Step64 (m : (ℓ : Loc Cert.Step64.nD Cert.Step64.τ Cert.Step64.sig) → Buf (Elt Bits) ℓ) : Prop :=
  True

def Pre_Step64Ideal (m : (ℓ : Loc Cert.Step64Ideal.nD Cert.Step64Ideal.τ Cert.Step64Ideal.sig) → Buf (Elt Ideal) ℓ) : Prop :=
  True

def Pre_Step64RefIdeal (m : (ℓ : Loc Cert.Step64RefIdeal.nD Cert.Step64RefIdeal.τ Cert.Step64RefIdeal.sig) → Buf (Elt Ideal) ℓ) : Prop :=
  True

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6))
      ∧ r.2.sem = fun _ => 0)

def quiescent_Topk [hTopk : Cert.Topk.Facts] : Prop :=
  ∀ (m : (ℓ : Loc Cert.Topk.nD Cert.Topk.τ Cert.Topk.sig) → Buf (Elt Bits) ℓ) (g : Dev Cert.Topk.nD → PrngReg), Pre_Topk m →
    θ_run (Cert.Topk.defs (F := Bits)) (onTc (τ := Cert.Topk.τ) (Cert.Topk.main (F := Bits))) ⟨m, fun _ => 0, g⟩ (fun r => (∀ c : Dev Cert.Topk.nD,
      r.2.mem ((c.tc : Thread Cert.Topk.nD Cert.Topk.τ).loc Cert.Topk.main_arg0) = m ((c.tc : Thread Cert.Topk.nD Cert.Topk.τ).loc Cert.Topk.main_arg0)
      ∧ r.2.mem ((c.tc : Thread Cert.Topk.nD Cert.Topk.τ).loc Cert.Topk.main_arg1) = m ((c.tc : Thread Cert.Topk.nD Cert.Topk.τ).loc Cert.Topk.main_arg1))
      ∧ r.2.sem = fun _ => 0)

def quiescent_TopkIdeal [hTopkIdeal : Cert.TopkIdeal.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ r.2.sem = fun _ => 0)

def quiescent_TopkRefIdeal [hTopkRefIdeal : Cert.TopkRefIdeal.Facts] : Prop :=
  ∀ (m : (ℓ : Loc Cert.TopkRefIdeal.nD Cert.TopkRefIdeal.τ Cert.TopkRefIdeal.sig) → Buf (Elt Ideal) ℓ) (g : Dev Cert.TopkRefIdeal.nD → PrngReg), Pre_TopkRefIdeal m →
    θ_run (Cert.TopkRefIdeal.defs (F := Ideal)) (onTc (τ := Cert.TopkRefIdeal.τ) (Cert.TopkRefIdeal.main (F := Ideal))) ⟨m, fun _ => 0, g⟩ (fun r => (∀ c : Dev Cert.TopkRefIdeal.nD,
      r.2.mem ((c.tc : Thread Cert.TopkRefIdeal.nD Cert.TopkRefIdeal.τ).loc Cert.TopkRefIdeal.main_arg0) = m ((c.tc : Thread Cert.TopkRefIdeal.nD Cert.TopkRefIdeal.τ).loc Cert.TopkRefIdeal.main_arg0)
      ∧ r.2.mem ((c.tc : Thread Cert.TopkRefIdeal.nD Cert.TopkRefIdeal.τ).loc Cert.TopkRefIdeal.main_arg1) = m ((c.tc : Thread Cert.TopkRefIdeal.nD Cert.TopkRefIdeal.τ).loc Cert.TopkRefIdeal.main_arg1))
      ∧ r.2.sem = fun _ => 0)

def quiescent_Xw [hXw : Cert.Xw.Facts] : Prop :=
  ∀ (m : (ℓ : Loc Cert.Xw.nD Cert.Xw.τ Cert.Xw.sig) → Buf (Elt Bits) ℓ) (g : Dev Cert.Xw.nD → PrngReg), Pre_Xw m →
    θ_run (Cert.Xw.defs (F := Bits)) (onTc (τ := Cert.Xw.τ) (Cert.Xw.main (F := Bits))) ⟨m, fun _ => 0, g⟩ (fun r => (∀ c : Dev Cert.Xw.nD,
      r.2.mem ((c.tc : Thread Cert.Xw.nD Cert.Xw.τ).loc Cert.Xw.main_arg0) = m ((c.tc : Thread Cert.Xw.nD Cert.Xw.τ).loc Cert.Xw.main_arg0)
      ∧ r.2.mem ((c.tc : Thread Cert.Xw.nD Cert.Xw.τ).loc Cert.Xw.main_arg1) = m ((c.tc : Thread Cert.Xw.nD Cert.Xw.τ).loc Cert.Xw.main_arg1)
      ∧ r.2.mem ((c.tc : Thread Cert.Xw.nD Cert.Xw.τ).loc Cert.Xw.main_arg2) = m ((c.tc : Thread Cert.Xw.nD Cert.Xw.τ).loc Cert.Xw.main_arg2))
      ∧ r.2.sem = fun _ => 0)

def quiescent_XwIdeal [hXwIdeal : Cert.XwIdeal.Facts] : Prop :=
  ∀ (m : (ℓ : Loc Cert.XwIdeal.nD Cert.XwIdeal.τ Cert.XwIdeal.sig) → Buf (Elt Ideal) ℓ) (g : Dev Cert.XwIdeal.nD → PrngReg), Pre_XwIdeal m →
    θ_run (Cert.XwIdeal.defs (F := Ideal)) (onTc (τ := Cert.XwIdeal.τ) (Cert.XwIdeal.main (F := Ideal))) ⟨m, fun _ => 0, g⟩ (fun r => (∀ c : Dev Cert.XwIdeal.nD,
      r.2.mem ((c.tc : Thread Cert.XwIdeal.nD Cert.XwIdeal.τ).loc Cert.XwIdeal.main_arg0) = m ((c.tc : Thread Cert.XwIdeal.nD Cert.XwIdeal.τ).loc Cert.XwIdeal.main_arg0)
      ∧ r.2.mem ((c.tc : Thread Cert.XwIdeal.nD Cert.XwIdeal.τ).loc Cert.XwIdeal.main_arg1) = m ((c.tc : Thread Cert.XwIdeal.nD Cert.XwIdeal.τ).loc Cert.XwIdeal.main_arg1)
      ∧ r.2.mem ((c.tc : Thread Cert.XwIdeal.nD Cert.XwIdeal.τ).loc Cert.XwIdeal.main_arg2) = m ((c.tc : Thread Cert.XwIdeal.nD Cert.XwIdeal.τ).loc Cert.XwIdeal.main_arg2))
      ∧ r.2.sem = fun _ => 0)

def quiescent_XwRefIdeal [hXwRefIdeal : Cert.XwRefIdeal.Facts] : Prop :=
  ∀ (m : (ℓ : Loc Cert.XwRefIdeal.nD Cert.XwRefIdeal.τ Cert.XwRefIdeal.sig) → Buf (Elt Ideal) ℓ) (g : Dev Cert.XwRefIdeal.nD → PrngReg), Pre_XwRefIdeal m →
    θ_run (Cert.XwRefIdeal.defs (F := Ideal)) (onTc (τ := Cert.XwRefIdeal.τ) (Cert.XwRefIdeal.main (F := Ideal))) ⟨m, fun _ => 0, g⟩ (fun r => (∀ c : Dev Cert.XwRefIdeal.nD,
      r.2.mem ((c.tc : Thread Cert.XwRefIdeal.nD Cert.XwRefIdeal.τ).loc Cert.XwRefIdeal.main_arg0) = m ((c.tc : Thread Cert.XwRefIdeal.nD Cert.XwRefIdeal.τ).loc Cert.XwRefIdeal.main_arg0)
      ∧ r.2.mem ((c.tc : Thread Cert.XwRefIdeal.nD Cert.XwRefIdeal.τ).loc Cert.XwRefIdeal.main_arg1) = m ((c.tc : Thread Cert.XwRefIdeal.nD Cert.XwRefIdeal.τ).loc Cert.XwRefIdeal.main_arg1)
      ∧ r.2.mem ((c.tc : Thread Cert.XwRefIdeal.nD Cert.XwRefIdeal.τ).loc Cert.XwRefIdeal.main_arg2) = m ((c.tc : Thread Cert.XwRefIdeal.nD Cert.XwRefIdeal.τ).loc Cert.XwRefIdeal.main_arg2))
      ∧ r.2.sem = fun _ => 0)

def quiescent_Step1 [hStep1 : Cert.Step1.Facts] : Prop :=
  ∀ (m : (ℓ : Loc Cert.Step1.nD Cert.Step1.τ Cert.Step1.sig) → Buf (Elt Bits) ℓ) (g : Dev Cert.Step1.nD → PrngReg), Pre_Step1 m →
    θ_run (Cert.Step1.defs (F := Bits)) (onTc (τ := Cert.Step1.τ) (Cert.Step1.main (F := Bits))) ⟨m, fun _ => 0, g⟩ (fun r => (∀ c : Dev Cert.Step1.nD,
      r.2.mem ((c.tc : Thread Cert.Step1.nD Cert.Step1.τ).loc Cert.Step1.main_arg0) = m ((c.tc : Thread Cert.Step1.nD Cert.Step1.τ).loc Cert.Step1.main_arg0)
      ∧ r.2.mem ((c.tc : Thread Cert.Step1.nD Cert.Step1.τ).loc Cert.Step1.main_arg1) = m ((c.tc : Thread Cert.Step1.nD Cert.Step1.τ).loc Cert.Step1.main_arg1)
      ∧ r.2.mem ((c.tc : Thread Cert.Step1.nD Cert.Step1.τ).loc Cert.Step1.main_arg2) = m ((c.tc : Thread Cert.Step1.nD Cert.Step1.τ).loc Cert.Step1.main_arg2)
      ∧ r.2.mem ((c.tc : Thread Cert.Step1.nD Cert.Step1.τ).loc Cert.Step1.main_arg3) = m ((c.tc : Thread Cert.Step1.nD Cert.Step1.τ).loc Cert.Step1.main_arg3)
      ∧ r.2.mem ((c.tc : Thread Cert.Step1.nD Cert.Step1.τ).loc Cert.Step1.main_arg4) = m ((c.tc : Thread Cert.Step1.nD Cert.Step1.τ).loc Cert.Step1.main_arg4)
      ∧ r.2.mem ((c.tc : Thread Cert.Step1.nD Cert.Step1.τ).loc Cert.Step1.main_arg5) = m ((c.tc : Thread Cert.Step1.nD Cert.Step1.τ).loc Cert.Step1.main_arg5)
      ∧ r.2.mem ((c.tc : Thread Cert.Step1.nD Cert.Step1.τ).loc Cert.Step1.main_arg6) = m ((c.tc : Thread Cert.Step1.nD Cert.Step1.τ).loc Cert.Step1.main_arg6))
      ∧ r.2.sem = fun _ => 0)

def quiescent_Step1Ideal [hStep1Ideal : Cert.Step1Ideal.Facts] : Prop :=
  ∀ (m : (ℓ : Loc Cert.Step1Ideal.nD Cert.Step1Ideal.τ Cert.Step1Ideal.sig) → Buf (Elt Ideal) ℓ) (g : Dev Cert.Step1Ideal.nD → PrngReg), Pre_Step1Ideal m →
    θ_run (Cert.Step1Ideal.defs (F := Ideal)) (onTc (τ := Cert.Step1Ideal.τ) (Cert.Step1Ideal.main (F := Ideal))) ⟨m, fun _ => 0, g⟩ (fun r => (∀ c : Dev Cert.Step1Ideal.nD,
      r.2.mem ((c.tc : Thread Cert.Step1Ideal.nD Cert.Step1Ideal.τ).loc Cert.Step1Ideal.main_arg0) = m ((c.tc : Thread Cert.Step1Ideal.nD Cert.Step1Ideal.τ).loc Cert.Step1Ideal.main_arg0)
      ∧ r.2.mem ((c.tc : Thread Cert.Step1Ideal.nD Cert.Step1Ideal.τ).loc Cert.Step1Ideal.main_arg1) = m ((c.tc : Thread Cert.Step1Ideal.nD Cert.Step1Ideal.τ).loc Cert.Step1Ideal.main_arg1)
      ∧ r.2.mem ((c.tc : Thread Cert.Step1Ideal.nD Cert.Step1Ideal.τ).loc Cert.Step1Ideal.main_arg2) = m ((c.tc : Thread Cert.Step1Ideal.nD Cert.Step1Ideal.τ).loc Cert.Step1Ideal.main_arg2)
      ∧ r.2.mem ((c.tc : Thread Cert.Step1Ideal.nD Cert.Step1Ideal.τ).loc Cert.Step1Ideal.main_arg3) = m ((c.tc : Thread Cert.Step1Ideal.nD Cert.Step1Ideal.τ).loc Cert.Step1Ideal.main_arg3)
      ∧ r.2.mem ((c.tc : Thread Cert.Step1Ideal.nD Cert.Step1Ideal.τ).loc Cert.Step1Ideal.main_arg4) = m ((c.tc : Thread Cert.Step1Ideal.nD Cert.Step1Ideal.τ).loc Cert.Step1Ideal.main_arg4)
      ∧ r.2.mem ((c.tc : Thread Cert.Step1Ideal.nD Cert.Step1Ideal.τ).loc Cert.Step1Ideal.main_arg5) = m ((c.tc : Thread Cert.Step1Ideal.nD Cert.Step1Ideal.τ).loc Cert.Step1Ideal.main_arg5)
      ∧ r.2.mem ((c.tc : Thread Cert.Step1Ideal.nD Cert.Step1Ideal.τ).loc Cert.Step1Ideal.main_arg6) = m ((c.tc : Thread Cert.Step1Ideal.nD Cert.Step1Ideal.τ).loc Cert.Step1Ideal.main_arg6))
      ∧ r.2.sem = fun _ => 0)

def quiescent_Step1RefIdeal [hStep1RefIdeal : Cert.Step1RefIdeal.Facts] : Prop :=
  ∀ (m : (ℓ : Loc Cert.Step1RefIdeal.nD Cert.Step1RefIdeal.τ Cert.Step1RefIdeal.sig) → Buf (Elt Ideal) ℓ) (g : Dev Cert.Step1RefIdeal.nD → PrngReg), Pre_Step1RefIdeal m →
    θ_run (Cert.Step1RefIdeal.defs (F := Ideal)) (onTc (τ := Cert.Step1RefIdeal.τ) (Cert.Step1RefIdeal.main (F := Ideal))) ⟨m, fun _ => 0, g⟩ (fun r => (∀ c : Dev Cert.Step1RefIdeal.nD,
      r.2.mem ((c.tc : Thread Cert.Step1RefIdeal.nD Cert.Step1RefIdeal.τ).loc Cert.Step1RefIdeal.main_arg0) = m ((c.tc : Thread Cert.Step1RefIdeal.nD Cert.Step1RefIdeal.τ).loc Cert.Step1RefIdeal.main_arg0)
      ∧ r.2.mem ((c.tc : Thread Cert.Step1RefIdeal.nD Cert.Step1RefIdeal.τ).loc Cert.Step1RefIdeal.main_arg1) = m ((c.tc : Thread Cert.Step1RefIdeal.nD Cert.Step1RefIdeal.τ).loc Cert.Step1RefIdeal.main_arg1)
      ∧ r.2.mem ((c.tc : Thread Cert.Step1RefIdeal.nD Cert.Step1RefIdeal.τ).loc Cert.Step1RefIdeal.main_arg2) = m ((c.tc : Thread Cert.Step1RefIdeal.nD Cert.Step1RefIdeal.τ).loc Cert.Step1RefIdeal.main_arg2)
      ∧ r.2.mem ((c.tc : Thread Cert.Step1RefIdeal.nD Cert.Step1RefIdeal.τ).loc Cert.Step1RefIdeal.main_arg3) = m ((c.tc : Thread Cert.Step1RefIdeal.nD Cert.Step1RefIdeal.τ).loc Cert.Step1RefIdeal.main_arg3)
      ∧ r.2.mem ((c.tc : Thread Cert.Step1RefIdeal.nD Cert.Step1RefIdeal.τ).loc Cert.Step1RefIdeal.main_arg4) = m ((c.tc : Thread Cert.Step1RefIdeal.nD Cert.Step1RefIdeal.τ).loc Cert.Step1RefIdeal.main_arg4)
      ∧ r.2.mem ((c.tc : Thread Cert.Step1RefIdeal.nD Cert.Step1RefIdeal.τ).loc Cert.Step1RefIdeal.main_arg5) = m ((c.tc : Thread Cert.Step1RefIdeal.nD Cert.Step1RefIdeal.τ).loc Cert.Step1RefIdeal.main_arg5)
      ∧ r.2.mem ((c.tc : Thread Cert.Step1RefIdeal.nD Cert.Step1RefIdeal.τ).loc Cert.Step1RefIdeal.main_arg6) = m ((c.tc : Thread Cert.Step1RefIdeal.nD Cert.Step1RefIdeal.τ).loc Cert.Step1RefIdeal.main_arg6))
      ∧ r.2.sem = fun _ => 0)

def quiescent_Step2 [hStep2 : Cert.Step2.Facts] : Prop :=
  ∀ (m : (ℓ : Loc Cert.Step2.nD Cert.Step2.τ Cert.Step2.sig) → Buf (Elt Bits) ℓ) (g : Dev Cert.Step2.nD → PrngReg), Pre_Step2 m →
    θ_run (Cert.Step2.defs (F := Bits)) (onTc (τ := Cert.Step2.τ) (Cert.Step2.main (F := Bits))) ⟨m, fun _ => 0, g⟩ (fun r => (∀ c : Dev Cert.Step2.nD,
      r.2.mem ((c.tc : Thread Cert.Step2.nD Cert.Step2.τ).loc Cert.Step2.main_arg0) = m ((c.tc : Thread Cert.Step2.nD Cert.Step2.τ).loc Cert.Step2.main_arg0)
      ∧ r.2.mem ((c.tc : Thread Cert.Step2.nD Cert.Step2.τ).loc Cert.Step2.main_arg1) = m ((c.tc : Thread Cert.Step2.nD Cert.Step2.τ).loc Cert.Step2.main_arg1)
      ∧ r.2.mem ((c.tc : Thread Cert.Step2.nD Cert.Step2.τ).loc Cert.Step2.main_arg2) = m ((c.tc : Thread Cert.Step2.nD Cert.Step2.τ).loc Cert.Step2.main_arg2)
      ∧ r.2.mem ((c.tc : Thread Cert.Step2.nD Cert.Step2.τ).loc Cert.Step2.main_arg3) = m ((c.tc : Thread Cert.Step2.nD Cert.Step2.τ).loc Cert.Step2.main_arg3)
      ∧ r.2.mem ((c.tc : Thread Cert.Step2.nD Cert.Step2.τ).loc Cert.Step2.main_arg4) = m ((c.tc : Thread Cert.Step2.nD Cert.Step2.τ).loc Cert.Step2.main_arg4)
      ∧ r.2.mem ((c.tc : Thread Cert.Step2.nD Cert.Step2.τ).loc Cert.Step2.main_arg5) = m ((c.tc : Thread Cert.Step2.nD Cert.Step2.τ).loc Cert.Step2.main_arg5)
      ∧ r.2.mem ((c.tc : Thread Cert.Step2.nD Cert.Step2.τ).loc Cert.Step2.main_arg6) = m ((c.tc : Thread Cert.Step2.nD Cert.Step2.τ).loc Cert.Step2.main_arg6))
      ∧ r.2.sem = fun _ => 0)

def quiescent_Step2Ideal [hStep2Ideal : Cert.Step2Ideal.Facts] : Prop :=
  ∀ (m : (ℓ : Loc Cert.Step2Ideal.nD Cert.Step2Ideal.τ Cert.Step2Ideal.sig) → Buf (Elt Ideal) ℓ) (g : Dev Cert.Step2Ideal.nD → PrngReg), Pre_Step2Ideal m →
    θ_run (Cert.Step2Ideal.defs (F := Ideal)) (onTc (τ := Cert.Step2Ideal.τ) (Cert.Step2Ideal.main (F := Ideal))) ⟨m, fun _ => 0, g⟩ (fun r => (∀ c : Dev Cert.Step2Ideal.nD,
      r.2.mem ((c.tc : Thread Cert.Step2Ideal.nD Cert.Step2Ideal.τ).loc Cert.Step2Ideal.main_arg0) = m ((c.tc : Thread Cert.Step2Ideal.nD Cert.Step2Ideal.τ).loc Cert.Step2Ideal.main_arg0)
      ∧ r.2.mem ((c.tc : Thread Cert.Step2Ideal.nD Cert.Step2Ideal.τ).loc Cert.Step2Ideal.main_arg1) = m ((c.tc : Thread Cert.Step2Ideal.nD Cert.Step2Ideal.τ).loc Cert.Step2Ideal.main_arg1)
      ∧ r.2.mem ((c.tc : Thread Cert.Step2Ideal.nD Cert.Step2Ideal.τ).loc Cert.Step2Ideal.main_arg2) = m ((c.tc : Thread Cert.Step2Ideal.nD Cert.Step2Ideal.τ).loc Cert.Step2Ideal.main_arg2)
      ∧ r.2.mem ((c.tc : Thread Cert.Step2Ideal.nD Cert.Step2Ideal.τ).loc Cert.Step2Ideal.main_arg3) = m ((c.tc : Thread Cert.Step2Ideal.nD Cert.Step2Ideal.τ).loc Cert.Step2Ideal.main_arg3)
      ∧ r.2.mem ((c.tc : Thread Cert.Step2Ideal.nD Cert.Step2Ideal.τ).loc Cert.Step2Ideal.main_arg4) = m ((c.tc : Thread Cert.Step2Ideal.nD Cert.Step2Ideal.τ).loc Cert.Step2Ideal.main_arg4)
      ∧ r.2.mem ((c.tc : Thread Cert.Step2Ideal.nD Cert.Step2Ideal.τ).loc Cert.Step2Ideal.main_arg5) = m ((c.tc : Thread Cert.Step2Ideal.nD Cert.Step2Ideal.τ).loc Cert.Step2Ideal.main_arg5)
      ∧ r.2.mem ((c.tc : Thread Cert.Step2Ideal.nD Cert.Step2Ideal.τ).loc Cert.Step2Ideal.main_arg6) = m ((c.tc : Thread Cert.Step2Ideal.nD Cert.Step2Ideal.τ).loc Cert.Step2Ideal.main_arg6))
      ∧ r.2.sem = fun _ => 0)

def quiescent_Step2RefIdeal [hStep2RefIdeal : Cert.Step2RefIdeal.Facts] : Prop :=
  ∀ (m : (ℓ : Loc Cert.Step2RefIdeal.nD Cert.Step2RefIdeal.τ Cert.Step2RefIdeal.sig) → Buf (Elt Ideal) ℓ) (g : Dev Cert.Step2RefIdeal.nD → PrngReg), Pre_Step2RefIdeal m →
    θ_run (Cert.Step2RefIdeal.defs (F := Ideal)) (onTc (τ := Cert.Step2RefIdeal.τ) (Cert.Step2RefIdeal.main (F := Ideal))) ⟨m, fun _ => 0, g⟩ (fun r => (∀ c : Dev Cert.Step2RefIdeal.nD,
      r.2.mem ((c.tc : Thread Cert.Step2RefIdeal.nD Cert.Step2RefIdeal.τ).loc Cert.Step2RefIdeal.main_arg0) = m ((c.tc : Thread Cert.Step2RefIdeal.nD Cert.Step2RefIdeal.τ).loc Cert.Step2RefIdeal.main_arg0)
      ∧ r.2.mem ((c.tc : Thread Cert.Step2RefIdeal.nD Cert.Step2RefIdeal.τ).loc Cert.Step2RefIdeal.main_arg1) = m ((c.tc : Thread Cert.Step2RefIdeal.nD Cert.Step2RefIdeal.τ).loc Cert.Step2RefIdeal.main_arg1)
      ∧ r.2.mem ((c.tc : Thread Cert.Step2RefIdeal.nD Cert.Step2RefIdeal.τ).loc Cert.Step2RefIdeal.main_arg2) = m ((c.tc : Thread Cert.Step2RefIdeal.nD Cert.Step2RefIdeal.τ).loc Cert.Step2RefIdeal.main_arg2)
      ∧ r.2.mem ((c.tc : Thread Cert.Step2RefIdeal.nD Cert.Step2RefIdeal.τ).loc Cert.Step2RefIdeal.main_arg3) = m ((c.tc : Thread Cert.Step2RefIdeal.nD Cert.Step2RefIdeal.τ).loc Cert.Step2RefIdeal.main_arg3)
      ∧ r.2.mem ((c.tc : Thread Cert.Step2RefIdeal.nD Cert.Step2RefIdeal.τ).loc Cert.Step2RefIdeal.main_arg4) = m ((c.tc : Thread Cert.Step2RefIdeal.nD Cert.Step2RefIdeal.τ).loc Cert.Step2RefIdeal.main_arg4)
      ∧ r.2.mem ((c.tc : Thread Cert.Step2RefIdeal.nD Cert.Step2RefIdeal.τ).loc Cert.Step2RefIdeal.main_arg5) = m ((c.tc : Thread Cert.Step2RefIdeal.nD Cert.Step2RefIdeal.τ).loc Cert.Step2RefIdeal.main_arg5)
      ∧ r.2.mem ((c.tc : Thread Cert.Step2RefIdeal.nD Cert.Step2RefIdeal.τ).loc Cert.Step2RefIdeal.main_arg6) = m ((c.tc : Thread Cert.Step2RefIdeal.nD Cert.Step2RefIdeal.τ).loc Cert.Step2RefIdeal.main_arg6))
      ∧ r.2.sem = fun _ => 0)

def quiescent_Step3 [hStep3 : Cert.Step3.Facts] : Prop :=
  ∀ (m : (ℓ : Loc Cert.Step3.nD Cert.Step3.τ Cert.Step3.sig) → Buf (Elt Bits) ℓ) (g : Dev Cert.Step3.nD → PrngReg), Pre_Step3 m →
    θ_run (Cert.Step3.defs (F := Bits)) (onTc (τ := Cert.Step3.τ) (Cert.Step3.main (F := Bits))) ⟨m, fun _ => 0, g⟩ (fun r => (∀ c : Dev Cert.Step3.nD,
      r.2.mem ((c.tc : Thread Cert.Step3.nD Cert.Step3.τ).loc Cert.Step3.main_arg0) = m ((c.tc : Thread Cert.Step3.nD Cert.Step3.τ).loc Cert.Step3.main_arg0)
      ∧ r.2.mem ((c.tc : Thread Cert.Step3.nD Cert.Step3.τ).loc Cert.Step3.main_arg1) = m ((c.tc : Thread Cert.Step3.nD Cert.Step3.τ).loc Cert.Step3.main_arg1)
      ∧ r.2.mem ((c.tc : Thread Cert.Step3.nD Cert.Step3.τ).loc Cert.Step3.main_arg2) = m ((c.tc : Thread Cert.Step3.nD Cert.Step3.τ).loc Cert.Step3.main_arg2)
      ∧ r.2.mem ((c.tc : Thread Cert.Step3.nD Cert.Step3.τ).loc Cert.Step3.main_arg3) = m ((c.tc : Thread Cert.Step3.nD Cert.Step3.τ).loc Cert.Step3.main_arg3)
      ∧ r.2.mem ((c.tc : Thread Cert.Step3.nD Cert.Step3.τ).loc Cert.Step3.main_arg4) = m ((c.tc : Thread Cert.Step3.nD Cert.Step3.τ).loc Cert.Step3.main_arg4)
      ∧ r.2.mem ((c.tc : Thread Cert.Step3.nD Cert.Step3.τ).loc Cert.Step3.main_arg5) = m ((c.tc : Thread Cert.Step3.nD Cert.Step3.τ).loc Cert.Step3.main_arg5)
      ∧ r.2.mem ((c.tc : Thread Cert.Step3.nD Cert.Step3.τ).loc Cert.Step3.main_arg6) = m ((c.tc : Thread Cert.Step3.nD Cert.Step3.τ).loc Cert.Step3.main_arg6))
      ∧ r.2.sem = fun _ => 0)

def quiescent_Step3Ideal [hStep3Ideal : Cert.Step3Ideal.Facts] : Prop :=
  ∀ (m : (ℓ : Loc Cert.Step3Ideal.nD Cert.Step3Ideal.τ Cert.Step3Ideal.sig) → Buf (Elt Ideal) ℓ) (g : Dev Cert.Step3Ideal.nD → PrngReg), Pre_Step3Ideal m →
    θ_run (Cert.Step3Ideal.defs (F := Ideal)) (onTc (τ := Cert.Step3Ideal.τ) (Cert.Step3Ideal.main (F := Ideal))) ⟨m, fun _ => 0, g⟩ (fun r => (∀ c : Dev Cert.Step3Ideal.nD,
      r.2.mem ((c.tc : Thread Cert.Step3Ideal.nD Cert.Step3Ideal.τ).loc Cert.Step3Ideal.main_arg0) = m ((c.tc : Thread Cert.Step3Ideal.nD Cert.Step3Ideal.τ).loc Cert.Step3Ideal.main_arg0)
      ∧ r.2.mem ((c.tc : Thread Cert.Step3Ideal.nD Cert.Step3Ideal.τ).loc Cert.Step3Ideal.main_arg1) = m ((c.tc : Thread Cert.Step3Ideal.nD Cert.Step3Ideal.τ).loc Cert.Step3Ideal.main_arg1)
      ∧ r.2.mem ((c.tc : Thread Cert.Step3Ideal.nD Cert.Step3Ideal.τ).loc Cert.Step3Ideal.main_arg2) = m ((c.tc : Thread Cert.Step3Ideal.nD Cert.Step3Ideal.τ).loc Cert.Step3Ideal.main_arg2)
      ∧ r.2.mem ((c.tc : Thread Cert.Step3Ideal.nD Cert.Step3Ideal.τ).loc Cert.Step3Ideal.main_arg3) = m ((c.tc : Thread Cert.Step3Ideal.nD Cert.Step3Ideal.τ).loc Cert.Step3Ideal.main_arg3)
      ∧ r.2.mem ((c.tc : Thread Cert.Step3Ideal.nD Cert.Step3Ideal.τ).loc Cert.Step3Ideal.main_arg4) = m ((c.tc : Thread Cert.Step3Ideal.nD Cert.Step3Ideal.τ).loc Cert.Step3Ideal.main_arg4)
      ∧ r.2.mem ((c.tc : Thread Cert.Step3Ideal.nD Cert.Step3Ideal.τ).loc Cert.Step3Ideal.main_arg5) = m ((c.tc : Thread Cert.Step3Ideal.nD Cert.Step3Ideal.τ).loc Cert.Step3Ideal.main_arg5)
      ∧ r.2.mem ((c.tc : Thread Cert.Step3Ideal.nD Cert.Step3Ideal.τ).loc Cert.Step3Ideal.main_arg6) = m ((c.tc : Thread Cert.Step3Ideal.nD Cert.Step3Ideal.τ).loc Cert.Step3Ideal.main_arg6))
      ∧ r.2.sem = fun _ => 0)

def quiescent_Step3RefIdeal [hStep3RefIdeal : Cert.Step3RefIdeal.Facts] : Prop :=
  ∀ (m : (ℓ : Loc Cert.Step3RefIdeal.nD Cert.Step3RefIdeal.τ Cert.Step3RefIdeal.sig) → Buf (Elt Ideal) ℓ) (g : Dev Cert.Step3RefIdeal.nD → PrngReg), Pre_Step3RefIdeal m →
    θ_run (Cert.Step3RefIdeal.defs (F := Ideal)) (onTc (τ := Cert.Step3RefIdeal.τ) (Cert.Step3RefIdeal.main (F := Ideal))) ⟨m, fun _ => 0, g⟩ (fun r => (∀ c : Dev Cert.Step3RefIdeal.nD,
      r.2.mem ((c.tc : Thread Cert.Step3RefIdeal.nD Cert.Step3RefIdeal.τ).loc Cert.Step3RefIdeal.main_arg0) = m ((c.tc : Thread Cert.Step3RefIdeal.nD Cert.Step3RefIdeal.τ).loc Cert.Step3RefIdeal.main_arg0)
      ∧ r.2.mem ((c.tc : Thread Cert.Step3RefIdeal.nD Cert.Step3RefIdeal.τ).loc Cert.Step3RefIdeal.main_arg1) = m ((c.tc : Thread Cert.Step3RefIdeal.nD Cert.Step3RefIdeal.τ).loc Cert.Step3RefIdeal.main_arg1)
      ∧ r.2.mem ((c.tc : Thread Cert.Step3RefIdeal.nD Cert.Step3RefIdeal.τ).loc Cert.Step3RefIdeal.main_arg2) = m ((c.tc : Thread Cert.Step3RefIdeal.nD Cert.Step3RefIdeal.τ).loc Cert.Step3RefIdeal.main_arg2)
      ∧ r.2.mem ((c.tc : Thread Cert.Step3RefIdeal.nD Cert.Step3RefIdeal.τ).loc Cert.Step3RefIdeal.main_arg3) = m ((c.tc : Thread Cert.Step3RefIdeal.nD Cert.Step3RefIdeal.τ).loc Cert.Step3RefIdeal.main_arg3)
      ∧ r.2.mem ((c.tc : Thread Cert.Step3RefIdeal.nD Cert.Step3RefIdeal.τ).loc Cert.Step3RefIdeal.main_arg4) = m ((c.tc : Thread Cert.Step3RefIdeal.nD Cert.Step3RefIdeal.τ).loc Cert.Step3RefIdeal.main_arg4)
      ∧ r.2.mem ((c.tc : Thread Cert.Step3RefIdeal.nD Cert.Step3RefIdeal.τ).loc Cert.Step3RefIdeal.main_arg5) = m ((c.tc : Thread Cert.Step3RefIdeal.nD Cert.Step3RefIdeal.τ).loc Cert.Step3RefIdeal.main_arg5)
      ∧ r.2.mem ((c.tc : Thread Cert.Step3RefIdeal.nD Cert.Step3RefIdeal.τ).loc Cert.Step3RefIdeal.main_arg6) = m ((c.tc : Thread Cert.Step3RefIdeal.nD Cert.Step3RefIdeal.τ).loc Cert.Step3RefIdeal.main_arg6))
      ∧ r.2.sem = fun _ => 0)

def quiescent_Step4 [hStep4 : Cert.Step4.Facts] : Prop :=
  ∀ (m : (ℓ : Loc Cert.Step4.nD Cert.Step4.τ Cert.Step4.sig) → Buf (Elt Bits) ℓ) (g : Dev Cert.Step4.nD → PrngReg), Pre_Step4 m →
    θ_run (Cert.Step4.defs (F := Bits)) (onTc (τ := Cert.Step4.τ) (Cert.Step4.main (F := Bits))) ⟨m, fun _ => 0, g⟩ (fun r => (∀ c : Dev Cert.Step4.nD,
      r.2.mem ((c.tc : Thread Cert.Step4.nD Cert.Step4.τ).loc Cert.Step4.main_arg0) = m ((c.tc : Thread Cert.Step4.nD Cert.Step4.τ).loc Cert.Step4.main_arg0)
      ∧ r.2.mem ((c.tc : Thread Cert.Step4.nD Cert.Step4.τ).loc Cert.Step4.main_arg1) = m ((c.tc : Thread Cert.Step4.nD Cert.Step4.τ).loc Cert.Step4.main_arg1)
      ∧ r.2.mem ((c.tc : Thread Cert.Step4.nD Cert.Step4.τ).loc Cert.Step4.main_arg2) = m ((c.tc : Thread Cert.Step4.nD Cert.Step4.τ).loc Cert.Step4.main_arg2)
      ∧ r.2.mem ((c.tc : Thread Cert.Step4.nD Cert.Step4.τ).loc Cert.Step4.main_arg3) = m ((c.tc : Thread Cert.Step4.nD Cert.Step4.τ).loc Cert.Step4.main_arg3)
      ∧ r.2.mem ((c.tc : Thread Cert.Step4.nD Cert.Step4.τ).loc Cert.Step4.main_arg4) = m ((c.tc : Thread Cert.Step4.nD Cert.Step4.τ).loc Cert.Step4.main_arg4)
      ∧ r.2.mem ((c.tc : Thread Cert.Step4.nD Cert.Step4.τ).loc Cert.Step4.main_arg5) = m ((c.tc : Thread Cert.Step4.nD Cert.Step4.τ).loc Cert.Step4.main_arg5)
      ∧ r.2.mem ((c.tc : Thread Cert.Step4.nD Cert.Step4.τ).loc Cert.Step4.main_arg6) = m ((c.tc : Thread Cert.Step4.nD Cert.Step4.τ).loc Cert.Step4.main_arg6))
      ∧ r.2.sem = fun _ => 0)

def quiescent_Step4Ideal [hStep4Ideal : Cert.Step4Ideal.Facts] : Prop :=
  ∀ (m : (ℓ : Loc Cert.Step4Ideal.nD Cert.Step4Ideal.τ Cert.Step4Ideal.sig) → Buf (Elt Ideal) ℓ) (g : Dev Cert.Step4Ideal.nD → PrngReg), Pre_Step4Ideal m →
    θ_run (Cert.Step4Ideal.defs (F := Ideal)) (onTc (τ := Cert.Step4Ideal.τ) (Cert.Step4Ideal.main (F := Ideal))) ⟨m, fun _ => 0, g⟩ (fun r => (∀ c : Dev Cert.Step4Ideal.nD,
      r.2.mem ((c.tc : Thread Cert.Step4Ideal.nD Cert.Step4Ideal.τ).loc Cert.Step4Ideal.main_arg0) = m ((c.tc : Thread Cert.Step4Ideal.nD Cert.Step4Ideal.τ).loc Cert.Step4Ideal.main_arg0)
      ∧ r.2.mem ((c.tc : Thread Cert.Step4Ideal.nD Cert.Step4Ideal.τ).loc Cert.Step4Ideal.main_arg1) = m ((c.tc : Thread Cert.Step4Ideal.nD Cert.Step4Ideal.τ).loc Cert.Step4Ideal.main_arg1)
      ∧ r.2.mem ((c.tc : Thread Cert.Step4Ideal.nD Cert.Step4Ideal.τ).loc Cert.Step4Ideal.main_arg2) = m ((c.tc : Thread Cert.Step4Ideal.nD Cert.Step4Ideal.τ).loc Cert.Step4Ideal.main_arg2)
      ∧ r.2.mem ((c.tc : Thread Cert.Step4Ideal.nD Cert.Step4Ideal.τ).loc Cert.Step4Ideal.main_arg3) = m ((c.tc : Thread Cert.Step4Ideal.nD Cert.Step4Ideal.τ).loc Cert.Step4Ideal.main_arg3)
      ∧ r.2.mem ((c.tc : Thread Cert.Step4Ideal.nD Cert.Step4Ideal.τ).loc Cert.Step4Ideal.main_arg4) = m ((c.tc : Thread Cert.Step4Ideal.nD Cert.Step4Ideal.τ).loc Cert.Step4Ideal.main_arg4)
      ∧ r.2.mem ((c.tc : Thread Cert.Step4Ideal.nD Cert.Step4Ideal.τ).loc Cert.Step4Ideal.main_arg5) = m ((c.tc : Thread Cert.Step4Ideal.nD Cert.Step4Ideal.τ).loc Cert.Step4Ideal.main_arg5)
      ∧ r.2.mem ((c.tc : Thread Cert.Step4Ideal.nD Cert.Step4Ideal.τ).loc Cert.Step4Ideal.main_arg6) = m ((c.tc : Thread Cert.Step4Ideal.nD Cert.Step4Ideal.τ).loc Cert.Step4Ideal.main_arg6))
      ∧ r.2.sem = fun _ => 0)

def quiescent_Step4RefIdeal [hStep4RefIdeal : Cert.Step4RefIdeal.Facts] : Prop :=
  ∀ (m : (ℓ : Loc Cert.Step4RefIdeal.nD Cert.Step4RefIdeal.τ Cert.Step4RefIdeal.sig) → Buf (Elt Ideal) ℓ) (g : Dev Cert.Step4RefIdeal.nD → PrngReg), Pre_Step4RefIdeal m →
    θ_run (Cert.Step4RefIdeal.defs (F := Ideal)) (onTc (τ := Cert.Step4RefIdeal.τ) (Cert.Step4RefIdeal.main (F := Ideal))) ⟨m, fun _ => 0, g⟩ (fun r => (∀ c : Dev Cert.Step4RefIdeal.nD,
      r.2.mem ((c.tc : Thread Cert.Step4RefIdeal.nD Cert.Step4RefIdeal.τ).loc Cert.Step4RefIdeal.main_arg0) = m ((c.tc : Thread Cert.Step4RefIdeal.nD Cert.Step4RefIdeal.τ).loc Cert.Step4RefIdeal.main_arg0)
      ∧ r.2.mem ((c.tc : Thread Cert.Step4RefIdeal.nD Cert.Step4RefIdeal.τ).loc Cert.Step4RefIdeal.main_arg1) = m ((c.tc : Thread Cert.Step4RefIdeal.nD Cert.Step4RefIdeal.τ).loc Cert.Step4RefIdeal.main_arg1)
      ∧ r.2.mem ((c.tc : Thread Cert.Step4RefIdeal.nD Cert.Step4RefIdeal.τ).loc Cert.Step4RefIdeal.main_arg2) = m ((c.tc : Thread Cert.Step4RefIdeal.nD Cert.Step4RefIdeal.τ).loc Cert.Step4RefIdeal.main_arg2)
      ∧ r.2.mem ((c.tc : Thread Cert.Step4RefIdeal.nD Cert.Step4RefIdeal.τ).loc Cert.Step4RefIdeal.main_arg3) = m ((c.tc : Thread Cert.Step4RefIdeal.nD Cert.Step4RefIdeal.τ).loc Cert.Step4RefIdeal.main_arg3)
      ∧ r.2.mem ((c.tc : Thread Cert.Step4RefIdeal.nD Cert.Step4RefIdeal.τ).loc Cert.Step4RefIdeal.main_arg4) = m ((c.tc : Thread Cert.Step4RefIdeal.nD Cert.Step4RefIdeal.τ).loc Cert.Step4RefIdeal.main_arg4)
      ∧ r.2.mem ((c.tc : Thread Cert.Step4RefIdeal.nD Cert.Step4RefIdeal.τ).loc Cert.Step4RefIdeal.main_arg5) = m ((c.tc : Thread Cert.Step4RefIdeal.nD Cert.Step4RefIdeal.τ).loc Cert.Step4RefIdeal.main_arg5)
      ∧ r.2.mem ((c.tc : Thread Cert.Step4RefIdeal.nD Cert.Step4RefIdeal.τ).loc Cert.Step4RefIdeal.main_arg6) = m ((c.tc : Thread Cert.Step4RefIdeal.nD Cert.Step4RefIdeal.τ).loc Cert.Step4RefIdeal.main_arg6))
      ∧ r.2.sem = fun _ => 0)

def quiescent_Step5 [hStep5 : Cert.Step5.Facts] : Prop :=
  ∀ (m : (ℓ : Loc Cert.Step5.nD Cert.Step5.τ Cert.Step5.sig) → Buf (Elt Bits) ℓ) (g : Dev Cert.Step5.nD → PrngReg), Pre_Step5 m →
    θ_run (Cert.Step5.defs (F := Bits)) (onTc (τ := Cert.Step5.τ) (Cert.Step5.main (F := Bits))) ⟨m, fun _ => 0, g⟩ (fun r => (∀ c : Dev Cert.Step5.nD,
      r.2.mem ((c.tc : Thread Cert.Step5.nD Cert.Step5.τ).loc Cert.Step5.main_arg0) = m ((c.tc : Thread Cert.Step5.nD Cert.Step5.τ).loc Cert.Step5.main_arg0)
      ∧ r.2.mem ((c.tc : Thread Cert.Step5.nD Cert.Step5.τ).loc Cert.Step5.main_arg1) = m ((c.tc : Thread Cert.Step5.nD Cert.Step5.τ).loc Cert.Step5.main_arg1)
      ∧ r.2.mem ((c.tc : Thread Cert.Step5.nD Cert.Step5.τ).loc Cert.Step5.main_arg2) = m ((c.tc : Thread Cert.Step5.nD Cert.Step5.τ).loc Cert.Step5.main_arg2)
      ∧ r.2.mem ((c.tc : Thread Cert.Step5.nD Cert.Step5.τ).loc Cert.Step5.main_arg3) = m ((c.tc : Thread Cert.Step5.nD Cert.Step5.τ).loc Cert.Step5.main_arg3)
      ∧ r.2.mem ((c.tc : Thread Cert.Step5.nD Cert.Step5.τ).loc Cert.Step5.main_arg4) = m ((c.tc : Thread Cert.Step5.nD Cert.Step5.τ).loc Cert.Step5.main_arg4)
      ∧ r.2.mem ((c.tc : Thread Cert.Step5.nD Cert.Step5.τ).loc Cert.Step5.main_arg5) = m ((c.tc : Thread Cert.Step5.nD Cert.Step5.τ).loc Cert.Step5.main_arg5)
      ∧ r.2.mem ((c.tc : Thread Cert.Step5.nD Cert.Step5.τ).loc Cert.Step5.main_arg6) = m ((c.tc : Thread Cert.Step5.nD Cert.Step5.τ).loc Cert.Step5.main_arg6))
      ∧ r.2.sem = fun _ => 0)

def quiescent_Step5Ideal [hStep5Ideal : Cert.Step5Ideal.Facts] : Prop :=
  ∀ (m : (ℓ : Loc Cert.Step5Ideal.nD Cert.Step5Ideal.τ Cert.Step5Ideal.sig) → Buf (Elt Ideal) ℓ) (g : Dev Cert.Step5Ideal.nD → PrngReg), Pre_Step5Ideal m →
    θ_run (Cert.Step5Ideal.defs (F := Ideal)) (onTc (τ := Cert.Step5Ideal.τ) (Cert.Step5Ideal.main (F := Ideal))) ⟨m, fun _ => 0, g⟩ (fun r => (∀ c : Dev Cert.Step5Ideal.nD,
      r.2.mem ((c.tc : Thread Cert.Step5Ideal.nD Cert.Step5Ideal.τ).loc Cert.Step5Ideal.main_arg0) = m ((c.tc : Thread Cert.Step5Ideal.nD Cert.Step5Ideal.τ).loc Cert.Step5Ideal.main_arg0)
      ∧ r.2.mem ((c.tc : Thread Cert.Step5Ideal.nD Cert.Step5Ideal.τ).loc Cert.Step5Ideal.main_arg1) = m ((c.tc : Thread Cert.Step5Ideal.nD Cert.Step5Ideal.τ).loc Cert.Step5Ideal.main_arg1)
      ∧ r.2.mem ((c.tc : Thread Cert.Step5Ideal.nD Cert.Step5Ideal.τ).loc Cert.Step5Ideal.main_arg2) = m ((c.tc : Thread Cert.Step5Ideal.nD Cert.Step5Ideal.τ).loc Cert.Step5Ideal.main_arg2)
      ∧ r.2.mem ((c.tc : Thread Cert.Step5Ideal.nD Cert.Step5Ideal.τ).loc Cert.Step5Ideal.main_arg3) = m ((c.tc : Thread Cert.Step5Ideal.nD Cert.Step5Ideal.τ).loc Cert.Step5Ideal.main_arg3)
      ∧ r.2.mem ((c.tc : Thread Cert.Step5Ideal.nD Cert.Step5Ideal.τ).loc Cert.Step5Ideal.main_arg4) = m ((c.tc : Thread Cert.Step5Ideal.nD Cert.Step5Ideal.τ).loc Cert.Step5Ideal.main_arg4)
      ∧ r.2.mem ((c.tc : Thread Cert.Step5Ideal.nD Cert.Step5Ideal.τ).loc Cert.Step5Ideal.main_arg5) = m ((c.tc : Thread Cert.Step5Ideal.nD Cert.Step5Ideal.τ).loc Cert.Step5Ideal.main_arg5)
      ∧ r.2.mem ((c.tc : Thread Cert.Step5Ideal.nD Cert.Step5Ideal.τ).loc Cert.Step5Ideal.main_arg6) = m ((c.tc : Thread Cert.Step5Ideal.nD Cert.Step5Ideal.τ).loc Cert.Step5Ideal.main_arg6))
      ∧ r.2.sem = fun _ => 0)

def quiescent_Step5RefIdeal [hStep5RefIdeal : Cert.Step5RefIdeal.Facts] : Prop :=
  ∀ (m : (ℓ : Loc Cert.Step5RefIdeal.nD Cert.Step5RefIdeal.τ Cert.Step5RefIdeal.sig) → Buf (Elt Ideal) ℓ) (g : Dev Cert.Step5RefIdeal.nD → PrngReg), Pre_Step5RefIdeal m →
    θ_run (Cert.Step5RefIdeal.defs (F := Ideal)) (onTc (τ := Cert.Step5RefIdeal.τ) (Cert.Step5RefIdeal.main (F := Ideal))) ⟨m, fun _ => 0, g⟩ (fun r => (∀ c : Dev Cert.Step5RefIdeal.nD,
      r.2.mem ((c.tc : Thread Cert.Step5RefIdeal.nD Cert.Step5RefIdeal.τ).loc Cert.Step5RefIdeal.main_arg0) = m ((c.tc : Thread Cert.Step5RefIdeal.nD Cert.Step5RefIdeal.τ).loc Cert.Step5RefIdeal.main_arg0)
      ∧ r.2.mem ((c.tc : Thread Cert.Step5RefIdeal.nD Cert.Step5RefIdeal.τ).loc Cert.Step5RefIdeal.main_arg1) = m ((c.tc : Thread Cert.Step5RefIdeal.nD Cert.Step5RefIdeal.τ).loc Cert.Step5RefIdeal.main_arg1)
      ∧ r.2.mem ((c.tc : Thread Cert.Step5RefIdeal.nD Cert.Step5RefIdeal.τ).loc Cert.Step5RefIdeal.main_arg2) = m ((c.tc : Thread Cert.Step5RefIdeal.nD Cert.Step5RefIdeal.τ).loc Cert.Step5RefIdeal.main_arg2)
      ∧ r.2.mem ((c.tc : Thread Cert.Step5RefIdeal.nD Cert.Step5RefIdeal.τ).loc Cert.Step5RefIdeal.main_arg3) = m ((c.tc : Thread Cert.Step5RefIdeal.nD Cert.Step5RefIdeal.τ).loc Cert.Step5RefIdeal.main_arg3)
      ∧ r.2.mem ((c.tc : Thread Cert.Step5RefIdeal.nD Cert.Step5RefIdeal.τ).loc Cert.Step5RefIdeal.main_arg4) = m ((c.tc : Thread Cert.Step5RefIdeal.nD Cert.Step5RefIdeal.τ).loc Cert.Step5RefIdeal.main_arg4)
      ∧ r.2.mem ((c.tc : Thread Cert.Step5RefIdeal.nD Cert.Step5RefIdeal.τ).loc Cert.Step5RefIdeal.main_arg5) = m ((c.tc : Thread Cert.Step5RefIdeal.nD Cert.Step5RefIdeal.τ).loc Cert.Step5RefIdeal.main_arg5)
      ∧ r.2.mem ((c.tc : Thread Cert.Step5RefIdeal.nD Cert.Step5RefIdeal.τ).loc Cert.Step5RefIdeal.main_arg6) = m ((c.tc : Thread Cert.Step5RefIdeal.nD Cert.Step5RefIdeal.τ).loc Cert.Step5RefIdeal.main_arg6))
      ∧ r.2.sem = fun _ => 0)

def quiescent_Step6 [hStep6 : Cert.Step6.Facts] : Prop :=
  ∀ (m : (ℓ : Loc Cert.Step6.nD Cert.Step6.τ Cert.Step6.sig) → Buf (Elt Bits) ℓ) (g : Dev Cert.Step6.nD → PrngReg), Pre_Step6 m →
    θ_run (Cert.Step6.defs (F := Bits)) (onTc (τ := Cert.Step6.τ) (Cert.Step6.main (F := Bits))) ⟨m, fun _ => 0, g⟩ (fun r => (∀ c : Dev Cert.Step6.nD,
      r.2.mem ((c.tc : Thread Cert.Step6.nD Cert.Step6.τ).loc Cert.Step6.main_arg0) = m ((c.tc : Thread Cert.Step6.nD Cert.Step6.τ).loc Cert.Step6.main_arg0)
      ∧ r.2.mem ((c.tc : Thread Cert.Step6.nD Cert.Step6.τ).loc Cert.Step6.main_arg1) = m ((c.tc : Thread Cert.Step6.nD Cert.Step6.τ).loc Cert.Step6.main_arg1)
      ∧ r.2.mem ((c.tc : Thread Cert.Step6.nD Cert.Step6.τ).loc Cert.Step6.main_arg2) = m ((c.tc : Thread Cert.Step6.nD Cert.Step6.τ).loc Cert.Step6.main_arg2)
      ∧ r.2.mem ((c.tc : Thread Cert.Step6.nD Cert.Step6.τ).loc Cert.Step6.main_arg3) = m ((c.tc : Thread Cert.Step6.nD Cert.Step6.τ).loc Cert.Step6.main_arg3)
      ∧ r.2.mem ((c.tc : Thread Cert.Step6.nD Cert.Step6.τ).loc Cert.Step6.main_arg4) = m ((c.tc : Thread Cert.Step6.nD Cert.Step6.τ).loc Cert.Step6.main_arg4)
      ∧ r.2.mem ((c.tc : Thread Cert.Step6.nD Cert.Step6.τ).loc Cert.Step6.main_arg5) = m ((c.tc : Thread Cert.Step6.nD Cert.Step6.τ).loc Cert.Step6.main_arg5)
      ∧ r.2.mem ((c.tc : Thread Cert.Step6.nD Cert.Step6.τ).loc Cert.Step6.main_arg6) = m ((c.tc : Thread Cert.Step6.nD Cert.Step6.τ).loc Cert.Step6.main_arg6))
      ∧ r.2.sem = fun _ => 0)

def quiescent_Step6Ideal [hStep6Ideal : Cert.Step6Ideal.Facts] : Prop :=
  ∀ (m : (ℓ : Loc Cert.Step6Ideal.nD Cert.Step6Ideal.τ Cert.Step6Ideal.sig) → Buf (Elt Ideal) ℓ) (g : Dev Cert.Step6Ideal.nD → PrngReg), Pre_Step6Ideal m →
    θ_run (Cert.Step6Ideal.defs (F := Ideal)) (onTc (τ := Cert.Step6Ideal.τ) (Cert.Step6Ideal.main (F := Ideal))) ⟨m, fun _ => 0, g⟩ (fun r => (∀ c : Dev Cert.Step6Ideal.nD,
      r.2.mem ((c.tc : Thread Cert.Step6Ideal.nD Cert.Step6Ideal.τ).loc Cert.Step6Ideal.main_arg0) = m ((c.tc : Thread Cert.Step6Ideal.nD Cert.Step6Ideal.τ).loc Cert.Step6Ideal.main_arg0)
      ∧ r.2.mem ((c.tc : Thread Cert.Step6Ideal.nD Cert.Step6Ideal.τ).loc Cert.Step6Ideal.main_arg1) = m ((c.tc : Thread Cert.Step6Ideal.nD Cert.Step6Ideal.τ).loc Cert.Step6Ideal.main_arg1)
      ∧ r.2.mem ((c.tc : Thread Cert.Step6Ideal.nD Cert.Step6Ideal.τ).loc Cert.Step6Ideal.main_arg2) = m ((c.tc : Thread Cert.Step6Ideal.nD Cert.Step6Ideal.τ).loc Cert.Step6Ideal.main_arg2)
      ∧ r.2.mem ((c.tc : Thread Cert.Step6Ideal.nD Cert.Step6Ideal.τ).loc Cert.Step6Ideal.main_arg3) = m ((c.tc : Thread Cert.Step6Ideal.nD Cert.Step6Ideal.τ).loc Cert.Step6Ideal.main_arg3)
      ∧ r.2.mem ((c.tc : Thread Cert.Step6Ideal.nD Cert.Step6Ideal.τ).loc Cert.Step6Ideal.main_arg4) = m ((c.tc : Thread Cert.Step6Ideal.nD Cert.Step6Ideal.τ).loc Cert.Step6Ideal.main_arg4)
      ∧ r.2.mem ((c.tc : Thread Cert.Step6Ideal.nD Cert.Step6Ideal.τ).loc Cert.Step6Ideal.main_arg5) = m ((c.tc : Thread Cert.Step6Ideal.nD Cert.Step6Ideal.τ).loc Cert.Step6Ideal.main_arg5)
      ∧ r.2.mem ((c.tc : Thread Cert.Step6Ideal.nD Cert.Step6Ideal.τ).loc Cert.Step6Ideal.main_arg6) = m ((c.tc : Thread Cert.Step6Ideal.nD Cert.Step6Ideal.τ).loc Cert.Step6Ideal.main_arg6))
      ∧ r.2.sem = fun _ => 0)

def quiescent_Step6RefIdeal [hStep6RefIdeal : Cert.Step6RefIdeal.Facts] : Prop :=
  ∀ (m : (ℓ : Loc Cert.Step6RefIdeal.nD Cert.Step6RefIdeal.τ Cert.Step6RefIdeal.sig) → Buf (Elt Ideal) ℓ) (g : Dev Cert.Step6RefIdeal.nD → PrngReg), Pre_Step6RefIdeal m →
    θ_run (Cert.Step6RefIdeal.defs (F := Ideal)) (onTc (τ := Cert.Step6RefIdeal.τ) (Cert.Step6RefIdeal.main (F := Ideal))) ⟨m, fun _ => 0, g⟩ (fun r => (∀ c : Dev Cert.Step6RefIdeal.nD,
      r.2.mem ((c.tc : Thread Cert.Step6RefIdeal.nD Cert.Step6RefIdeal.τ).loc Cert.Step6RefIdeal.main_arg0) = m ((c.tc : Thread Cert.Step6RefIdeal.nD Cert.Step6RefIdeal.τ).loc Cert.Step6RefIdeal.main_arg0)
      ∧ r.2.mem ((c.tc : Thread Cert.Step6RefIdeal.nD Cert.Step6RefIdeal.τ).loc Cert.Step6RefIdeal.main_arg1) = m ((c.tc : Thread Cert.Step6RefIdeal.nD Cert.Step6RefIdeal.τ).loc Cert.Step6RefIdeal.main_arg1)
      ∧ r.2.mem ((c.tc : Thread Cert.Step6RefIdeal.nD Cert.Step6RefIdeal.τ).loc Cert.Step6RefIdeal.main_arg2) = m ((c.tc : Thread Cert.Step6RefIdeal.nD Cert.Step6RefIdeal.τ).loc Cert.Step6RefIdeal.main_arg2)
      ∧ r.2.mem ((c.tc : Thread Cert.Step6RefIdeal.nD Cert.Step6RefIdeal.τ).loc Cert.Step6RefIdeal.main_arg3) = m ((c.tc : Thread Cert.Step6RefIdeal.nD Cert.Step6RefIdeal.τ).loc Cert.Step6RefIdeal.main_arg3)
      ∧ r.2.mem ((c.tc : Thread Cert.Step6RefIdeal.nD Cert.Step6RefIdeal.τ).loc Cert.Step6RefIdeal.main_arg4) = m ((c.tc : Thread Cert.Step6RefIdeal.nD Cert.Step6RefIdeal.τ).loc Cert.Step6RefIdeal.main_arg4)
      ∧ r.2.mem ((c.tc : Thread Cert.Step6RefIdeal.nD Cert.Step6RefIdeal.τ).loc Cert.Step6RefIdeal.main_arg5) = m ((c.tc : Thread Cert.Step6RefIdeal.nD Cert.Step6RefIdeal.τ).loc Cert.Step6RefIdeal.main_arg5)
      ∧ r.2.mem ((c.tc : Thread Cert.Step6RefIdeal.nD Cert.Step6RefIdeal.τ).loc Cert.Step6RefIdeal.main_arg6) = m ((c.tc : Thread Cert.Step6RefIdeal.nD Cert.Step6RefIdeal.τ).loc Cert.Step6RefIdeal.main_arg6))
      ∧ r.2.sem = fun _ => 0)

def quiescent_Step7 [hStep7 : Cert.Step7.Facts] : Prop :=
  ∀ (m : (ℓ : Loc Cert.Step7.nD Cert.Step7.τ Cert.Step7.sig) → Buf (Elt Bits) ℓ) (g : Dev Cert.Step7.nD → PrngReg), Pre_Step7 m →
    θ_run (Cert.Step7.defs (F := Bits)) (onTc (τ := Cert.Step7.τ) (Cert.Step7.main (F := Bits))) ⟨m, fun _ => 0, g⟩ (fun r => (∀ c : Dev Cert.Step7.nD,
      r.2.mem ((c.tc : Thread Cert.Step7.nD Cert.Step7.τ).loc Cert.Step7.main_arg0) = m ((c.tc : Thread Cert.Step7.nD Cert.Step7.τ).loc Cert.Step7.main_arg0)
      ∧ r.2.mem ((c.tc : Thread Cert.Step7.nD Cert.Step7.τ).loc Cert.Step7.main_arg1) = m ((c.tc : Thread Cert.Step7.nD Cert.Step7.τ).loc Cert.Step7.main_arg1)
      ∧ r.2.mem ((c.tc : Thread Cert.Step7.nD Cert.Step7.τ).loc Cert.Step7.main_arg2) = m ((c.tc : Thread Cert.Step7.nD Cert.Step7.τ).loc Cert.Step7.main_arg2)
      ∧ r.2.mem ((c.tc : Thread Cert.Step7.nD Cert.Step7.τ).loc Cert.Step7.main_arg3) = m ((c.tc : Thread Cert.Step7.nD Cert.Step7.τ).loc Cert.Step7.main_arg3)
      ∧ r.2.mem ((c.tc : Thread Cert.Step7.nD Cert.Step7.τ).loc Cert.Step7.main_arg4) = m ((c.tc : Thread Cert.Step7.nD Cert.Step7.τ).loc Cert.Step7.main_arg4)
      ∧ r.2.mem ((c.tc : Thread Cert.Step7.nD Cert.Step7.τ).loc Cert.Step7.main_arg5) = m ((c.tc : Thread Cert.Step7.nD Cert.Step7.τ).loc Cert.Step7.main_arg5)
      ∧ r.2.mem ((c.tc : Thread Cert.Step7.nD Cert.Step7.τ).loc Cert.Step7.main_arg6) = m ((c.tc : Thread Cert.Step7.nD Cert.Step7.τ).loc Cert.Step7.main_arg6))
      ∧ r.2.sem = fun _ => 0)

def quiescent_Step7Ideal [hStep7Ideal : Cert.Step7Ideal.Facts] : Prop :=
  ∀ (m : (ℓ : Loc Cert.Step7Ideal.nD Cert.Step7Ideal.τ Cert.Step7Ideal.sig) → Buf (Elt Ideal) ℓ) (g : Dev Cert.Step7Ideal.nD → PrngReg), Pre_Step7Ideal m →
    θ_run (Cert.Step7Ideal.defs (F := Ideal)) (onTc (τ := Cert.Step7Ideal.τ) (Cert.Step7Ideal.main (F := Ideal))) ⟨m, fun _ => 0, g⟩ (fun r => (∀ c : Dev Cert.Step7Ideal.nD,
      r.2.mem ((c.tc : Thread Cert.Step7Ideal.nD Cert.Step7Ideal.τ).loc Cert.Step7Ideal.main_arg0) = m ((c.tc : Thread Cert.Step7Ideal.nD Cert.Step7Ideal.τ).loc Cert.Step7Ideal.main_arg0)
      ∧ r.2.mem ((c.tc : Thread Cert.Step7Ideal.nD Cert.Step7Ideal.τ).loc Cert.Step7Ideal.main_arg1) = m ((c.tc : Thread Cert.Step7Ideal.nD Cert.Step7Ideal.τ).loc Cert.Step7Ideal.main_arg1)
      ∧ r.2.mem ((c.tc : Thread Cert.Step7Ideal.nD Cert.Step7Ideal.τ).loc Cert.Step7Ideal.main_arg2) = m ((c.tc : Thread Cert.Step7Ideal.nD Cert.Step7Ideal.τ).loc Cert.Step7Ideal.main_arg2)
      ∧ r.2.mem ((c.tc : Thread Cert.Step7Ideal.nD Cert.Step7Ideal.τ).loc Cert.Step7Ideal.main_arg3) = m ((c.tc : Thread Cert.Step7Ideal.nD Cert.Step7Ideal.τ).loc Cert.Step7Ideal.main_arg3)
      ∧ r.2.mem ((c.tc : Thread Cert.Step7Ideal.nD Cert.Step7Ideal.τ).loc Cert.Step7Ideal.main_arg4) = m ((c.tc : Thread Cert.Step7Ideal.nD Cert.Step7Ideal.τ).loc Cert.Step7Ideal.main_arg4)
      ∧ r.2.mem ((c.tc : Thread Cert.Step7Ideal.nD Cert.Step7Ideal.τ).loc Cert.Step7Ideal.main_arg5) = m ((c.tc : Thread Cert.Step7Ideal.nD Cert.Step7Ideal.τ).loc Cert.Step7Ideal.main_arg5)
      ∧ r.2.mem ((c.tc : Thread Cert.Step7Ideal.nD Cert.Step7Ideal.τ).loc Cert.Step7Ideal.main_arg6) = m ((c.tc : Thread Cert.Step7Ideal.nD Cert.Step7Ideal.τ).loc Cert.Step7Ideal.main_arg6))
      ∧ r.2.sem = fun _ => 0)

def quiescent_Step7RefIdeal [hStep7RefIdeal : Cert.Step7RefIdeal.Facts] : Prop :=
  ∀ (m : (ℓ : Loc Cert.Step7RefIdeal.nD Cert.Step7RefIdeal.τ Cert.Step7RefIdeal.sig) → Buf (Elt Ideal) ℓ) (g : Dev Cert.Step7RefIdeal.nD → PrngReg), Pre_Step7RefIdeal m →
    θ_run (Cert.Step7RefIdeal.defs (F := Ideal)) (onTc (τ := Cert.Step7RefIdeal.τ) (Cert.Step7RefIdeal.main (F := Ideal))) ⟨m, fun _ => 0, g⟩ (fun r => (∀ c : Dev Cert.Step7RefIdeal.nD,
      r.2.mem ((c.tc : Thread Cert.Step7RefIdeal.nD Cert.Step7RefIdeal.τ).loc Cert.Step7RefIdeal.main_arg0) = m ((c.tc : Thread Cert.Step7RefIdeal.nD Cert.Step7RefIdeal.τ).loc Cert.Step7RefIdeal.main_arg0)
      ∧ r.2.mem ((c.tc : Thread Cert.Step7RefIdeal.nD Cert.Step7RefIdeal.τ).loc Cert.Step7RefIdeal.main_arg1) = m ((c.tc : Thread Cert.Step7RefIdeal.nD Cert.Step7RefIdeal.τ).loc Cert.Step7RefIdeal.main_arg1)
      ∧ r.2.mem ((c.tc : Thread Cert.Step7RefIdeal.nD Cert.Step7RefIdeal.τ).loc Cert.Step7RefIdeal.main_arg2) = m ((c.tc : Thread Cert.Step7RefIdeal.nD Cert.Step7RefIdeal.τ).loc Cert.Step7RefIdeal.main_arg2)
      ∧ r.2.mem ((c.tc : Thread Cert.Step7RefIdeal.nD Cert.Step7RefIdeal.τ).loc Cert.Step7RefIdeal.main_arg3) = m ((c.tc : Thread Cert.Step7RefIdeal.nD Cert.Step7RefIdeal.τ).loc Cert.Step7RefIdeal.main_arg3)
      ∧ r.2.mem ((c.tc : Thread Cert.Step7RefIdeal.nD Cert.Step7RefIdeal.τ).loc Cert.Step7RefIdeal.main_arg4) = m ((c.tc : Thread Cert.Step7RefIdeal.nD Cert.Step7RefIdeal.τ).loc Cert.Step7RefIdeal.main_arg4)
      ∧ r.2.mem ((c.tc : Thread Cert.Step7RefIdeal.nD Cert.Step7RefIdeal.τ).loc Cert.Step7RefIdeal.main_arg5) = m ((c.tc : Thread Cert.Step7RefIdeal.nD Cert.Step7RefIdeal.τ).loc Cert.Step7RefIdeal.main_arg5)
      ∧ r.2.mem ((c.tc : Thread Cert.Step7RefIdeal.nD Cert.Step7RefIdeal.τ).loc Cert.Step7RefIdeal.main_arg6) = m ((c.tc : Thread Cert.Step7RefIdeal.nD Cert.Step7RefIdeal.τ).loc Cert.Step7RefIdeal.main_arg6))
      ∧ r.2.sem = fun _ => 0)

def quiescent_Step8 [hStep8 : Cert.Step8.Facts] : Prop :=
  ∀ (m : (ℓ : Loc Cert.Step8.nD Cert.Step8.τ Cert.Step8.sig) → Buf (Elt Bits) ℓ) (g : Dev Cert.Step8.nD → PrngReg), Pre_Step8 m →
    θ_run (Cert.Step8.defs (F := Bits)) (onTc (τ := Cert.Step8.τ) (Cert.Step8.main (F := Bits))) ⟨m, fun _ => 0, g⟩ (fun r => (∀ c : Dev Cert.Step8.nD,
      r.2.mem ((c.tc : Thread Cert.Step8.nD Cert.Step8.τ).loc Cert.Step8.main_arg0) = m ((c.tc : Thread Cert.Step8.nD Cert.Step8.τ).loc Cert.Step8.main_arg0)
      ∧ r.2.mem ((c.tc : Thread Cert.Step8.nD Cert.Step8.τ).loc Cert.Step8.main_arg1) = m ((c.tc : Thread Cert.Step8.nD Cert.Step8.τ).loc Cert.Step8.main_arg1)
      ∧ r.2.mem ((c.tc : Thread Cert.Step8.nD Cert.Step8.τ).loc Cert.Step8.main_arg2) = m ((c.tc : Thread Cert.Step8.nD Cert.Step8.τ).loc Cert.Step8.main_arg2)
      ∧ r.2.mem ((c.tc : Thread Cert.Step8.nD Cert.Step8.τ).loc Cert.Step8.main_arg3) = m ((c.tc : Thread Cert.Step8.nD Cert.Step8.τ).loc Cert.Step8.main_arg3)
      ∧ r.2.mem ((c.tc : Thread Cert.Step8.nD Cert.Step8.τ).loc Cert.Step8.main_arg4) = m ((c.tc : Thread Cert.Step8.nD Cert.Step8.τ).loc Cert.Step8.main_arg4)
      ∧ r.2.mem ((c.tc : Thread Cert.Step8.nD Cert.Step8.τ).loc Cert.Step8.main_arg5) = m ((c.tc : Thread Cert.Step8.nD Cert.Step8.τ).loc Cert.Step8.main_arg5)
      ∧ r.2.mem ((c.tc : Thread Cert.Step8.nD Cert.Step8.τ).loc Cert.Step8.main_arg6) = m ((c.tc : Thread Cert.Step8.nD Cert.Step8.τ).loc Cert.Step8.main_arg6))
      ∧ r.2.sem = fun _ => 0)

def quiescent_Step8Ideal [hStep8Ideal : Cert.Step8Ideal.Facts] : Prop :=
  ∀ (m : (ℓ : Loc Cert.Step8Ideal.nD Cert.Step8Ideal.τ Cert.Step8Ideal.sig) → Buf (Elt Ideal) ℓ) (g : Dev Cert.Step8Ideal.nD → PrngReg), Pre_Step8Ideal m →
    θ_run (Cert.Step8Ideal.defs (F := Ideal)) (onTc (τ := Cert.Step8Ideal.τ) (Cert.Step8Ideal.main (F := Ideal))) ⟨m, fun _ => 0, g⟩ (fun r => (∀ c : Dev Cert.Step8Ideal.nD,
      r.2.mem ((c.tc : Thread Cert.Step8Ideal.nD Cert.Step8Ideal.τ).loc Cert.Step8Ideal.main_arg0) = m ((c.tc : Thread Cert.Step8Ideal.nD Cert.Step8Ideal.τ).loc Cert.Step8Ideal.main_arg0)
      ∧ r.2.mem ((c.tc : Thread Cert.Step8Ideal.nD Cert.Step8Ideal.τ).loc Cert.Step8Ideal.main_arg1) = m ((c.tc : Thread Cert.Step8Ideal.nD Cert.Step8Ideal.τ).loc Cert.Step8Ideal.main_arg1)
      ∧ r.2.mem ((c.tc : Thread Cert.Step8Ideal.nD Cert.Step8Ideal.τ).loc Cert.Step8Ideal.main_arg2) = m ((c.tc : Thread Cert.Step8Ideal.nD Cert.Step8Ideal.τ).loc Cert.Step8Ideal.main_arg2)
      ∧ r.2.mem ((c.tc : Thread Cert.Step8Ideal.nD Cert.Step8Ideal.τ).loc Cert.Step8Ideal.main_arg3) = m ((c.tc : Thread Cert.Step8Ideal.nD Cert.Step8Ideal.τ).loc Cert.Step8Ideal.main_arg3)
      ∧ r.2.mem ((c.tc : Thread Cert.Step8Ideal.nD Cert.Step8Ideal.τ).loc Cert.Step8Ideal.main_arg4) = m ((c.tc : Thread Cert.Step8Ideal.nD Cert.Step8Ideal.τ).loc Cert.Step8Ideal.main_arg4)
      ∧ r.2.mem ((c.tc : Thread Cert.Step8Ideal.nD Cert.Step8Ideal.τ).loc Cert.Step8Ideal.main_arg5) = m ((c.tc : Thread Cert.Step8Ideal.nD Cert.Step8Ideal.τ).loc Cert.Step8Ideal.main_arg5)
      ∧ r.2.mem ((c.tc : Thread Cert.Step8Ideal.nD Cert.Step8Ideal.τ).loc Cert.Step8Ideal.main_arg6) = m ((c.tc : Thread Cert.Step8Ideal.nD Cert.Step8Ideal.τ).loc Cert.Step8Ideal.main_arg6))
      ∧ r.2.sem = fun _ => 0)

def quiescent_Step8RefIdeal [hStep8RefIdeal : Cert.Step8RefIdeal.Facts] : Prop :=
  ∀ (m : (ℓ : Loc Cert.Step8RefIdeal.nD Cert.Step8RefIdeal.τ Cert.Step8RefIdeal.sig) → Buf (Elt Ideal) ℓ) (g : Dev Cert.Step8RefIdeal.nD → PrngReg), Pre_Step8RefIdeal m →
    θ_run (Cert.Step8RefIdeal.defs (F := Ideal)) (onTc (τ := Cert.Step8RefIdeal.τ) (Cert.Step8RefIdeal.main (F := Ideal))) ⟨m, fun _ => 0, g⟩ (fun r => (∀ c : Dev Cert.Step8RefIdeal.nD,
      r.2.mem ((c.tc : Thread Cert.Step8RefIdeal.nD Cert.Step8RefIdeal.τ).loc Cert.Step8RefIdeal.main_arg0) = m ((c.tc : Thread Cert.Step8RefIdeal.nD Cert.Step8RefIdeal.τ).loc Cert.Step8RefIdeal.main_arg0)
      ∧ r.2.mem ((c.tc : Thread Cert.Step8RefIdeal.nD Cert.Step8RefIdeal.τ).loc Cert.Step8RefIdeal.main_arg1) = m ((c.tc : Thread Cert.Step8RefIdeal.nD Cert.Step8RefIdeal.τ).loc Cert.Step8RefIdeal.main_arg1)
      ∧ r.2.mem ((c.tc : Thread Cert.Step8RefIdeal.nD Cert.Step8RefIdeal.τ).loc Cert.Step8RefIdeal.main_arg2) = m ((c.tc : Thread Cert.Step8RefIdeal.nD Cert.Step8RefIdeal.τ).loc Cert.Step8RefIdeal.main_arg2)
      ∧ r.2.mem ((c.tc : Thread Cert.Step8RefIdeal.nD Cert.Step8RefIdeal.τ).loc Cert.Step8RefIdeal.main_arg3) = m ((c.tc : Thread Cert.Step8RefIdeal.nD Cert.Step8RefIdeal.τ).loc Cert.Step8RefIdeal.main_arg3)
      ∧ r.2.mem ((c.tc : Thread Cert.Step8RefIdeal.nD Cert.Step8RefIdeal.τ).loc Cert.Step8RefIdeal.main_arg4) = m ((c.tc : Thread Cert.Step8RefIdeal.nD Cert.Step8RefIdeal.τ).loc Cert.Step8RefIdeal.main_arg4)
      ∧ r.2.mem ((c.tc : Thread Cert.Step8RefIdeal.nD Cert.Step8RefIdeal.τ).loc Cert.Step8RefIdeal.main_arg5) = m ((c.tc : Thread Cert.Step8RefIdeal.nD Cert.Step8RefIdeal.τ).loc Cert.Step8RefIdeal.main_arg5)
      ∧ r.2.mem ((c.tc : Thread Cert.Step8RefIdeal.nD Cert.Step8RefIdeal.τ).loc Cert.Step8RefIdeal.main_arg6) = m ((c.tc : Thread Cert.Step8RefIdeal.nD Cert.Step8RefIdeal.τ).loc Cert.Step8RefIdeal.main_arg6))
      ∧ r.2.sem = fun _ => 0)

def quiescent_Step16 [hStep16 : Cert.Step16.Facts] : Prop :=
  ∀ (m : (ℓ : Loc Cert.Step16.nD Cert.Step16.τ Cert.Step16.sig) → Buf (Elt Bits) ℓ) (g : Dev Cert.Step16.nD → PrngReg), Pre_Step16 m →
    θ_run (Cert.Step16.defs (F := Bits)) (onTc (τ := Cert.Step16.τ) (Cert.Step16.main (F := Bits))) ⟨m, fun _ => 0, g⟩ (fun r => (∀ c : Dev Cert.Step16.nD,
      r.2.mem ((c.tc : Thread Cert.Step16.nD Cert.Step16.τ).loc Cert.Step16.main_arg0) = m ((c.tc : Thread Cert.Step16.nD Cert.Step16.τ).loc Cert.Step16.main_arg0)
      ∧ r.2.mem ((c.tc : Thread Cert.Step16.nD Cert.Step16.τ).loc Cert.Step16.main_arg1) = m ((c.tc : Thread Cert.Step16.nD Cert.Step16.τ).loc Cert.Step16.main_arg1)
      ∧ r.2.mem ((c.tc : Thread Cert.Step16.nD Cert.Step16.τ).loc Cert.Step16.main_arg2) = m ((c.tc : Thread Cert.Step16.nD Cert.Step16.τ).loc Cert.Step16.main_arg2)
      ∧ r.2.mem ((c.tc : Thread Cert.Step16.nD Cert.Step16.τ).loc Cert.Step16.main_arg3) = m ((c.tc : Thread Cert.Step16.nD Cert.Step16.τ).loc Cert.Step16.main_arg3)
      ∧ r.2.mem ((c.tc : Thread Cert.Step16.nD Cert.Step16.τ).loc Cert.Step16.main_arg4) = m ((c.tc : Thread Cert.Step16.nD Cert.Step16.τ).loc Cert.Step16.main_arg4)
      ∧ r.2.mem ((c.tc : Thread Cert.Step16.nD Cert.Step16.τ).loc Cert.Step16.main_arg5) = m ((c.tc : Thread Cert.Step16.nD Cert.Step16.τ).loc Cert.Step16.main_arg5)
      ∧ r.2.mem ((c.tc : Thread Cert.Step16.nD Cert.Step16.τ).loc Cert.Step16.main_arg6) = m ((c.tc : Thread Cert.Step16.nD Cert.Step16.τ).loc Cert.Step16.main_arg6))
      ∧ r.2.sem = fun _ => 0)

def quiescent_Step16Ideal [hStep16Ideal : Cert.Step16Ideal.Facts] : Prop :=
  ∀ (m : (ℓ : Loc Cert.Step16Ideal.nD Cert.Step16Ideal.τ Cert.Step16Ideal.sig) → Buf (Elt Ideal) ℓ) (g : Dev Cert.Step16Ideal.nD → PrngReg), Pre_Step16Ideal m →
    θ_run (Cert.Step16Ideal.defs (F := Ideal)) (onTc (τ := Cert.Step16Ideal.τ) (Cert.Step16Ideal.main (F := Ideal))) ⟨m, fun _ => 0, g⟩ (fun r => (∀ c : Dev Cert.Step16Ideal.nD,
      r.2.mem ((c.tc : Thread Cert.Step16Ideal.nD Cert.Step16Ideal.τ).loc Cert.Step16Ideal.main_arg0) = m ((c.tc : Thread Cert.Step16Ideal.nD Cert.Step16Ideal.τ).loc Cert.Step16Ideal.main_arg0)
      ∧ r.2.mem ((c.tc : Thread Cert.Step16Ideal.nD Cert.Step16Ideal.τ).loc Cert.Step16Ideal.main_arg1) = m ((c.tc : Thread Cert.Step16Ideal.nD Cert.Step16Ideal.τ).loc Cert.Step16Ideal.main_arg1)
      ∧ r.2.mem ((c.tc : Thread Cert.Step16Ideal.nD Cert.Step16Ideal.τ).loc Cert.Step16Ideal.main_arg2) = m ((c.tc : Thread Cert.Step16Ideal.nD Cert.Step16Ideal.τ).loc Cert.Step16Ideal.main_arg2)
      ∧ r.2.mem ((c.tc : Thread Cert.Step16Ideal.nD Cert.Step16Ideal.τ).loc Cert.Step16Ideal.main_arg3) = m ((c.tc : Thread Cert.Step16Ideal.nD Cert.Step16Ideal.τ).loc Cert.Step16Ideal.main_arg3)
      ∧ r.2.mem ((c.tc : Thread Cert.Step16Ideal.nD Cert.Step16Ideal.τ).loc Cert.Step16Ideal.main_arg4) = m ((c.tc : Thread Cert.Step16Ideal.nD Cert.Step16Ideal.τ).loc Cert.Step16Ideal.main_arg4)
      ∧ r.2.mem ((c.tc : Thread Cert.Step16Ideal.nD Cert.Step16Ideal.τ).loc Cert.Step16Ideal.main_arg5) = m ((c.tc : Thread Cert.Step16Ideal.nD Cert.Step16Ideal.τ).loc Cert.Step16Ideal.main_arg5)
      ∧ r.2.mem ((c.tc : Thread Cert.Step16Ideal.nD Cert.Step16Ideal.τ).loc Cert.Step16Ideal.main_arg6) = m ((c.tc : Thread Cert.Step16Ideal.nD Cert.Step16Ideal.τ).loc Cert.Step16Ideal.main_arg6))
      ∧ r.2.sem = fun _ => 0)

def quiescent_Step16RefIdeal [hStep16RefIdeal : Cert.Step16RefIdeal.Facts] : Prop :=
  ∀ (m : (ℓ : Loc Cert.Step16RefIdeal.nD Cert.Step16RefIdeal.τ Cert.Step16RefIdeal.sig) → Buf (Elt Ideal) ℓ) (g : Dev Cert.Step16RefIdeal.nD → PrngReg), Pre_Step16RefIdeal m →
    θ_run (Cert.Step16RefIdeal.defs (F := Ideal)) (onTc (τ := Cert.Step16RefIdeal.τ) (Cert.Step16RefIdeal.main (F := Ideal))) ⟨m, fun _ => 0, g⟩ (fun r => (∀ c : Dev Cert.Step16RefIdeal.nD,
      r.2.mem ((c.tc : Thread Cert.Step16RefIdeal.nD Cert.Step16RefIdeal.τ).loc Cert.Step16RefIdeal.main_arg0) = m ((c.tc : Thread Cert.Step16RefIdeal.nD Cert.Step16RefIdeal.τ).loc Cert.Step16RefIdeal.main_arg0)
      ∧ r.2.mem ((c.tc : Thread Cert.Step16RefIdeal.nD Cert.Step16RefIdeal.τ).loc Cert.Step16RefIdeal.main_arg1) = m ((c.tc : Thread Cert.Step16RefIdeal.nD Cert.Step16RefIdeal.τ).loc Cert.Step16RefIdeal.main_arg1)
      ∧ r.2.mem ((c.tc : Thread Cert.Step16RefIdeal.nD Cert.Step16RefIdeal.τ).loc Cert.Step16RefIdeal.main_arg2) = m ((c.tc : Thread Cert.Step16RefIdeal.nD Cert.Step16RefIdeal.τ).loc Cert.Step16RefIdeal.main_arg2)
      ∧ r.2.mem ((c.tc : Thread Cert.Step16RefIdeal.nD Cert.Step16RefIdeal.τ).loc Cert.Step16RefIdeal.main_arg3) = m ((c.tc : Thread Cert.Step16RefIdeal.nD Cert.Step16RefIdeal.τ).loc Cert.Step16RefIdeal.main_arg3)
      ∧ r.2.mem ((c.tc : Thread Cert.Step16RefIdeal.nD Cert.Step16RefIdeal.τ).loc Cert.Step16RefIdeal.main_arg4) = m ((c.tc : Thread Cert.Step16RefIdeal.nD Cert.Step16RefIdeal.τ).loc Cert.Step16RefIdeal.main_arg4)
      ∧ r.2.mem ((c.tc : Thread Cert.Step16RefIdeal.nD Cert.Step16RefIdeal.τ).loc Cert.Step16RefIdeal.main_arg5) = m ((c.tc : Thread Cert.Step16RefIdeal.nD Cert.Step16RefIdeal.τ).loc Cert.Step16RefIdeal.main_arg5)
      ∧ r.2.mem ((c.tc : Thread Cert.Step16RefIdeal.nD Cert.Step16RefIdeal.τ).loc Cert.Step16RefIdeal.main_arg6) = m ((c.tc : Thread Cert.Step16RefIdeal.nD Cert.Step16RefIdeal.τ).loc Cert.Step16RefIdeal.main_arg6))
      ∧ r.2.sem = fun _ => 0)

def quiescent_Step24 [hStep24 : Cert.Step24.Facts] : Prop :=
  ∀ (m : (ℓ : Loc Cert.Step24.nD Cert.Step24.τ Cert.Step24.sig) → Buf (Elt Bits) ℓ) (g : Dev Cert.Step24.nD → PrngReg), Pre_Step24 m →
    θ_run (Cert.Step24.defs (F := Bits)) (onTc (τ := Cert.Step24.τ) (Cert.Step24.main (F := Bits))) ⟨m, fun _ => 0, g⟩ (fun r => (∀ c : Dev Cert.Step24.nD,
      r.2.mem ((c.tc : Thread Cert.Step24.nD Cert.Step24.τ).loc Cert.Step24.main_arg0) = m ((c.tc : Thread Cert.Step24.nD Cert.Step24.τ).loc Cert.Step24.main_arg0)
      ∧ r.2.mem ((c.tc : Thread Cert.Step24.nD Cert.Step24.τ).loc Cert.Step24.main_arg1) = m ((c.tc : Thread Cert.Step24.nD Cert.Step24.τ).loc Cert.Step24.main_arg1)
      ∧ r.2.mem ((c.tc : Thread Cert.Step24.nD Cert.Step24.τ).loc Cert.Step24.main_arg2) = m ((c.tc : Thread Cert.Step24.nD Cert.Step24.τ).loc Cert.Step24.main_arg2)
      ∧ r.2.mem ((c.tc : Thread Cert.Step24.nD Cert.Step24.τ).loc Cert.Step24.main_arg3) = m ((c.tc : Thread Cert.Step24.nD Cert.Step24.τ).loc Cert.Step24.main_arg3)
      ∧ r.2.mem ((c.tc : Thread Cert.Step24.nD Cert.Step24.τ).loc Cert.Step24.main_arg4) = m ((c.tc : Thread Cert.Step24.nD Cert.Step24.τ).loc Cert.Step24.main_arg4)
      ∧ r.2.mem ((c.tc : Thread Cert.Step24.nD Cert.Step24.τ).loc Cert.Step24.main_arg5) = m ((c.tc : Thread Cert.Step24.nD Cert.Step24.τ).loc Cert.Step24.main_arg5)
      ∧ r.2.mem ((c.tc : Thread Cert.Step24.nD Cert.Step24.τ).loc Cert.Step24.main_arg6) = m ((c.tc : Thread Cert.Step24.nD Cert.Step24.τ).loc Cert.Step24.main_arg6))
      ∧ r.2.sem = fun _ => 0)

def quiescent_Step24Ideal [hStep24Ideal : Cert.Step24Ideal.Facts] : Prop :=
  ∀ (m : (ℓ : Loc Cert.Step24Ideal.nD Cert.Step24Ideal.τ Cert.Step24Ideal.sig) → Buf (Elt Ideal) ℓ) (g : Dev Cert.Step24Ideal.nD → PrngReg), Pre_Step24Ideal m →
    θ_run (Cert.Step24Ideal.defs (F := Ideal)) (onTc (τ := Cert.Step24Ideal.τ) (Cert.Step24Ideal.main (F := Ideal))) ⟨m, fun _ => 0, g⟩ (fun r => (∀ c : Dev Cert.Step24Ideal.nD,
      r.2.mem ((c.tc : Thread Cert.Step24Ideal.nD Cert.Step24Ideal.τ).loc Cert.Step24Ideal.main_arg0) = m ((c.tc : Thread Cert.Step24Ideal.nD Cert.Step24Ideal.τ).loc Cert.Step24Ideal.main_arg0)
      ∧ r.2.mem ((c.tc : Thread Cert.Step24Ideal.nD Cert.Step24Ideal.τ).loc Cert.Step24Ideal.main_arg1) = m ((c.tc : Thread Cert.Step24Ideal.nD Cert.Step24Ideal.τ).loc Cert.Step24Ideal.main_arg1)
      ∧ r.2.mem ((c.tc : Thread Cert.Step24Ideal.nD Cert.Step24Ideal.τ).loc Cert.Step24Ideal.main_arg2) = m ((c.tc : Thread Cert.Step24Ideal.nD Cert.Step24Ideal.τ).loc Cert.Step24Ideal.main_arg2)
      ∧ r.2.mem ((c.tc : Thread Cert.Step24Ideal.nD Cert.Step24Ideal.τ).loc Cert.Step24Ideal.main_arg3) = m ((c.tc : Thread Cert.Step24Ideal.nD Cert.Step24Ideal.τ).loc Cert.Step24Ideal.main_arg3)
      ∧ r.2.mem ((c.tc : Thread Cert.Step24Ideal.nD Cert.Step24Ideal.τ).loc Cert.Step24Ideal.main_arg4) = m ((c.tc : Thread Cert.Step24Ideal.nD Cert.Step24Ideal.τ).loc Cert.Step24Ideal.main_arg4)
      ∧ r.2.mem ((c.tc : Thread Cert.Step24Ideal.nD Cert.Step24Ideal.τ).loc Cert.Step24Ideal.main_arg5) = m ((c.tc : Thread Cert.Step24Ideal.nD Cert.Step24Ideal.τ).loc Cert.Step24Ideal.main_arg5)
      ∧ r.2.mem ((c.tc : Thread Cert.Step24Ideal.nD Cert.Step24Ideal.τ).loc Cert.Step24Ideal.main_arg6) = m ((c.tc : Thread Cert.Step24Ideal.nD Cert.Step24Ideal.τ).loc Cert.Step24Ideal.main_arg6))
      ∧ r.2.sem = fun _ => 0)

def quiescent_Step24RefIdeal [hStep24RefIdeal : Cert.Step24RefIdeal.Facts] : Prop :=
  ∀ (m : (ℓ : Loc Cert.Step24RefIdeal.nD Cert.Step24RefIdeal.τ Cert.Step24RefIdeal.sig) → Buf (Elt Ideal) ℓ) (g : Dev Cert.Step24RefIdeal.nD → PrngReg), Pre_Step24RefIdeal m →
    θ_run (Cert.Step24RefIdeal.defs (F := Ideal)) (onTc (τ := Cert.Step24RefIdeal.τ) (Cert.Step24RefIdeal.main (F := Ideal))) ⟨m, fun _ => 0, g⟩ (fun r => (∀ c : Dev Cert.Step24RefIdeal.nD,
      r.2.mem ((c.tc : Thread Cert.Step24RefIdeal.nD Cert.Step24RefIdeal.τ).loc Cert.Step24RefIdeal.main_arg0) = m ((c.tc : Thread Cert.Step24RefIdeal.nD Cert.Step24RefIdeal.τ).loc Cert.Step24RefIdeal.main_arg0)
      ∧ r.2.mem ((c.tc : Thread Cert.Step24RefIdeal.nD Cert.Step24RefIdeal.τ).loc Cert.Step24RefIdeal.main_arg1) = m ((c.tc : Thread Cert.Step24RefIdeal.nD Cert.Step24RefIdeal.τ).loc Cert.Step24RefIdeal.main_arg1)
      ∧ r.2.mem ((c.tc : Thread Cert.Step24RefIdeal.nD Cert.Step24RefIdeal.τ).loc Cert.Step24RefIdeal.main_arg2) = m ((c.tc : Thread Cert.Step24RefIdeal.nD Cert.Step24RefIdeal.τ).loc Cert.Step24RefIdeal.main_arg2)
      ∧ r.2.mem ((c.tc : Thread Cert.Step24RefIdeal.nD Cert.Step24RefIdeal.τ).loc Cert.Step24RefIdeal.main_arg3) = m ((c.tc : Thread Cert.Step24RefIdeal.nD Cert.Step24RefIdeal.τ).loc Cert.Step24RefIdeal.main_arg3)
      ∧ r.2.mem ((c.tc : Thread Cert.Step24RefIdeal.nD Cert.Step24RefIdeal.τ).loc Cert.Step24RefIdeal.main_arg4) = m ((c.tc : Thread Cert.Step24RefIdeal.nD Cert.Step24RefIdeal.τ).loc Cert.Step24RefIdeal.main_arg4)
      ∧ r.2.mem ((c.tc : Thread Cert.Step24RefIdeal.nD Cert.Step24RefIdeal.τ).loc Cert.Step24RefIdeal.main_arg5) = m ((c.tc : Thread Cert.Step24RefIdeal.nD Cert.Step24RefIdeal.τ).loc Cert.Step24RefIdeal.main_arg5)
      ∧ r.2.mem ((c.tc : Thread Cert.Step24RefIdeal.nD Cert.Step24RefIdeal.τ).loc Cert.Step24RefIdeal.main_arg6) = m ((c.tc : Thread Cert.Step24RefIdeal.nD Cert.Step24RefIdeal.τ).loc Cert.Step24RefIdeal.main_arg6))
      ∧ r.2.sem = fun _ => 0)

def quiescent_Step32 [hStep32 : Cert.Step32.Facts] : Prop :=
  ∀ (m : (ℓ : Loc Cert.Step32.nD Cert.Step32.τ Cert.Step32.sig) → Buf (Elt Bits) ℓ) (g : Dev Cert.Step32.nD → PrngReg), Pre_Step32 m →
    θ_run (Cert.Step32.defs (F := Bits)) (onTc (τ := Cert.Step32.τ) (Cert.Step32.main (F := Bits))) ⟨m, fun _ => 0, g⟩ (fun r => (∀ c : Dev Cert.Step32.nD,
      r.2.mem ((c.tc : Thread Cert.Step32.nD Cert.Step32.τ).loc Cert.Step32.main_arg0) = m ((c.tc : Thread Cert.Step32.nD Cert.Step32.τ).loc Cert.Step32.main_arg0)
      ∧ r.2.mem ((c.tc : Thread Cert.Step32.nD Cert.Step32.τ).loc Cert.Step32.main_arg1) = m ((c.tc : Thread Cert.Step32.nD Cert.Step32.τ).loc Cert.Step32.main_arg1)
      ∧ r.2.mem ((c.tc : Thread Cert.Step32.nD Cert.Step32.τ).loc Cert.Step32.main_arg2) = m ((c.tc : Thread Cert.Step32.nD Cert.Step32.τ).loc Cert.Step32.main_arg2)
      ∧ r.2.mem ((c.tc : Thread Cert.Step32.nD Cert.Step32.τ).loc Cert.Step32.main_arg3) = m ((c.tc : Thread Cert.Step32.nD Cert.Step32.τ).loc Cert.Step32.main_arg3)
      ∧ r.2.mem ((c.tc : Thread Cert.Step32.nD Cert.Step32.τ).loc Cert.Step32.main_arg4) = m ((c.tc : Thread Cert.Step32.nD Cert.Step32.τ).loc Cert.Step32.main_arg4)
      ∧ r.2.mem ((c.tc : Thread Cert.Step32.nD Cert.Step32.τ).loc Cert.Step32.main_arg5) = m ((c.tc : Thread Cert.Step32.nD Cert.Step32.τ).loc Cert.Step32.main_arg5)
      ∧ r.2.mem ((c.tc : Thread Cert.Step32.nD Cert.Step32.τ).loc Cert.Step32.main_arg6) = m ((c.tc : Thread Cert.Step32.nD Cert.Step32.τ).loc Cert.Step32.main_arg6))
      ∧ r.2.sem = fun _ => 0)

def quiescent_Step32Ideal [hStep32Ideal : Cert.Step32Ideal.Facts] : Prop :=
  ∀ (m : (ℓ : Loc Cert.Step32Ideal.nD Cert.Step32Ideal.τ Cert.Step32Ideal.sig) → Buf (Elt Ideal) ℓ) (g : Dev Cert.Step32Ideal.nD → PrngReg), Pre_Step32Ideal m →
    θ_run (Cert.Step32Ideal.defs (F := Ideal)) (onTc (τ := Cert.Step32Ideal.τ) (Cert.Step32Ideal.main (F := Ideal))) ⟨m, fun _ => 0, g⟩ (fun r => (∀ c : Dev Cert.Step32Ideal.nD,
      r.2.mem ((c.tc : Thread Cert.Step32Ideal.nD Cert.Step32Ideal.τ).loc Cert.Step32Ideal.main_arg0) = m ((c.tc : Thread Cert.Step32Ideal.nD Cert.Step32Ideal.τ).loc Cert.Step32Ideal.main_arg0)
      ∧ r.2.mem ((c.tc : Thread Cert.Step32Ideal.nD Cert.Step32Ideal.τ).loc Cert.Step32Ideal.main_arg1) = m ((c.tc : Thread Cert.Step32Ideal.nD Cert.Step32Ideal.τ).loc Cert.Step32Ideal.main_arg1)
      ∧ r.2.mem ((c.tc : Thread Cert.Step32Ideal.nD Cert.Step32Ideal.τ).loc Cert.Step32Ideal.main_arg2) = m ((c.tc : Thread Cert.Step32Ideal.nD Cert.Step32Ideal.τ).loc Cert.Step32Ideal.main_arg2)
      ∧ r.2.mem ((c.tc : Thread Cert.Step32Ideal.nD Cert.Step32Ideal.τ).loc Cert.Step32Ideal.main_arg3) = m ((c.tc : Thread Cert.Step32Ideal.nD Cert.Step32Ideal.τ).loc Cert.Step32Ideal.main_arg3)
      ∧ r.2.mem ((c.tc : Thread Cert.Step32Ideal.nD Cert.Step32Ideal.τ).loc Cert.Step32Ideal.main_arg4) = m ((c.tc : Thread Cert.Step32Ideal.nD Cert.Step32Ideal.τ).loc Cert.Step32Ideal.main_arg4)
      ∧ r.2.mem ((c.tc : Thread Cert.Step32Ideal.nD Cert.Step32Ideal.τ).loc Cert.Step32Ideal.main_arg5) = m ((c.tc : Thread Cert.Step32Ideal.nD Cert.Step32Ideal.τ).loc Cert.Step32Ideal.main_arg5)
      ∧ r.2.mem ((c.tc : Thread Cert.Step32Ideal.nD Cert.Step32Ideal.τ).loc Cert.Step32Ideal.main_arg6) = m ((c.tc : Thread Cert.Step32Ideal.nD Cert.Step32Ideal.τ).loc Cert.Step32Ideal.main_arg6))
      ∧ r.2.sem = fun _ => 0)

def quiescent_Step32RefIdeal [hStep32RefIdeal : Cert.Step32RefIdeal.Facts] : Prop :=
  ∀ (m : (ℓ : Loc Cert.Step32RefIdeal.nD Cert.Step32RefIdeal.τ Cert.Step32RefIdeal.sig) → Buf (Elt Ideal) ℓ) (g : Dev Cert.Step32RefIdeal.nD → PrngReg), Pre_Step32RefIdeal m →
    θ_run (Cert.Step32RefIdeal.defs (F := Ideal)) (onTc (τ := Cert.Step32RefIdeal.τ) (Cert.Step32RefIdeal.main (F := Ideal))) ⟨m, fun _ => 0, g⟩ (fun r => (∀ c : Dev Cert.Step32RefIdeal.nD,
      r.2.mem ((c.tc : Thread Cert.Step32RefIdeal.nD Cert.Step32RefIdeal.τ).loc Cert.Step32RefIdeal.main_arg0) = m ((c.tc : Thread Cert.Step32RefIdeal.nD Cert.Step32RefIdeal.τ).loc Cert.Step32RefIdeal.main_arg0)
      ∧ r.2.mem ((c.tc : Thread Cert.Step32RefIdeal.nD Cert.Step32RefIdeal.τ).loc Cert.Step32RefIdeal.main_arg1) = m ((c.tc : Thread Cert.Step32RefIdeal.nD Cert.Step32RefIdeal.τ).loc Cert.Step32RefIdeal.main_arg1)
      ∧ r.2.mem ((c.tc : Thread Cert.Step32RefIdeal.nD Cert.Step32RefIdeal.τ).loc Cert.Step32RefIdeal.main_arg2) = m ((c.tc : Thread Cert.Step32RefIdeal.nD Cert.Step32RefIdeal.τ).loc Cert.Step32RefIdeal.main_arg2)
      ∧ r.2.mem ((c.tc : Thread Cert.Step32RefIdeal.nD Cert.Step32RefIdeal.τ).loc Cert.Step32RefIdeal.main_arg3) = m ((c.tc : Thread Cert.Step32RefIdeal.nD Cert.Step32RefIdeal.τ).loc Cert.Step32RefIdeal.main_arg3)
      ∧ r.2.mem ((c.tc : Thread Cert.Step32RefIdeal.nD Cert.Step32RefIdeal.τ).loc Cert.Step32RefIdeal.main_arg4) = m ((c.tc : Thread Cert.Step32RefIdeal.nD Cert.Step32RefIdeal.τ).loc Cert.Step32RefIdeal.main_arg4)
      ∧ r.2.mem ((c.tc : Thread Cert.Step32RefIdeal.nD Cert.Step32RefIdeal.τ).loc Cert.Step32RefIdeal.main_arg5) = m ((c.tc : Thread Cert.Step32RefIdeal.nD Cert.Step32RefIdeal.τ).loc Cert.Step32RefIdeal.main_arg5)
      ∧ r.2.mem ((c.tc : Thread Cert.Step32RefIdeal.nD Cert.Step32RefIdeal.τ).loc Cert.Step32RefIdeal.main_arg6) = m ((c.tc : Thread Cert.Step32RefIdeal.nD Cert.Step32RefIdeal.τ).loc Cert.Step32RefIdeal.main_arg6))
      ∧ r.2.sem = fun _ => 0)

def quiescent_Step40 [hStep40 : Cert.Step40.Facts] : Prop :=
  ∀ (m : (ℓ : Loc Cert.Step40.nD Cert.Step40.τ Cert.Step40.sig) → Buf (Elt Bits) ℓ) (g : Dev Cert.Step40.nD → PrngReg), Pre_Step40 m →
    θ_run (Cert.Step40.defs (F := Bits)) (onTc (τ := Cert.Step40.τ) (Cert.Step40.main (F := Bits))) ⟨m, fun _ => 0, g⟩ (fun r => (∀ c : Dev Cert.Step40.nD,
      r.2.mem ((c.tc : Thread Cert.Step40.nD Cert.Step40.τ).loc Cert.Step40.main_arg0) = m ((c.tc : Thread Cert.Step40.nD Cert.Step40.τ).loc Cert.Step40.main_arg0)
      ∧ r.2.mem ((c.tc : Thread Cert.Step40.nD Cert.Step40.τ).loc Cert.Step40.main_arg1) = m ((c.tc : Thread Cert.Step40.nD Cert.Step40.τ).loc Cert.Step40.main_arg1)
      ∧ r.2.mem ((c.tc : Thread Cert.Step40.nD Cert.Step40.τ).loc Cert.Step40.main_arg2) = m ((c.tc : Thread Cert.Step40.nD Cert.Step40.τ).loc Cert.Step40.main_arg2)
      ∧ r.2.mem ((c.tc : Thread Cert.Step40.nD Cert.Step40.τ).loc Cert.Step40.main_arg3) = m ((c.tc : Thread Cert.Step40.nD Cert.Step40.τ).loc Cert.Step40.main_arg3)
      ∧ r.2.mem ((c.tc : Thread Cert.Step40.nD Cert.Step40.τ).loc Cert.Step40.main_arg4) = m ((c.tc : Thread Cert.Step40.nD Cert.Step40.τ).loc Cert.Step40.main_arg4)
      ∧ r.2.mem ((c.tc : Thread Cert.Step40.nD Cert.Step40.τ).loc Cert.Step40.main_arg5) = m ((c.tc : Thread Cert.Step40.nD Cert.Step40.τ).loc Cert.Step40.main_arg5)
      ∧ r.2.mem ((c.tc : Thread Cert.Step40.nD Cert.Step40.τ).loc Cert.Step40.main_arg6) = m ((c.tc : Thread Cert.Step40.nD Cert.Step40.τ).loc Cert.Step40.main_arg6))
      ∧ r.2.sem = fun _ => 0)

def quiescent_Step40Ideal [hStep40Ideal : Cert.Step40Ideal.Facts] : Prop :=
  ∀ (m : (ℓ : Loc Cert.Step40Ideal.nD Cert.Step40Ideal.τ Cert.Step40Ideal.sig) → Buf (Elt Ideal) ℓ) (g : Dev Cert.Step40Ideal.nD → PrngReg), Pre_Step40Ideal m →
    θ_run (Cert.Step40Ideal.defs (F := Ideal)) (onTc (τ := Cert.Step40Ideal.τ) (Cert.Step40Ideal.main (F := Ideal))) ⟨m, fun _ => 0, g⟩ (fun r => (∀ c : Dev Cert.Step40Ideal.nD,
      r.2.mem ((c.tc : Thread Cert.Step40Ideal.nD Cert.Step40Ideal.τ).loc Cert.Step40Ideal.main_arg0) = m ((c.tc : Thread Cert.Step40Ideal.nD Cert.Step40Ideal.τ).loc Cert.Step40Ideal.main_arg0)
      ∧ r.2.mem ((c.tc : Thread Cert.Step40Ideal.nD Cert.Step40Ideal.τ).loc Cert.Step40Ideal.main_arg1) = m ((c.tc : Thread Cert.Step40Ideal.nD Cert.Step40Ideal.τ).loc Cert.Step40Ideal.main_arg1)
      ∧ r.2.mem ((c.tc : Thread Cert.Step40Ideal.nD Cert.Step40Ideal.τ).loc Cert.Step40Ideal.main_arg2) = m ((c.tc : Thread Cert.Step40Ideal.nD Cert.Step40Ideal.τ).loc Cert.Step40Ideal.main_arg2)
      ∧ r.2.mem ((c.tc : Thread Cert.Step40Ideal.nD Cert.Step40Ideal.τ).loc Cert.Step40Ideal.main_arg3) = m ((c.tc : Thread Cert.Step40Ideal.nD Cert.Step40Ideal.τ).loc Cert.Step40Ideal.main_arg3)
      ∧ r.2.mem ((c.tc : Thread Cert.Step40Ideal.nD Cert.Step40Ideal.τ).loc Cert.Step40Ideal.main_arg4) = m ((c.tc : Thread Cert.Step40Ideal.nD Cert.Step40Ideal.τ).loc Cert.Step40Ideal.main_arg4)
      ∧ r.2.mem ((c.tc : Thread Cert.Step40Ideal.nD Cert.Step40Ideal.τ).loc Cert.Step40Ideal.main_arg5) = m ((c.tc : Thread Cert.Step40Ideal.nD Cert.Step40Ideal.τ).loc Cert.Step40Ideal.main_arg5)
      ∧ r.2.mem ((c.tc : Thread Cert.Step40Ideal.nD Cert.Step40Ideal.τ).loc Cert.Step40Ideal.main_arg6) = m ((c.tc : Thread Cert.Step40Ideal.nD Cert.Step40Ideal.τ).loc Cert.Step40Ideal.main_arg6))
      ∧ r.2.sem = fun _ => 0)

def quiescent_Step40RefIdeal [hStep40RefIdeal : Cert.Step40RefIdeal.Facts] : Prop :=
  ∀ (m : (ℓ : Loc Cert.Step40RefIdeal.nD Cert.Step40RefIdeal.τ Cert.Step40RefIdeal.sig) → Buf (Elt Ideal) ℓ) (g : Dev Cert.Step40RefIdeal.nD → PrngReg), Pre_Step40RefIdeal m →
    θ_run (Cert.Step40RefIdeal.defs (F := Ideal)) (onTc (τ := Cert.Step40RefIdeal.τ) (Cert.Step40RefIdeal.main (F := Ideal))) ⟨m, fun _ => 0, g⟩ (fun r => (∀ c : Dev Cert.Step40RefIdeal.nD,
      r.2.mem ((c.tc : Thread Cert.Step40RefIdeal.nD Cert.Step40RefIdeal.τ).loc Cert.Step40RefIdeal.main_arg0) = m ((c.tc : Thread Cert.Step40RefIdeal.nD Cert.Step40RefIdeal.τ).loc Cert.Step40RefIdeal.main_arg0)
      ∧ r.2.mem ((c.tc : Thread Cert.Step40RefIdeal.nD Cert.Step40RefIdeal.τ).loc Cert.Step40RefIdeal.main_arg1) = m ((c.tc : Thread Cert.Step40RefIdeal.nD Cert.Step40RefIdeal.τ).loc Cert.Step40RefIdeal.main_arg1)
      ∧ r.2.mem ((c.tc : Thread Cert.Step40RefIdeal.nD Cert.Step40RefIdeal.τ).loc Cert.Step40RefIdeal.main_arg2) = m ((c.tc : Thread Cert.Step40RefIdeal.nD Cert.Step40RefIdeal.τ).loc Cert.Step40RefIdeal.main_arg2)
      ∧ r.2.mem ((c.tc : Thread Cert.Step40RefIdeal.nD Cert.Step40RefIdeal.τ).loc Cert.Step40RefIdeal.main_arg3) = m ((c.tc : Thread Cert.Step40RefIdeal.nD Cert.Step40RefIdeal.τ).loc Cert.Step40RefIdeal.main_arg3)
      ∧ r.2.mem ((c.tc : Thread Cert.Step40RefIdeal.nD Cert.Step40RefIdeal.τ).loc Cert.Step40RefIdeal.main_arg4) = m ((c.tc : Thread Cert.Step40RefIdeal.nD Cert.Step40RefIdeal.τ).loc Cert.Step40RefIdeal.main_arg4)
      ∧ r.2.mem ((c.tc : Thread Cert.Step40RefIdeal.nD Cert.Step40RefIdeal.τ).loc Cert.Step40RefIdeal.main_arg5) = m ((c.tc : Thread Cert.Step40RefIdeal.nD Cert.Step40RefIdeal.τ).loc Cert.Step40RefIdeal.main_arg5)
      ∧ r.2.mem ((c.tc : Thread Cert.Step40RefIdeal.nD Cert.Step40RefIdeal.τ).loc Cert.Step40RefIdeal.main_arg6) = m ((c.tc : Thread Cert.Step40RefIdeal.nD Cert.Step40RefIdeal.τ).loc Cert.Step40RefIdeal.main_arg6))
      ∧ r.2.sem = fun _ => 0)

def quiescent_Step48 [hStep48 : Cert.Step48.Facts] : Prop :=
  ∀ (m : (ℓ : Loc Cert.Step48.nD Cert.Step48.τ Cert.Step48.sig) → Buf (Elt Bits) ℓ) (g : Dev Cert.Step48.nD → PrngReg), Pre_Step48 m →
    θ_run (Cert.Step48.defs (F := Bits)) (onTc (τ := Cert.Step48.τ) (Cert.Step48.main (F := Bits))) ⟨m, fun _ => 0, g⟩ (fun r => (∀ c : Dev Cert.Step48.nD,
      r.2.mem ((c.tc : Thread Cert.Step48.nD Cert.Step48.τ).loc Cert.Step48.main_arg0) = m ((c.tc : Thread Cert.Step48.nD Cert.Step48.τ).loc Cert.Step48.main_arg0)
      ∧ r.2.mem ((c.tc : Thread Cert.Step48.nD Cert.Step48.τ).loc Cert.Step48.main_arg1) = m ((c.tc : Thread Cert.Step48.nD Cert.Step48.τ).loc Cert.Step48.main_arg1)
      ∧ r.2.mem ((c.tc : Thread Cert.Step48.nD Cert.Step48.τ).loc Cert.Step48.main_arg2) = m ((c.tc : Thread Cert.Step48.nD Cert.Step48.τ).loc Cert.Step48.main_arg2)
      ∧ r.2.mem ((c.tc : Thread Cert.Step48.nD Cert.Step48.τ).loc Cert.Step48.main_arg3) = m ((c.tc : Thread Cert.Step48.nD Cert.Step48.τ).loc Cert.Step48.main_arg3)
      ∧ r.2.mem ((c.tc : Thread Cert.Step48.nD Cert.Step48.τ).loc Cert.Step48.main_arg4) = m ((c.tc : Thread Cert.Step48.nD Cert.Step48.τ).loc Cert.Step48.main_arg4)
      ∧ r.2.mem ((c.tc : Thread Cert.Step48.nD Cert.Step48.τ).loc Cert.Step48.main_arg5) = m ((c.tc : Thread Cert.Step48.nD Cert.Step48.τ).loc Cert.Step48.main_arg5)
      ∧ r.2.mem ((c.tc : Thread Cert.Step48.nD Cert.Step48.τ).loc Cert.Step48.main_arg6) = m ((c.tc : Thread Cert.Step48.nD Cert.Step48.τ).loc Cert.Step48.main_arg6))
      ∧ r.2.sem = fun _ => 0)

def quiescent_Step48Ideal [hStep48Ideal : Cert.Step48Ideal.Facts] : Prop :=
  ∀ (m : (ℓ : Loc Cert.Step48Ideal.nD Cert.Step48Ideal.τ Cert.Step48Ideal.sig) → Buf (Elt Ideal) ℓ) (g : Dev Cert.Step48Ideal.nD → PrngReg), Pre_Step48Ideal m →
    θ_run (Cert.Step48Ideal.defs (F := Ideal)) (onTc (τ := Cert.Step48Ideal.τ) (Cert.Step48Ideal.main (F := Ideal))) ⟨m, fun _ => 0, g⟩ (fun r => (∀ c : Dev Cert.Step48Ideal.nD,
      r.2.mem ((c.tc : Thread Cert.Step48Ideal.nD Cert.Step48Ideal.τ).loc Cert.Step48Ideal.main_arg0) = m ((c.tc : Thread Cert.Step48Ideal.nD Cert.Step48Ideal.τ).loc Cert.Step48Ideal.main_arg0)
      ∧ r.2.mem ((c.tc : Thread Cert.Step48Ideal.nD Cert.Step48Ideal.τ).loc Cert.Step48Ideal.main_arg1) = m ((c.tc : Thread Cert.Step48Ideal.nD Cert.Step48Ideal.τ).loc Cert.Step48Ideal.main_arg1)
      ∧ r.2.mem ((c.tc : Thread Cert.Step48Ideal.nD Cert.Step48Ideal.τ).loc Cert.Step48Ideal.main_arg2) = m ((c.tc : Thread Cert.Step48Ideal.nD Cert.Step48Ideal.τ).loc Cert.Step48Ideal.main_arg2)
      ∧ r.2.mem ((c.tc : Thread Cert.Step48Ideal.nD Cert.Step48Ideal.τ).loc Cert.Step48Ideal.main_arg3) = m ((c.tc : Thread Cert.Step48Ideal.nD Cert.Step48Ideal.τ).loc Cert.Step48Ideal.main_arg3)
      ∧ r.2.mem ((c.tc : Thread Cert.Step48Ideal.nD Cert.Step48Ideal.τ).loc Cert.Step48Ideal.main_arg4) = m ((c.tc : Thread Cert.Step48Ideal.nD Cert.Step48Ideal.τ).loc Cert.Step48Ideal.main_arg4)
      ∧ r.2.mem ((c.tc : Thread Cert.Step48Ideal.nD Cert.Step48Ideal.τ).loc Cert.Step48Ideal.main_arg5) = m ((c.tc : Thread Cert.Step48Ideal.nD Cert.Step48Ideal.τ).loc Cert.Step48Ideal.main_arg5)
      ∧ r.2.mem ((c.tc : Thread Cert.Step48Ideal.nD Cert.Step48Ideal.τ).loc Cert.Step48Ideal.main_arg6) = m ((c.tc : Thread Cert.Step48Ideal.nD Cert.Step48Ideal.τ).loc Cert.Step48Ideal.main_arg6))
      ∧ r.2.sem = fun _ => 0)

def quiescent_Step48RefIdeal [hStep48RefIdeal : Cert.Step48RefIdeal.Facts] : Prop :=
  ∀ (m : (ℓ : Loc Cert.Step48RefIdeal.nD Cert.Step48RefIdeal.τ Cert.Step48RefIdeal.sig) → Buf (Elt Ideal) ℓ) (g : Dev Cert.Step48RefIdeal.nD → PrngReg), Pre_Step48RefIdeal m →
    θ_run (Cert.Step48RefIdeal.defs (F := Ideal)) (onTc (τ := Cert.Step48RefIdeal.τ) (Cert.Step48RefIdeal.main (F := Ideal))) ⟨m, fun _ => 0, g⟩ (fun r => (∀ c : Dev Cert.Step48RefIdeal.nD,
      r.2.mem ((c.tc : Thread Cert.Step48RefIdeal.nD Cert.Step48RefIdeal.τ).loc Cert.Step48RefIdeal.main_arg0) = m ((c.tc : Thread Cert.Step48RefIdeal.nD Cert.Step48RefIdeal.τ).loc Cert.Step48RefIdeal.main_arg0)
      ∧ r.2.mem ((c.tc : Thread Cert.Step48RefIdeal.nD Cert.Step48RefIdeal.τ).loc Cert.Step48RefIdeal.main_arg1) = m ((c.tc : Thread Cert.Step48RefIdeal.nD Cert.Step48RefIdeal.τ).loc Cert.Step48RefIdeal.main_arg1)
      ∧ r.2.mem ((c.tc : Thread Cert.Step48RefIdeal.nD Cert.Step48RefIdeal.τ).loc Cert.Step48RefIdeal.main_arg2) = m ((c.tc : Thread Cert.Step48RefIdeal.nD Cert.Step48RefIdeal.τ).loc Cert.Step48RefIdeal.main_arg2)
      ∧ r.2.mem ((c.tc : Thread Cert.Step48RefIdeal.nD Cert.Step48RefIdeal.τ).loc Cert.Step48RefIdeal.main_arg3) = m ((c.tc : Thread Cert.Step48RefIdeal.nD Cert.Step48RefIdeal.τ).loc Cert.Step48RefIdeal.main_arg3)
      ∧ r.2.mem ((c.tc : Thread Cert.Step48RefIdeal.nD Cert.Step48RefIdeal.τ).loc Cert.Step48RefIdeal.main_arg4) = m ((c.tc : Thread Cert.Step48RefIdeal.nD Cert.Step48RefIdeal.τ).loc Cert.Step48RefIdeal.main_arg4)
      ∧ r.2.mem ((c.tc : Thread Cert.Step48RefIdeal.nD Cert.Step48RefIdeal.τ).loc Cert.Step48RefIdeal.main_arg5) = m ((c.tc : Thread Cert.Step48RefIdeal.nD Cert.Step48RefIdeal.τ).loc Cert.Step48RefIdeal.main_arg5)
      ∧ r.2.mem ((c.tc : Thread Cert.Step48RefIdeal.nD Cert.Step48RefIdeal.τ).loc Cert.Step48RefIdeal.main_arg6) = m ((c.tc : Thread Cert.Step48RefIdeal.nD Cert.Step48RefIdeal.τ).loc Cert.Step48RefIdeal.main_arg6))
      ∧ r.2.sem = fun _ => 0)

def quiescent_Step56 [hStep56 : Cert.Step56.Facts] : Prop :=
  ∀ (m : (ℓ : Loc Cert.Step56.nD Cert.Step56.τ Cert.Step56.sig) → Buf (Elt Bits) ℓ) (g : Dev Cert.Step56.nD → PrngReg), Pre_Step56 m →
    θ_run (Cert.Step56.defs (F := Bits)) (onTc (τ := Cert.Step56.τ) (Cert.Step56.main (F := Bits))) ⟨m, fun _ => 0, g⟩ (fun r => (∀ c : Dev Cert.Step56.nD,
      r.2.mem ((c.tc : Thread Cert.Step56.nD Cert.Step56.τ).loc Cert.Step56.main_arg0) = m ((c.tc : Thread Cert.Step56.nD Cert.Step56.τ).loc Cert.Step56.main_arg0)
      ∧ r.2.mem ((c.tc : Thread Cert.Step56.nD Cert.Step56.τ).loc Cert.Step56.main_arg1) = m ((c.tc : Thread Cert.Step56.nD Cert.Step56.τ).loc Cert.Step56.main_arg1)
      ∧ r.2.mem ((c.tc : Thread Cert.Step56.nD Cert.Step56.τ).loc Cert.Step56.main_arg2) = m ((c.tc : Thread Cert.Step56.nD Cert.Step56.τ).loc Cert.Step56.main_arg2)
      ∧ r.2.mem ((c.tc : Thread Cert.Step56.nD Cert.Step56.τ).loc Cert.Step56.main_arg3) = m ((c.tc : Thread Cert.Step56.nD Cert.Step56.τ).loc Cert.Step56.main_arg3)
      ∧ r.2.mem ((c.tc : Thread Cert.Step56.nD Cert.Step56.τ).loc Cert.Step56.main_arg4) = m ((c.tc : Thread Cert.Step56.nD Cert.Step56.τ).loc Cert.Step56.main_arg4)
      ∧ r.2.mem ((c.tc : Thread Cert.Step56.nD Cert.Step56.τ).loc Cert.Step56.main_arg5) = m ((c.tc : Thread Cert.Step56.nD Cert.Step56.τ).loc Cert.Step56.main_arg5)
      ∧ r.2.mem ((c.tc : Thread Cert.Step56.nD Cert.Step56.τ).loc Cert.Step56.main_arg6) = m ((c.tc : Thread Cert.Step56.nD Cert.Step56.τ).loc Cert.Step56.main_arg6))
      ∧ r.2.sem = fun _ => 0)

def quiescent_Step56Ideal [hStep56Ideal : Cert.Step56Ideal.Facts] : Prop :=
  ∀ (m : (ℓ : Loc Cert.Step56Ideal.nD Cert.Step56Ideal.τ Cert.Step56Ideal.sig) → Buf (Elt Ideal) ℓ) (g : Dev Cert.Step56Ideal.nD → PrngReg), Pre_Step56Ideal m →
    θ_run (Cert.Step56Ideal.defs (F := Ideal)) (onTc (τ := Cert.Step56Ideal.τ) (Cert.Step56Ideal.main (F := Ideal))) ⟨m, fun _ => 0, g⟩ (fun r => (∀ c : Dev Cert.Step56Ideal.nD,
      r.2.mem ((c.tc : Thread Cert.Step56Ideal.nD Cert.Step56Ideal.τ).loc Cert.Step56Ideal.main_arg0) = m ((c.tc : Thread Cert.Step56Ideal.nD Cert.Step56Ideal.τ).loc Cert.Step56Ideal.main_arg0)
      ∧ r.2.mem ((c.tc : Thread Cert.Step56Ideal.nD Cert.Step56Ideal.τ).loc Cert.Step56Ideal.main_arg1) = m ((c.tc : Thread Cert.Step56Ideal.nD Cert.Step56Ideal.τ).loc Cert.Step56Ideal.main_arg1)
      ∧ r.2.mem ((c.tc : Thread Cert.Step56Ideal.nD Cert.Step56Ideal.τ).loc Cert.Step56Ideal.main_arg2) = m ((c.tc : Thread Cert.Step56Ideal.nD Cert.Step56Ideal.τ).loc Cert.Step56Ideal.main_arg2)
      ∧ r.2.mem ((c.tc : Thread Cert.Step56Ideal.nD Cert.Step56Ideal.τ).loc Cert.Step56Ideal.main_arg3) = m ((c.tc : Thread Cert.Step56Ideal.nD Cert.Step56Ideal.τ).loc Cert.Step56Ideal.main_arg3)
      ∧ r.2.mem ((c.tc : Thread Cert.Step56Ideal.nD Cert.Step56Ideal.τ).loc Cert.Step56Ideal.main_arg4) = m ((c.tc : Thread Cert.Step56Ideal.nD Cert.Step56Ideal.τ).loc Cert.Step56Ideal.main_arg4)
      ∧ r.2.mem ((c.tc : Thread Cert.Step56Ideal.nD Cert.Step56Ideal.τ).loc Cert.Step56Ideal.main_arg5) = m ((c.tc : Thread Cert.Step56Ideal.nD Cert.Step56Ideal.τ).loc Cert.Step56Ideal.main_arg5)
      ∧ r.2.mem ((c.tc : Thread Cert.Step56Ideal.nD Cert.Step56Ideal.τ).loc Cert.Step56Ideal.main_arg6) = m ((c.tc : Thread Cert.Step56Ideal.nD Cert.Step56Ideal.τ).loc Cert.Step56Ideal.main_arg6))
      ∧ r.2.sem = fun _ => 0)

def quiescent_Step56RefIdeal [hStep56RefIdeal : Cert.Step56RefIdeal.Facts] : Prop :=
  ∀ (m : (ℓ : Loc Cert.Step56RefIdeal.nD Cert.Step56RefIdeal.τ Cert.Step56RefIdeal.sig) → Buf (Elt Ideal) ℓ) (g : Dev Cert.Step56RefIdeal.nD → PrngReg), Pre_Step56RefIdeal m →
    θ_run (Cert.Step56RefIdeal.defs (F := Ideal)) (onTc (τ := Cert.Step56RefIdeal.τ) (Cert.Step56RefIdeal.main (F := Ideal))) ⟨m, fun _ => 0, g⟩ (fun r => (∀ c : Dev Cert.Step56RefIdeal.nD,
      r.2.mem ((c.tc : Thread Cert.Step56RefIdeal.nD Cert.Step56RefIdeal.τ).loc Cert.Step56RefIdeal.main_arg0) = m ((c.tc : Thread Cert.Step56RefIdeal.nD Cert.Step56RefIdeal.τ).loc Cert.Step56RefIdeal.main_arg0)
      ∧ r.2.mem ((c.tc : Thread Cert.Step56RefIdeal.nD Cert.Step56RefIdeal.τ).loc Cert.Step56RefIdeal.main_arg1) = m ((c.tc : Thread Cert.Step56RefIdeal.nD Cert.Step56RefIdeal.τ).loc Cert.Step56RefIdeal.main_arg1)
      ∧ r.2.mem ((c.tc : Thread Cert.Step56RefIdeal.nD Cert.Step56RefIdeal.τ).loc Cert.Step56RefIdeal.main_arg2) = m ((c.tc : Thread Cert.Step56RefIdeal.nD Cert.Step56RefIdeal.τ).loc Cert.Step56RefIdeal.main_arg2)
      ∧ r.2.mem ((c.tc : Thread Cert.Step56RefIdeal.nD Cert.Step56RefIdeal.τ).loc Cert.Step56RefIdeal.main_arg3) = m ((c.tc : Thread Cert.Step56RefIdeal.nD Cert.Step56RefIdeal.τ).loc Cert.Step56RefIdeal.main_arg3)
      ∧ r.2.mem ((c.tc : Thread Cert.Step56RefIdeal.nD Cert.Step56RefIdeal.τ).loc Cert.Step56RefIdeal.main_arg4) = m ((c.tc : Thread Cert.Step56RefIdeal.nD Cert.Step56RefIdeal.τ).loc Cert.Step56RefIdeal.main_arg4)
      ∧ r.2.mem ((c.tc : Thread Cert.Step56RefIdeal.nD Cert.Step56RefIdeal.τ).loc Cert.Step56RefIdeal.main_arg5) = m ((c.tc : Thread Cert.Step56RefIdeal.nD Cert.Step56RefIdeal.τ).loc Cert.Step56RefIdeal.main_arg5)
      ∧ r.2.mem ((c.tc : Thread Cert.Step56RefIdeal.nD Cert.Step56RefIdeal.τ).loc Cert.Step56RefIdeal.main_arg6) = m ((c.tc : Thread Cert.Step56RefIdeal.nD Cert.Step56RefIdeal.τ).loc Cert.Step56RefIdeal.main_arg6))
      ∧ r.2.sem = fun _ => 0)

def quiescent_Step64 [hStep64 : Cert.Step64.Facts] : Prop :=
  ∀ (m : (ℓ : Loc Cert.Step64.nD Cert.Step64.τ Cert.Step64.sig) → Buf (Elt Bits) ℓ) (g : Dev Cert.Step64.nD → PrngReg), Pre_Step64 m →
    θ_run (Cert.Step64.defs (F := Bits)) (onTc (τ := Cert.Step64.τ) (Cert.Step64.main (F := Bits))) ⟨m, fun _ => 0, g⟩ (fun r => (∀ c : Dev Cert.Step64.nD,
      r.2.mem ((c.tc : Thread Cert.Step64.nD Cert.Step64.τ).loc Cert.Step64.main_arg0) = m ((c.tc : Thread Cert.Step64.nD Cert.Step64.τ).loc Cert.Step64.main_arg0)
      ∧ r.2.mem ((c.tc : Thread Cert.Step64.nD Cert.Step64.τ).loc Cert.Step64.main_arg1) = m ((c.tc : Thread Cert.Step64.nD Cert.Step64.τ).loc Cert.Step64.main_arg1)
      ∧ r.2.mem ((c.tc : Thread Cert.Step64.nD Cert.Step64.τ).loc Cert.Step64.main_arg2) = m ((c.tc : Thread Cert.Step64.nD Cert.Step64.τ).loc Cert.Step64.main_arg2)
      ∧ r.2.mem ((c.tc : Thread Cert.Step64.nD Cert.Step64.τ).loc Cert.Step64.main_arg3) = m ((c.tc : Thread Cert.Step64.nD Cert.Step64.τ).loc Cert.Step64.main_arg3)
      ∧ r.2.mem ((c.tc : Thread Cert.Step64.nD Cert.Step64.τ).loc Cert.Step64.main_arg4) = m ((c.tc : Thread Cert.Step64.nD Cert.Step64.τ).loc Cert.Step64.main_arg4)
      ∧ r.2.mem ((c.tc : Thread Cert.Step64.nD Cert.Step64.τ).loc Cert.Step64.main_arg5) = m ((c.tc : Thread Cert.Step64.nD Cert.Step64.τ).loc Cert.Step64.main_arg5)
      ∧ r.2.mem ((c.tc : Thread Cert.Step64.nD Cert.Step64.τ).loc Cert.Step64.main_arg6) = m ((c.tc : Thread Cert.Step64.nD Cert.Step64.τ).loc Cert.Step64.main_arg6))
      ∧ r.2.sem = fun _ => 0)

def quiescent_Step64Ideal [hStep64Ideal : Cert.Step64Ideal.Facts] : Prop :=
  ∀ (m : (ℓ : Loc Cert.Step64Ideal.nD Cert.Step64Ideal.τ Cert.Step64Ideal.sig) → Buf (Elt Ideal) ℓ) (g : Dev Cert.Step64Ideal.nD → PrngReg), Pre_Step64Ideal m →
    θ_run (Cert.Step64Ideal.defs (F := Ideal)) (onTc (τ := Cert.Step64Ideal.τ) (Cert.Step64Ideal.main (F := Ideal))) ⟨m, fun _ => 0, g⟩ (fun r => (∀ c : Dev Cert.Step64Ideal.nD,
      r.2.mem ((c.tc : Thread Cert.Step64Ideal.nD Cert.Step64Ideal.τ).loc Cert.Step64Ideal.main_arg0) = m ((c.tc : Thread Cert.Step64Ideal.nD Cert.Step64Ideal.τ).loc Cert.Step64Ideal.main_arg0)
      ∧ r.2.mem ((c.tc : Thread Cert.Step64Ideal.nD Cert.Step64Ideal.τ).loc Cert.Step64Ideal.main_arg1) = m ((c.tc : Thread Cert.Step64Ideal.nD Cert.Step64Ideal.τ).loc Cert.Step64Ideal.main_arg1)
      ∧ r.2.mem ((c.tc : Thread Cert.Step64Ideal.nD Cert.Step64Ideal.τ).loc Cert.Step64Ideal.main_arg2) = m ((c.tc : Thread Cert.Step64Ideal.nD Cert.Step64Ideal.τ).loc Cert.Step64Ideal.main_arg2)
      ∧ r.2.mem ((c.tc : Thread Cert.Step64Ideal.nD Cert.Step64Ideal.τ).loc Cert.Step64Ideal.main_arg3) = m ((c.tc : Thread Cert.Step64Ideal.nD Cert.Step64Ideal.τ).loc Cert.Step64Ideal.main_arg3)
      ∧ r.2.mem ((c.tc : Thread Cert.Step64Ideal.nD Cert.Step64Ideal.τ).loc Cert.Step64Ideal.main_arg4) = m ((c.tc : Thread Cert.Step64Ideal.nD Cert.Step64Ideal.τ).loc Cert.Step64Ideal.main_arg4)
      ∧ r.2.mem ((c.tc : Thread Cert.Step64Ideal.nD Cert.Step64Ideal.τ).loc Cert.Step64Ideal.main_arg5) = m ((c.tc : Thread Cert.Step64Ideal.nD Cert.Step64Ideal.τ).loc Cert.Step64Ideal.main_arg5)
      ∧ r.2.mem ((c.tc : Thread Cert.Step64Ideal.nD Cert.Step64Ideal.τ).loc Cert.Step64Ideal.main_arg6) = m ((c.tc : Thread Cert.Step64Ideal.nD Cert.Step64Ideal.τ).loc Cert.Step64Ideal.main_arg6))
      ∧ r.2.sem = fun _ => 0)

def quiescent_Step64RefIdeal [hStep64RefIdeal : Cert.Step64RefIdeal.Facts] : Prop :=
  ∀ (m : (ℓ : Loc Cert.Step64RefIdeal.nD Cert.Step64RefIdeal.τ Cert.Step64RefIdeal.sig) → Buf (Elt Ideal) ℓ) (g : Dev Cert.Step64RefIdeal.nD → PrngReg), Pre_Step64RefIdeal m →
    θ_run (Cert.Step64RefIdeal.defs (F := Ideal)) (onTc (τ := Cert.Step64RefIdeal.τ) (Cert.Step64RefIdeal.main (F := Ideal))) ⟨m, fun _ => 0, g⟩ (fun r => (∀ c : Dev Cert.Step64RefIdeal.nD,
      r.2.mem ((c.tc : Thread Cert.Step64RefIdeal.nD Cert.Step64RefIdeal.τ).loc Cert.Step64RefIdeal.main_arg0) = m ((c.tc : Thread Cert.Step64RefIdeal.nD Cert.Step64RefIdeal.τ).loc Cert.Step64RefIdeal.main_arg0)
      ∧ r.2.mem ((c.tc : Thread Cert.Step64RefIdeal.nD Cert.Step64RefIdeal.τ).loc Cert.Step64RefIdeal.main_arg1) = m ((c.tc : Thread Cert.Step64RefIdeal.nD Cert.Step64RefIdeal.τ).loc Cert.Step64RefIdeal.main_arg1)
      ∧ r.2.mem ((c.tc : Thread Cert.Step64RefIdeal.nD Cert.Step64RefIdeal.τ).loc Cert.Step64RefIdeal.main_arg2) = m ((c.tc : Thread Cert.Step64RefIdeal.nD Cert.Step64RefIdeal.τ).loc Cert.Step64RefIdeal.main_arg2)
      ∧ r.2.mem ((c.tc : Thread Cert.Step64RefIdeal.nD Cert.Step64RefIdeal.τ).loc Cert.Step64RefIdeal.main_arg3) = m ((c.tc : Thread Cert.Step64RefIdeal.nD Cert.Step64RefIdeal.τ).loc Cert.Step64RefIdeal.main_arg3)
      ∧ r.2.mem ((c.tc : Thread Cert.Step64RefIdeal.nD Cert.Step64RefIdeal.τ).loc Cert.Step64RefIdeal.main_arg4) = m ((c.tc : Thread Cert.Step64RefIdeal.nD Cert.Step64RefIdeal.τ).loc Cert.Step64RefIdeal.main_arg4)
      ∧ r.2.mem ((c.tc : Thread Cert.Step64RefIdeal.nD Cert.Step64RefIdeal.τ).loc Cert.Step64RefIdeal.main_arg5) = m ((c.tc : Thread Cert.Step64RefIdeal.nD Cert.Step64RefIdeal.τ).loc Cert.Step64RefIdeal.main_arg5)
      ∧ r.2.mem ((c.tc : Thread Cert.Step64RefIdeal.nD Cert.Step64RefIdeal.τ).loc Cert.Step64RefIdeal.main_arg6) = m ((c.tc : Thread Cert.Step64RefIdeal.nD Cert.Step64RefIdeal.τ).loc Cert.Step64RefIdeal.main_arg6))
      ∧ r.2.sem = fun _ => 0)

def preserves_Last_LastIdeal : Prop :=
  IdealRules.named_const.Statement Cert.LastIdeal.κ "neg" .f32 0xF149F2CA#32 ⊥
  ∧ IdealRules.named_const.Statement Cert.LastIdeal.κ "low" .f32 0xFF61B1E6#32 ⊥

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v18_1)) (v1 : (c : Dev Cert.LastIdeal.nD) → Buf (Elt Ideal) ((c.tc : Thread Cert.LastIdeal.nD Cert.LastIdeal.τ).loc Cert.LastIdeal.main_v19)) (v2 : (c : Dev Cert.LastIdeal.nD) → Buf (Elt Ideal) ((c.tc : Thread Cert.LastIdeal.nD Cert.LastIdeal.τ).loc Cert.LastIdeal.main_v18_0)) (v3 : (c : Dev Cert.LastIdeal.nD) → Buf (Elt Ideal) ((c.tc : Thread Cert.LastIdeal.nD Cert.LastIdeal.τ).loc Cert.LastIdeal.main_v18_2)) (v4 : (c : Dev Cert.LastIdeal.nD) → Buf (Elt Ideal) ((c.tc : Thread Cert.LastIdeal.nD Cert.LastIdeal.τ).loc Cert.LastIdeal.main_v18_3)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v18_1) = v0 c
          ∧ r.2.mem ((c.tc : Thread Cert.LastIdeal.nD Cert.LastIdeal.τ).loc Cert.LastIdeal.main_v19) = v1 c
          ∧ r.2.mem ((c.tc : Thread Cert.LastIdeal.nD Cert.LastIdeal.τ).loc Cert.LastIdeal.main_v18_0) = v2 c
          ∧ r.2.mem ((c.tc : Thread Cert.LastIdeal.nD Cert.LastIdeal.τ).loc Cert.LastIdeal.main_v18_2) = v3 c
          ∧ r.2.mem ((c.tc : Thread Cert.LastIdeal.nD Cert.LastIdeal.τ).loc Cert.LastIdeal.main_v18_3) = v4 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v25) = v0 c
          ∧ r.2.mem ((c.tc : Thread Cert.LastRefIdeal.nD Cert.LastRefIdeal.τ).loc Cert.LastRefIdeal.main_v22) = v1 c
          ∧ r.2.mem ((c.tc : Thread Cert.LastRefIdeal.nD Cert.LastRefIdeal.τ).loc Cert.LastRefIdeal.main_v26) = v2 c
          ∧ r.2.mem ((c.tc : Thread Cert.LastRefIdeal.nD Cert.LastRefIdeal.τ).loc Cert.LastRefIdeal.main_v60) = v3 c
          ∧ r.2.mem ((c.tc : Thread Cert.LastRefIdeal.nD Cert.LastRefIdeal.τ).loc Cert.LastRefIdeal.main_v58) = v4 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6))

def preserves_Topk_TopkIdeal : Prop :=
  IdealRules.named_const.Statement Cert.TopkIdeal.κ "neg" .f32 0xF149F2CA#32 ⊥
  ∧ IdealRules.named_const.Statement Cert.TopkIdeal.κ "low" .f32 0xFF61B1E6#32 ⊥

def algebraic_TopkIdeal_TopkRefIdeal [hTopkIdeal : Cert.TopkIdeal.Facts] [hTopkRefIdeal : Cert.TopkRefIdeal.Facts] : Prop :=
  ∀ (m : (ℓ : Loc Cert.TopkIdeal.nD Cert.TopkIdeal.τ Cert.TopkIdeal.sig) → Buf (Elt Ideal) ℓ) (g : Dev Cert.TopkIdeal.nD → PrngReg)
    (m' : (ℓ : Loc Cert.TopkRefIdeal.nD Cert.TopkRefIdeal.τ Cert.TopkRefIdeal.sig) → Buf (Elt Ideal) ℓ) (g' : Dev Cert.TopkRefIdeal.nD → PrngReg), Pre_TopkIdeal m →
    (∀ c : Dev Cert.TopkIdeal.nD,
      m' ((c.tc : Thread Cert.TopkRefIdeal.nD Cert.TopkRefIdeal.τ).loc Cert.TopkRefIdeal.main_arg0) = m ((c.tc : Thread Cert.TopkIdeal.nD Cert.TopkIdeal.τ).loc Cert.TopkIdeal.main_arg0)
      ∧ m' ((c.tc : Thread Cert.TopkRefIdeal.nD Cert.TopkRefIdeal.τ).loc Cert.TopkRefIdeal.main_arg1) = m ((c.tc : Thread Cert.TopkIdeal.nD Cert.TopkIdeal.τ).loc Cert.TopkIdeal.main_arg1)) →
    ∃ (v0 : (c : Dev Cert.TopkIdeal.nD) → Buf (Elt Ideal) ((c.tc : Thread Cert.TopkIdeal.nD Cert.TopkIdeal.τ).loc Cert.TopkIdeal.main_v0_0)) (v1 : (c : Dev Cert.TopkIdeal.nD) → Buf (Elt Ideal) ((c.tc : Thread Cert.TopkIdeal.nD Cert.TopkIdeal.τ).loc Cert.TopkIdeal.main_v0_1)),
      θ_run (Cert.TopkIdeal.defs (F := Ideal)) (onTc (τ := Cert.TopkIdeal.τ) (Cert.TopkIdeal.main (F := Ideal))) ⟨m, fun _ => 0, g⟩ (fun r => ∀ c : Dev Cert.TopkIdeal.nD,
          r.2.mem ((c.tc : Thread Cert.TopkIdeal.nD Cert.TopkIdeal.τ).loc Cert.TopkIdeal.main_v0_0) = v0 c
          ∧ r.2.mem ((c.tc : Thread Cert.TopkIdeal.nD Cert.TopkIdeal.τ).loc Cert.TopkIdeal.main_v0_1) = v1 c
          ∧ r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
          ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ θ_run (Cert.TopkRefIdeal.defs (F := Ideal)) (onTc (τ := Cert.TopkRefIdeal.τ) (Cert.TopkRefIdeal.main (F := Ideal))) ⟨m', fun _ => 0, g'⟩ (fun r => ∀ c : Dev Cert.TopkRefIdeal.nD,
          r.2.mem ((c.tc : Thread Cert.TopkRefIdeal.nD Cert.TopkRefIdeal.τ).loc Cert.TopkRefIdeal.main_v11) = v0 c
          ∧ r.2.mem ((c.tc : Thread Cert.TopkRefIdeal.nD Cert.TopkRefIdeal.τ).loc Cert.TopkRefIdeal.main_v12) = v1 c
          ∧ r.2.mem ((c.tc : Thread Cert.TopkRefIdeal.nD Cert.TopkRefIdeal.τ).loc Cert.TopkRefIdeal.main_arg0) = m' ((c.tc : Thread Cert.TopkRefIdeal.nD Cert.TopkRefIdeal.τ).loc Cert.TopkRefIdeal.main_arg0)
          ∧ r.2.mem ((c.tc : Thread Cert.TopkRefIdeal.nD Cert.TopkRefIdeal.τ).loc Cert.TopkRefIdeal.main_arg1) = m' ((c.tc : Thread Cert.TopkRefIdeal.nD Cert.TopkRefIdeal.τ).loc Cert.TopkRefIdeal.main_arg1))

def preserves_Xw_XwIdeal : Prop :=
  True

def algebraic_XwIdeal_XwRefIdeal [hXwIdeal : Cert.XwIdeal.Facts] [hXwRefIdeal : Cert.XwRefIdeal.Facts] : Prop :=
  ∀ (m : (ℓ : Loc Cert.XwIdeal.nD Cert.XwIdeal.τ Cert.XwIdeal.sig) → Buf (Elt Ideal) ℓ) (g : Dev Cert.XwIdeal.nD → PrngReg)
    (m' : (ℓ : Loc Cert.XwRefIdeal.nD Cert.XwRefIdeal.τ Cert.XwRefIdeal.sig) → Buf (Elt Ideal) ℓ) (g' : Dev Cert.XwRefIdeal.nD → PrngReg), Pre_XwIdeal m →
    (∀ c : Dev Cert.XwIdeal.nD,
      m' ((c.tc : Thread Cert.XwRefIdeal.nD Cert.XwRefIdeal.τ).loc Cert.XwRefIdeal.main_arg0) = m ((c.tc : Thread Cert.XwIdeal.nD Cert.XwIdeal.τ).loc Cert.XwIdeal.main_arg0)
      ∧ m' ((c.tc : Thread Cert.XwRefIdeal.nD Cert.XwRefIdeal.τ).loc Cert.XwRefIdeal.main_arg1) = m ((c.tc : Thread Cert.XwIdeal.nD Cert.XwIdeal.τ).loc Cert.XwIdeal.main_arg1)
      ∧ m' ((c.tc : Thread Cert.XwRefIdeal.nD Cert.XwRefIdeal.τ).loc Cert.XwRefIdeal.main_arg2) = m ((c.tc : Thread Cert.XwIdeal.nD Cert.XwIdeal.τ).loc Cert.XwIdeal.main_arg2)) →
    ∃ (v0 : (c : Dev Cert.XwIdeal.nD) → Buf (Elt Ideal) ((c.tc : Thread Cert.XwIdeal.nD Cert.XwIdeal.τ).loc Cert.XwIdeal.main_v3)),
      θ_run (Cert.XwIdeal.defs (F := Ideal)) (onTc (τ := Cert.XwIdeal.τ) (Cert.XwIdeal.main (F := Ideal))) ⟨m, fun _ => 0, g⟩ (fun r => ∀ c : Dev Cert.XwIdeal.nD,
          r.2.mem ((c.tc : Thread Cert.XwIdeal.nD Cert.XwIdeal.τ).loc Cert.XwIdeal.main_v3) = v0 c
          ∧ r.2.mem ((c.tc : Thread Cert.XwIdeal.nD Cert.XwIdeal.τ).loc Cert.XwIdeal.main_arg0) = m ((c.tc : Thread Cert.XwIdeal.nD Cert.XwIdeal.τ).loc Cert.XwIdeal.main_arg0)
          ∧ r.2.mem ((c.tc : Thread Cert.XwIdeal.nD Cert.XwIdeal.τ).loc Cert.XwIdeal.main_arg1) = m ((c.tc : Thread Cert.XwIdeal.nD Cert.XwIdeal.τ).loc Cert.XwIdeal.main_arg1)
          ∧ r.2.mem ((c.tc : Thread Cert.XwIdeal.nD Cert.XwIdeal.τ).loc Cert.XwIdeal.main_arg2) = m ((c.tc : Thread Cert.XwIdeal.nD Cert.XwIdeal.τ).loc Cert.XwIdeal.main_arg2))
      ∧ θ_run (Cert.XwRefIdeal.defs (F := Ideal)) (onTc (τ := Cert.XwRefIdeal.τ) (Cert.XwRefIdeal.main (F := Ideal))) ⟨m', fun _ => 0, g'⟩ (fun r => ∀ c : Dev Cert.XwRefIdeal.nD,
          r.2.mem ((c.tc : Thread Cert.XwRefIdeal.nD Cert.XwRefIdeal.τ).loc Cert.XwRefIdeal.main_v4) = v0 c
          ∧ r.2.mem ((c.tc : Thread Cert.XwRefIdeal.nD Cert.XwRefIdeal.τ).loc Cert.XwRefIdeal.main_arg0) = m' ((c.tc : Thread Cert.XwRefIdeal.nD Cert.XwRefIdeal.τ).loc Cert.XwRefIdeal.main_arg0)
          ∧ r.2.mem ((c.tc : Thread Cert.XwRefIdeal.nD Cert.XwRefIdeal.τ).loc Cert.XwRefIdeal.main_arg1) = m' ((c.tc : Thread Cert.XwRefIdeal.nD Cert.XwRefIdeal.τ).loc Cert.XwRefIdeal.main_arg1)
          ∧ r.2.mem ((c.tc : Thread Cert.XwRefIdeal.nD Cert.XwRefIdeal.τ).loc Cert.XwRefIdeal.main_arg2) = m' ((c.tc : Thread Cert.XwRefIdeal.nD Cert.XwRefIdeal.τ).loc Cert.XwRefIdeal.main_arg2))

def preserves_Step1_Step1Ideal : Prop :=
  True

def algebraic_Step1Ideal_Step1RefIdeal [hStep1Ideal : Cert.Step1Ideal.Facts] [hStep1RefIdeal : Cert.Step1RefIdeal.Facts] : Prop :=
  ∀ (m : (ℓ : Loc Cert.Step1Ideal.nD Cert.Step1Ideal.τ Cert.Step1Ideal.sig) → Buf (Elt Ideal) ℓ) (g : Dev Cert.Step1Ideal.nD → PrngReg)
    (m' : (ℓ : Loc Cert.Step1RefIdeal.nD Cert.Step1RefIdeal.τ Cert.Step1RefIdeal.sig) → Buf (Elt Ideal) ℓ) (g' : Dev Cert.Step1RefIdeal.nD → PrngReg), Pre_Step1Ideal m →
    (∀ c : Dev Cert.Step1Ideal.nD,
      m' ((c.tc : Thread Cert.Step1RefIdeal.nD Cert.Step1RefIdeal.τ).loc Cert.Step1RefIdeal.main_arg0) = m ((c.tc : Thread Cert.Step1Ideal.nD Cert.Step1Ideal.τ).loc Cert.Step1Ideal.main_arg0)
      ∧ m' ((c.tc : Thread Cert.Step1RefIdeal.nD Cert.Step1RefIdeal.τ).loc Cert.Step1RefIdeal.main_arg1) = m ((c.tc : Thread Cert.Step1Ideal.nD Cert.Step1Ideal.τ).loc Cert.Step1Ideal.main_arg1)
      ∧ m' ((c.tc : Thread Cert.Step1RefIdeal.nD Cert.Step1RefIdeal.τ).loc Cert.Step1RefIdeal.main_arg2) = m ((c.tc : Thread Cert.Step1Ideal.nD Cert.Step1Ideal.τ).loc Cert.Step1Ideal.main_arg2)
      ∧ m' ((c.tc : Thread Cert.Step1RefIdeal.nD Cert.Step1RefIdeal.τ).loc Cert.Step1RefIdeal.main_arg3) = m ((c.tc : Thread Cert.Step1Ideal.nD Cert.Step1Ideal.τ).loc Cert.Step1Ideal.main_arg3)
      ∧ m' ((c.tc : Thread Cert.Step1RefIdeal.nD Cert.Step1RefIdeal.τ).loc Cert.Step1RefIdeal.main_arg4) = m ((c.tc : Thread Cert.Step1Ideal.nD Cert.Step1Ideal.τ).loc Cert.Step1Ideal.main_arg4)
      ∧ m' ((c.tc : Thread Cert.Step1RefIdeal.nD Cert.Step1RefIdeal.τ).loc Cert.Step1RefIdeal.main_arg5) = m ((c.tc : Thread Cert.Step1Ideal.nD Cert.Step1Ideal.τ).loc Cert.Step1Ideal.main_arg5)
      ∧ m' ((c.tc : Thread Cert.Step1RefIdeal.nD Cert.Step1RefIdeal.τ).loc Cert.Step1RefIdeal.main_arg6) = m ((c.tc : Thread Cert.Step1Ideal.nD Cert.Step1Ideal.τ).loc Cert.Step1Ideal.main_arg6)) →
    ∃ (v0 : (c : Dev Cert.Step1Ideal.nD) → Buf (Elt Ideal) ((c.tc : Thread Cert.Step1Ideal.nD Cert.Step1Ideal.τ).loc Cert.Step1Ideal.main_v2_0)) (v1 : (c : Dev Cert.Step1Ideal.nD) → Buf (Elt Ideal) ((c.tc : Thread Cert.Step1Ideal.nD Cert.Step1Ideal.τ).loc Cert.Step1Ideal.main_v2_1)) (v2 : (c : Dev Cert.Step1Ideal.nD) → Buf (Elt Ideal) ((c.tc : Thread Cert.Step1Ideal.nD Cert.Step1Ideal.τ).loc Cert.Step1Ideal.main_v2_2)) (v3 : (c : Dev Cert.Step1Ideal.nD) → Buf (Elt Ideal) ((c.tc : Thread Cert.Step1Ideal.nD Cert.Step1Ideal.τ).loc Cert.Step1Ideal.main_v2_3)),
      θ_run (Cert.Step1Ideal.defs (F := Ideal)) (onTc (τ := Cert.Step1Ideal.τ) (Cert.Step1Ideal.main (F := Ideal))) ⟨m, fun _ => 0, g⟩ (fun r => ∀ c : Dev Cert.Step1Ideal.nD,
          r.2.mem ((c.tc : Thread Cert.Step1Ideal.nD Cert.Step1Ideal.τ).loc Cert.Step1Ideal.main_v2_0) = v0 c
          ∧ r.2.mem ((c.tc : Thread Cert.Step1Ideal.nD Cert.Step1Ideal.τ).loc Cert.Step1Ideal.main_v2_1) = v1 c
          ∧ r.2.mem ((c.tc : Thread Cert.Step1Ideal.nD Cert.Step1Ideal.τ).loc Cert.Step1Ideal.main_v2_2) = v2 c
          ∧ r.2.mem ((c.tc : Thread Cert.Step1Ideal.nD Cert.Step1Ideal.τ).loc Cert.Step1Ideal.main_v2_3) = v3 c
          ∧ r.2.mem ((c.tc : Thread Cert.Step1Ideal.nD Cert.Step1Ideal.τ).loc Cert.Step1Ideal.main_arg0) = m ((c.tc : Thread Cert.Step1Ideal.nD Cert.Step1Ideal.τ).loc Cert.Step1Ideal.main_arg0)
          ∧ r.2.mem ((c.tc : Thread Cert.Step1Ideal.nD Cert.Step1Ideal.τ).loc Cert.Step1Ideal.main_arg1) = m ((c.tc : Thread Cert.Step1Ideal.nD Cert.Step1Ideal.τ).loc Cert.Step1Ideal.main_arg1)
          ∧ r.2.mem ((c.tc : Thread Cert.Step1Ideal.nD Cert.Step1Ideal.τ).loc Cert.Step1Ideal.main_arg2) = m ((c.tc : Thread Cert.Step1Ideal.nD Cert.Step1Ideal.τ).loc Cert.Step1Ideal.main_arg2)
          ∧ r.2.mem ((c.tc : Thread Cert.Step1Ideal.nD Cert.Step1Ideal.τ).loc Cert.Step1Ideal.main_arg3) = m ((c.tc : Thread Cert.Step1Ideal.nD Cert.Step1Ideal.τ).loc Cert.Step1Ideal.main_arg3)
          ∧ r.2.mem ((c.tc : Thread Cert.Step1Ideal.nD Cert.Step1Ideal.τ).loc Cert.Step1Ideal.main_arg4) = m ((c.tc : Thread Cert.Step1Ideal.nD Cert.Step1Ideal.τ).loc Cert.Step1Ideal.main_arg4)
          ∧ r.2.mem ((c.tc : Thread Cert.Step1Ideal.nD Cert.Step1Ideal.τ).loc Cert.Step1Ideal.main_arg5) = m ((c.tc : Thread Cert.Step1Ideal.nD Cert.Step1Ideal.τ).loc Cert.Step1Ideal.main_arg5)
          ∧ r.2.mem ((c.tc : Thread Cert.Step1Ideal.nD Cert.Step1Ideal.τ).loc Cert.Step1Ideal.main_arg6) = m ((c.tc : Thread Cert.Step1Ideal.nD Cert.Step1Ideal.τ).loc Cert.Step1Ideal.main_arg6))
      ∧ θ_run (Cert.Step1RefIdeal.defs (F := Ideal)) (onTc (τ := Cert.Step1RefIdeal.τ) (Cert.Step1RefIdeal.main (F := Ideal))) ⟨m', fun _ => 0, g'⟩ (fun r => ∀ c : Dev Cert.Step1RefIdeal.nD,
          r.2.mem ((c.tc : Thread Cert.Step1RefIdeal.nD Cert.Step1RefIdeal.τ).loc Cert.Step1RefIdeal.main_v6) = v0 c
          ∧ r.2.mem ((c.tc : Thread Cert.Step1RefIdeal.nD Cert.Step1RefIdeal.τ).loc Cert.Step1RefIdeal.main_v5) = v1 c
          ∧ r.2.mem ((c.tc : Thread Cert.Step1RefIdeal.nD Cert.Step1RefIdeal.τ).loc Cert.Step1RefIdeal.main_v40) = v2 c
          ∧ r.2.mem ((c.tc : Thread Cert.Step1RefIdeal.nD Cert.Step1RefIdeal.τ).loc Cert.Step1RefIdeal.main_v38) = v3 c
          ∧ r.2.mem ((c.tc : Thread Cert.Step1RefIdeal.nD Cert.Step1RefIdeal.τ).loc Cert.Step1RefIdeal.main_arg0) = m' ((c.tc : Thread Cert.Step1RefIdeal.nD Cert.Step1RefIdeal.τ).loc Cert.Step1RefIdeal.main_arg0)
          ∧ r.2.mem ((c.tc : Thread Cert.Step1RefIdeal.nD Cert.Step1RefIdeal.τ).loc Cert.Step1RefIdeal.main_arg1) = m' ((c.tc : Thread Cert.Step1RefIdeal.nD Cert.Step1RefIdeal.τ).loc Cert.Step1RefIdeal.main_arg1)
          ∧ r.2.mem ((c.tc : Thread Cert.Step1RefIdeal.nD Cert.Step1RefIdeal.τ).loc Cert.Step1RefIdeal.main_arg2) = m' ((c.tc : Thread Cert.Step1RefIdeal.nD Cert.Step1RefIdeal.τ).loc Cert.Step1RefIdeal.main_arg2)
          ∧ r.2.mem ((c.tc : Thread Cert.Step1RefIdeal.nD Cert.Step1RefIdeal.τ).loc Cert.Step1RefIdeal.main_arg3) = m' ((c.tc : Thread Cert.Step1RefIdeal.nD Cert.Step1RefIdeal.τ).loc Cert.Step1RefIdeal.main_arg3)
          ∧ r.2.mem ((c.tc : Thread Cert.Step1RefIdeal.nD Cert.Step1RefIdeal.τ).loc Cert.Step1RefIdeal.main_arg4) = m' ((c.tc : Thread Cert.Step1RefIdeal.nD Cert.Step1RefIdeal.τ).loc Cert.Step1RefIdeal.main_arg4)
          ∧ r.2.mem ((c.tc : Thread Cert.Step1RefIdeal.nD Cert.Step1RefIdeal.τ).loc Cert.Step1RefIdeal.main_arg5) = m' ((c.tc : Thread Cert.Step1RefIdeal.nD Cert.Step1RefIdeal.τ).loc Cert.Step1RefIdeal.main_arg5)
          ∧ r.2.mem ((c.tc : Thread Cert.Step1RefIdeal.nD Cert.Step1RefIdeal.τ).loc Cert.Step1RefIdeal.main_arg6) = m' ((c.tc : Thread Cert.Step1RefIdeal.nD Cert.Step1RefIdeal.τ).loc Cert.Step1RefIdeal.main_arg6))

def preserves_Step2_Step2Ideal : Prop :=
  True

def algebraic_Step2Ideal_Step2RefIdeal [hStep2Ideal : Cert.Step2Ideal.Facts] [hStep2RefIdeal : Cert.Step2RefIdeal.Facts] : Prop :=
  ∀ (m : (ℓ : Loc Cert.Step2Ideal.nD Cert.Step2Ideal.τ Cert.Step2Ideal.sig) → Buf (Elt Ideal) ℓ) (g : Dev Cert.Step2Ideal.nD → PrngReg)
    (m' : (ℓ : Loc Cert.Step2RefIdeal.nD Cert.Step2RefIdeal.τ Cert.Step2RefIdeal.sig) → Buf (Elt Ideal) ℓ) (g' : Dev Cert.Step2RefIdeal.nD → PrngReg), Pre_Step2Ideal m →
    (∀ c : Dev Cert.Step2Ideal.nD,
      m' ((c.tc : Thread Cert.Step2RefIdeal.nD Cert.Step2RefIdeal.τ).loc Cert.Step2RefIdeal.main_arg0) = m ((c.tc : Thread Cert.Step2Ideal.nD Cert.Step2Ideal.τ).loc Cert.Step2Ideal.main_arg0)
      ∧ m' ((c.tc : Thread Cert.Step2RefIdeal.nD Cert.Step2RefIdeal.τ).loc Cert.Step2RefIdeal.main_arg1) = m ((c.tc : Thread Cert.Step2Ideal.nD Cert.Step2Ideal.τ).loc Cert.Step2Ideal.main_arg1)
      ∧ m' ((c.tc : Thread Cert.Step2RefIdeal.nD Cert.Step2RefIdeal.τ).loc Cert.Step2RefIdeal.main_arg2) = m ((c.tc : Thread Cert.Step2Ideal.nD Cert.Step2Ideal.τ).loc Cert.Step2Ideal.main_arg2)
      ∧ m' ((c.tc : Thread Cert.Step2RefIdeal.nD Cert.Step2RefIdeal.τ).loc Cert.Step2RefIdeal.main_arg3) = m ((c.tc : Thread Cert.Step2Ideal.nD Cert.Step2Ideal.τ).loc Cert.Step2Ideal.main_arg3)
      ∧ m' ((c.tc : Thread Cert.Step2RefIdeal.nD Cert.Step2RefIdeal.τ).loc Cert.Step2RefIdeal.main_arg4) = m ((c.tc : Thread Cert.Step2Ideal.nD Cert.Step2Ideal.τ).loc Cert.Step2Ideal.main_arg4)
      ∧ m' ((c.tc : Thread Cert.Step2RefIdeal.nD Cert.Step2RefIdeal.τ).loc Cert.Step2RefIdeal.main_arg5) = m ((c.tc : Thread Cert.Step2Ideal.nD Cert.Step2Ideal.τ).loc Cert.Step2Ideal.main_arg5)
      ∧ m' ((c.tc : Thread Cert.Step2RefIdeal.nD Cert.Step2RefIdeal.τ).loc Cert.Step2RefIdeal.main_arg6) = m ((c.tc : Thread Cert.Step2Ideal.nD Cert.Step2Ideal.τ).loc Cert.Step2Ideal.main_arg6)) →
    ∃ (v0 : (c : Dev Cert.Step2Ideal.nD) → Buf (Elt Ideal) ((c.tc : Thread Cert.Step2Ideal.nD Cert.Step2Ideal.τ).loc Cert.Step2Ideal.main_v2_0)) (v1 : (c : Dev Cert.Step2Ideal.nD) → Buf (Elt Ideal) ((c.tc : Thread Cert.Step2Ideal.nD Cert.Step2Ideal.τ).loc Cert.Step2Ideal.main_v2_1)) (v2 : (c : Dev Cert.Step2Ideal.nD) → Buf (Elt Ideal) ((c.tc : Thread Cert.Step2Ideal.nD Cert.Step2Ideal.τ).loc Cert.Step2Ideal.main_v2_2)) (v3 : (c : Dev Cert.Step2Ideal.nD) → Buf (Elt Ideal) ((c.tc : Thread Cert.Step2Ideal.nD Cert.Step2Ideal.τ).loc Cert.Step2Ideal.main_v2_3)),
      θ_run (Cert.Step2Ideal.defs (F := Ideal)) (onTc (τ := Cert.Step2Ideal.τ) (Cert.Step2Ideal.main (F := Ideal))) ⟨m, fun _ => 0, g⟩ (fun r => ∀ c : Dev Cert.Step2Ideal.nD,
          r.2.mem ((c.tc : Thread Cert.Step2Ideal.nD Cert.Step2Ideal.τ).loc Cert.Step2Ideal.main_v2_0) = v0 c
          ∧ r.2.mem ((c.tc : Thread Cert.Step2Ideal.nD Cert.Step2Ideal.τ).loc Cert.Step2Ideal.main_v2_1) = v1 c
          ∧ r.2.mem ((c.tc : Thread Cert.Step2Ideal.nD Cert.Step2Ideal.τ).loc Cert.Step2Ideal.main_v2_2) = v2 c
          ∧ r.2.mem ((c.tc : Thread Cert.Step2Ideal.nD Cert.Step2Ideal.τ).loc Cert.Step2Ideal.main_v2_3) = v3 c
          ∧ r.2.mem ((c.tc : Thread Cert.Step2Ideal.nD Cert.Step2Ideal.τ).loc Cert.Step2Ideal.main_arg0) = m ((c.tc : Thread Cert.Step2Ideal.nD Cert.Step2Ideal.τ).loc Cert.Step2Ideal.main_arg0)
          ∧ r.2.mem ((c.tc : Thread Cert.Step2Ideal.nD Cert.Step2Ideal.τ).loc Cert.Step2Ideal.main_arg1) = m ((c.tc : Thread Cert.Step2Ideal.nD Cert.Step2Ideal.τ).loc Cert.Step2Ideal.main_arg1)
          ∧ r.2.mem ((c.tc : Thread Cert.Step2Ideal.nD Cert.Step2Ideal.τ).loc Cert.Step2Ideal.main_arg2) = m ((c.tc : Thread Cert.Step2Ideal.nD Cert.Step2Ideal.τ).loc Cert.Step2Ideal.main_arg2)
          ∧ r.2.mem ((c.tc : Thread Cert.Step2Ideal.nD Cert.Step2Ideal.τ).loc Cert.Step2Ideal.main_arg3) = m ((c.tc : Thread Cert.Step2Ideal.nD Cert.Step2Ideal.τ).loc Cert.Step2Ideal.main_arg3)
          ∧ r.2.mem ((c.tc : Thread Cert.Step2Ideal.nD Cert.Step2Ideal.τ).loc Cert.Step2Ideal.main_arg4) = m ((c.tc : Thread Cert.Step2Ideal.nD Cert.Step2Ideal.τ).loc Cert.Step2Ideal.main_arg4)
          ∧ r.2.mem ((c.tc : Thread Cert.Step2Ideal.nD Cert.Step2Ideal.τ).loc Cert.Step2Ideal.main_arg5) = m ((c.tc : Thread Cert.Step2Ideal.nD Cert.Step2Ideal.τ).loc Cert.Step2Ideal.main_arg5)
          ∧ r.2.mem ((c.tc : Thread Cert.Step2Ideal.nD Cert.Step2Ideal.τ).loc Cert.Step2Ideal.main_arg6) = m ((c.tc : Thread Cert.Step2Ideal.nD Cert.Step2Ideal.τ).loc Cert.Step2Ideal.main_arg6))
      ∧ θ_run (Cert.Step2RefIdeal.defs (F := Ideal)) (onTc (τ := Cert.Step2RefIdeal.τ) (Cert.Step2RefIdeal.main (F := Ideal))) ⟨m', fun _ => 0, g'⟩ (fun r => ∀ c : Dev Cert.Step2RefIdeal.nD,
          r.2.mem ((c.tc : Thread Cert.Step2RefIdeal.nD Cert.Step2RefIdeal.τ).loc Cert.Step2RefIdeal.main_v6) = v0 c
          ∧ r.2.mem ((c.tc : Thread Cert.Step2RefIdeal.nD Cert.Step2RefIdeal.τ).loc Cert.Step2RefIdeal.main_v5) = v1 c
          ∧ r.2.mem ((c.tc : Thread Cert.Step2RefIdeal.nD Cert.Step2RefIdeal.τ).loc Cert.Step2RefIdeal.main_v40) = v2 c
          ∧ r.2.mem ((c.tc : Thread Cert.Step2RefIdeal.nD Cert.Step2RefIdeal.τ).loc Cert.Step2RefIdeal.main_v38) = v3 c
          ∧ r.2.mem ((c.tc : Thread Cert.Step2RefIdeal.nD Cert.Step2RefIdeal.τ).loc Cert.Step2RefIdeal.main_arg0) = m' ((c.tc : Thread Cert.Step2RefIdeal.nD Cert.Step2RefIdeal.τ).loc Cert.Step2RefIdeal.main_arg0)
          ∧ r.2.mem ((c.tc : Thread Cert.Step2RefIdeal.nD Cert.Step2RefIdeal.τ).loc Cert.Step2RefIdeal.main_arg1) = m' ((c.tc : Thread Cert.Step2RefIdeal.nD Cert.Step2RefIdeal.τ).loc Cert.Step2RefIdeal.main_arg1)
          ∧ r.2.mem ((c.tc : Thread Cert.Step2RefIdeal.nD Cert.Step2RefIdeal.τ).loc Cert.Step2RefIdeal.main_arg2) = m' ((c.tc : Thread Cert.Step2RefIdeal.nD Cert.Step2RefIdeal.τ).loc Cert.Step2RefIdeal.main_arg2)
          ∧ r.2.mem ((c.tc : Thread Cert.Step2RefIdeal.nD Cert.Step2RefIdeal.τ).loc Cert.Step2RefIdeal.main_arg3) = m' ((c.tc : Thread Cert.Step2RefIdeal.nD Cert.Step2RefIdeal.τ).loc Cert.Step2RefIdeal.main_arg3)
          ∧ r.2.mem ((c.tc : Thread Cert.Step2RefIdeal.nD Cert.Step2RefIdeal.τ).loc Cert.Step2RefIdeal.main_arg4) = m' ((c.tc : Thread Cert.Step2RefIdeal.nD Cert.Step2RefIdeal.τ).loc Cert.Step2RefIdeal.main_arg4)
          ∧ r.2.mem ((c.tc : Thread Cert.Step2RefIdeal.nD Cert.Step2RefIdeal.τ).loc Cert.Step2RefIdeal.main_arg5) = m' ((c.tc : Thread Cert.Step2RefIdeal.nD Cert.Step2RefIdeal.τ).loc Cert.Step2RefIdeal.main_arg5)
          ∧ r.2.mem ((c.tc : Thread Cert.Step2RefIdeal.nD Cert.Step2RefIdeal.τ).loc Cert.Step2RefIdeal.main_arg6) = m' ((c.tc : Thread Cert.Step2RefIdeal.nD Cert.Step2RefIdeal.τ).loc Cert.Step2RefIdeal.main_arg6))

def preserves_Step3_Step3Ideal : Prop :=
  True

def algebraic_Step3Ideal_Step3RefIdeal [hStep3Ideal : Cert.Step3Ideal.Facts] [hStep3RefIdeal : Cert.Step3RefIdeal.Facts] : Prop :=
  ∀ (m : (ℓ : Loc Cert.Step3Ideal.nD Cert.Step3Ideal.τ Cert.Step3Ideal.sig) → Buf (Elt Ideal) ℓ) (g : Dev Cert.Step3Ideal.nD → PrngReg)
    (m' : (ℓ : Loc Cert.Step3RefIdeal.nD Cert.Step3RefIdeal.τ Cert.Step3RefIdeal.sig) → Buf (Elt Ideal) ℓ) (g' : Dev Cert.Step3RefIdeal.nD → PrngReg), Pre_Step3Ideal m →
    (∀ c : Dev Cert.Step3Ideal.nD,
      m' ((c.tc : Thread Cert.Step3RefIdeal.nD Cert.Step3RefIdeal.τ).loc Cert.Step3RefIdeal.main_arg0) = m ((c.tc : Thread Cert.Step3Ideal.nD Cert.Step3Ideal.τ).loc Cert.Step3Ideal.main_arg0)
      ∧ m' ((c.tc : Thread Cert.Step3RefIdeal.nD Cert.Step3RefIdeal.τ).loc Cert.Step3RefIdeal.main_arg1) = m ((c.tc : Thread Cert.Step3Ideal.nD Cert.Step3Ideal.τ).loc Cert.Step3Ideal.main_arg1)
      ∧ m' ((c.tc : Thread Cert.Step3RefIdeal.nD Cert.Step3RefIdeal.τ).loc Cert.Step3RefIdeal.main_arg2) = m ((c.tc : Thread Cert.Step3Ideal.nD Cert.Step3Ideal.τ).loc Cert.Step3Ideal.main_arg2)
      ∧ m' ((c.tc : Thread Cert.Step3RefIdeal.nD Cert.Step3RefIdeal.τ).loc Cert.Step3RefIdeal.main_arg3) = m ((c.tc : Thread Cert.Step3Ideal.nD Cert.Step3Ideal.τ).loc Cert.Step3Ideal.main_arg3)
      ∧ m' ((c.tc : Thread Cert.Step3RefIdeal.nD Cert.Step3RefIdeal.τ).loc Cert.Step3RefIdeal.main_arg4) = m ((c.tc : Thread Cert.Step3Ideal.nD Cert.Step3Ideal.τ).loc Cert.Step3Ideal.main_arg4)
      ∧ m' ((c.tc : Thread Cert.Step3RefIdeal.nD Cert.Step3RefIdeal.τ).loc Cert.Step3RefIdeal.main_arg5) = m ((c.tc : Thread Cert.Step3Ideal.nD Cert.Step3Ideal.τ).loc Cert.Step3Ideal.main_arg5)
      ∧ m' ((c.tc : Thread Cert.Step3RefIdeal.nD Cert.Step3RefIdeal.τ).loc Cert.Step3RefIdeal.main_arg6) = m ((c.tc : Thread Cert.Step3Ideal.nD Cert.Step3Ideal.τ).loc Cert.Step3Ideal.main_arg6)) →
    ∃ (v0 : (c : Dev Cert.Step3Ideal.nD) → Buf (Elt Ideal) ((c.tc : Thread Cert.Step3Ideal.nD Cert.Step3Ideal.τ).loc Cert.Step3Ideal.main_v2_0)) (v1 : (c : Dev Cert.Step3Ideal.nD) → Buf (Elt Ideal) ((c.tc : Thread Cert.Step3Ideal.nD Cert.Step3Ideal.τ).loc Cert.Step3Ideal.main_v2_1)) (v2 : (c : Dev Cert.Step3Ideal.nD) → Buf (Elt Ideal) ((c.tc : Thread Cert.Step3Ideal.nD Cert.Step3Ideal.τ).loc Cert.Step3Ideal.main_v2_2)) (v3 : (c : Dev Cert.Step3Ideal.nD) → Buf (Elt Ideal) ((c.tc : Thread Cert.Step3Ideal.nD Cert.Step3Ideal.τ).loc Cert.Step3Ideal.main_v2_3)),
      θ_run (Cert.Step3Ideal.defs (F := Ideal)) (onTc (τ := Cert.Step3Ideal.τ) (Cert.Step3Ideal.main (F := Ideal))) ⟨m, fun _ => 0, g⟩ (fun r => ∀ c : Dev Cert.Step3Ideal.nD,
          r.2.mem ((c.tc : Thread Cert.Step3Ideal.nD Cert.Step3Ideal.τ).loc Cert.Step3Ideal.main_v2_0) = v0 c
          ∧ r.2.mem ((c.tc : Thread Cert.Step3Ideal.nD Cert.Step3Ideal.τ).loc Cert.Step3Ideal.main_v2_1) = v1 c
          ∧ r.2.mem ((c.tc : Thread Cert.Step3Ideal.nD Cert.Step3Ideal.τ).loc Cert.Step3Ideal.main_v2_2) = v2 c
          ∧ r.2.mem ((c.tc : Thread Cert.Step3Ideal.nD Cert.Step3Ideal.τ).loc Cert.Step3Ideal.main_v2_3) = v3 c
          ∧ r.2.mem ((c.tc : Thread Cert.Step3Ideal.nD Cert.Step3Ideal.τ).loc Cert.Step3Ideal.main_arg0) = m ((c.tc : Thread Cert.Step3Ideal.nD Cert.Step3Ideal.τ).loc Cert.Step3Ideal.main_arg0)
          ∧ r.2.mem ((c.tc : Thread Cert.Step3Ideal.nD Cert.Step3Ideal.τ).loc Cert.Step3Ideal.main_arg1) = m ((c.tc : Thread Cert.Step3Ideal.nD Cert.Step3Ideal.τ).loc Cert.Step3Ideal.main_arg1)
          ∧ r.2.mem ((c.tc : Thread Cert.Step3Ideal.nD Cert.Step3Ideal.τ).loc Cert.Step3Ideal.main_arg2) = m ((c.tc : Thread Cert.Step3Ideal.nD Cert.Step3Ideal.τ).loc Cert.Step3Ideal.main_arg2)
          ∧ r.2.mem ((c.tc : Thread Cert.Step3Ideal.nD Cert.Step3Ideal.τ).loc Cert.Step3Ideal.main_arg3) = m ((c.tc : Thread Cert.Step3Ideal.nD Cert.Step3Ideal.τ).loc Cert.Step3Ideal.main_arg3)
          ∧ r.2.mem ((c.tc : Thread Cert.Step3Ideal.nD Cert.Step3Ideal.τ).loc Cert.Step3Ideal.main_arg4) = m ((c.tc : Thread Cert.Step3Ideal.nD Cert.Step3Ideal.τ).loc Cert.Step3Ideal.main_arg4)
          ∧ r.2.mem ((c.tc : Thread Cert.Step3Ideal.nD Cert.Step3Ideal.τ).loc Cert.Step3Ideal.main_arg5) = m ((c.tc : Thread Cert.Step3Ideal.nD Cert.Step3Ideal.τ).loc Cert.Step3Ideal.main_arg5)
          ∧ r.2.mem ((c.tc : Thread Cert.Step3Ideal.nD Cert.Step3Ideal.τ).loc Cert.Step3Ideal.main_arg6) = m ((c.tc : Thread Cert.Step3Ideal.nD Cert.Step3Ideal.τ).loc Cert.Step3Ideal.main_arg6))
      ∧ θ_run (Cert.Step3RefIdeal.defs (F := Ideal)) (onTc (τ := Cert.Step3RefIdeal.τ) (Cert.Step3RefIdeal.main (F := Ideal))) ⟨m', fun _ => 0, g'⟩ (fun r => ∀ c : Dev Cert.Step3RefIdeal.nD,
          r.2.mem ((c.tc : Thread Cert.Step3RefIdeal.nD Cert.Step3RefIdeal.τ).loc Cert.Step3RefIdeal.main_v6) = v0 c
          ∧ r.2.mem ((c.tc : Thread Cert.Step3RefIdeal.nD Cert.Step3RefIdeal.τ).loc Cert.Step3RefIdeal.main_v5) = v1 c
          ∧ r.2.mem ((c.tc : Thread Cert.Step3RefIdeal.nD Cert.Step3RefIdeal.τ).loc Cert.Step3RefIdeal.main_v40) = v2 c
          ∧ r.2.mem ((c.tc : Thread Cert.Step3RefIdeal.nD Cert.Step3RefIdeal.τ).loc Cert.Step3RefIdeal.main_v38) = v3 c
          ∧ r.2.mem ((c.tc : Thread Cert.Step3RefIdeal.nD Cert.Step3RefIdeal.τ).loc Cert.Step3RefIdeal.main_arg0) = m' ((c.tc : Thread Cert.Step3RefIdeal.nD Cert.Step3RefIdeal.τ).loc Cert.Step3RefIdeal.main_arg0)
          ∧ r.2.mem ((c.tc : Thread Cert.Step3RefIdeal.nD Cert.Step3RefIdeal.τ).loc Cert.Step3RefIdeal.main_arg1) = m' ((c.tc : Thread Cert.Step3RefIdeal.nD Cert.Step3RefIdeal.τ).loc Cert.Step3RefIdeal.main_arg1)
          ∧ r.2.mem ((c.tc : Thread Cert.Step3RefIdeal.nD Cert.Step3RefIdeal.τ).loc Cert.Step3RefIdeal.main_arg2) = m' ((c.tc : Thread Cert.Step3RefIdeal.nD Cert.Step3RefIdeal.τ).loc Cert.Step3RefIdeal.main_arg2)
          ∧ r.2.mem ((c.tc : Thread Cert.Step3RefIdeal.nD Cert.Step3RefIdeal.τ).loc Cert.Step3RefIdeal.main_arg3) = m' ((c.tc : Thread Cert.Step3RefIdeal.nD Cert.Step3RefIdeal.τ).loc Cert.Step3RefIdeal.main_arg3)
          ∧ r.2.mem ((c.tc : Thread Cert.Step3RefIdeal.nD Cert.Step3RefIdeal.τ).loc Cert.Step3RefIdeal.main_arg4) = m' ((c.tc : Thread Cert.Step3RefIdeal.nD Cert.Step3RefIdeal.τ).loc Cert.Step3RefIdeal.main_arg4)
          ∧ r.2.mem ((c.tc : Thread Cert.Step3RefIdeal.nD Cert.Step3RefIdeal.τ).loc Cert.Step3RefIdeal.main_arg5) = m' ((c.tc : Thread Cert.Step3RefIdeal.nD Cert.Step3RefIdeal.τ).loc Cert.Step3RefIdeal.main_arg5)
          ∧ r.2.mem ((c.tc : Thread Cert.Step3RefIdeal.nD Cert.Step3RefIdeal.τ).loc Cert.Step3RefIdeal.main_arg6) = m' ((c.tc : Thread Cert.Step3RefIdeal.nD Cert.Step3RefIdeal.τ).loc Cert.Step3RefIdeal.main_arg6))

def preserves_Step4_Step4Ideal : Prop :=
  True

def algebraic_Step4Ideal_Step4RefIdeal [hStep4Ideal : Cert.Step4Ideal.Facts] [hStep4RefIdeal : Cert.Step4RefIdeal.Facts] : Prop :=
  ∀ (m : (ℓ : Loc Cert.Step4Ideal.nD Cert.Step4Ideal.τ Cert.Step4Ideal.sig) → Buf (Elt Ideal) ℓ) (g : Dev Cert.Step4Ideal.nD → PrngReg)
    (m' : (ℓ : Loc Cert.Step4RefIdeal.nD Cert.Step4RefIdeal.τ Cert.Step4RefIdeal.sig) → Buf (Elt Ideal) ℓ) (g' : Dev Cert.Step4RefIdeal.nD → PrngReg), Pre_Step4Ideal m →
    (∀ c : Dev Cert.Step4Ideal.nD,
      m' ((c.tc : Thread Cert.Step4RefIdeal.nD Cert.Step4RefIdeal.τ).loc Cert.Step4RefIdeal.main_arg0) = m ((c.tc : Thread Cert.Step4Ideal.nD Cert.Step4Ideal.τ).loc Cert.Step4Ideal.main_arg0)
      ∧ m' ((c.tc : Thread Cert.Step4RefIdeal.nD Cert.Step4RefIdeal.τ).loc Cert.Step4RefIdeal.main_arg1) = m ((c.tc : Thread Cert.Step4Ideal.nD Cert.Step4Ideal.τ).loc Cert.Step4Ideal.main_arg1)
      ∧ m' ((c.tc : Thread Cert.Step4RefIdeal.nD Cert.Step4RefIdeal.τ).loc Cert.Step4RefIdeal.main_arg2) = m ((c.tc : Thread Cert.Step4Ideal.nD Cert.Step4Ideal.τ).loc Cert.Step4Ideal.main_arg2)
      ∧ m' ((c.tc : Thread Cert.Step4RefIdeal.nD Cert.Step4RefIdeal.τ).loc Cert.Step4RefIdeal.main_arg3) = m ((c.tc : Thread Cert.Step4Ideal.nD Cert.Step4Ideal.τ).loc Cert.Step4Ideal.main_arg3)
      ∧ m' ((c.tc : Thread Cert.Step4RefIdeal.nD Cert.Step4RefIdeal.τ).loc Cert.Step4RefIdeal.main_arg4) = m ((c.tc : Thread Cert.Step4Ideal.nD Cert.Step4Ideal.τ).loc Cert.Step4Ideal.main_arg4)
      ∧ m' ((c.tc : Thread Cert.Step4RefIdeal.nD Cert.Step4RefIdeal.τ).loc Cert.Step4RefIdeal.main_arg5) = m ((c.tc : Thread Cert.Step4Ideal.nD Cert.Step4Ideal.τ).loc Cert.Step4Ideal.main_arg5)
      ∧ m' ((c.tc : Thread Cert.Step4RefIdeal.nD Cert.Step4RefIdeal.τ).loc Cert.Step4RefIdeal.main_arg6) = m ((c.tc : Thread Cert.Step4Ideal.nD Cert.Step4Ideal.τ).loc Cert.Step4Ideal.main_arg6)) →
    ∃ (v0 : (c : Dev Cert.Step4Ideal.nD) → Buf (Elt Ideal) ((c.tc : Thread Cert.Step4Ideal.nD Cert.Step4Ideal.τ).loc Cert.Step4Ideal.main_v2_0)) (v1 : (c : Dev Cert.Step4Ideal.nD) → Buf (Elt Ideal) ((c.tc : Thread Cert.Step4Ideal.nD Cert.Step4Ideal.τ).loc Cert.Step4Ideal.main_v2_1)) (v2 : (c : Dev Cert.Step4Ideal.nD) → Buf (Elt Ideal) ((c.tc : Thread Cert.Step4Ideal.nD Cert.Step4Ideal.τ).loc Cert.Step4Ideal.main_v2_2)) (v3 : (c : Dev Cert.Step4Ideal.nD) → Buf (Elt Ideal) ((c.tc : Thread Cert.Step4Ideal.nD Cert.Step4Ideal.τ).loc Cert.Step4Ideal.main_v2_3)),
      θ_run (Cert.Step4Ideal.defs (F := Ideal)) (onTc (τ := Cert.Step4Ideal.τ) (Cert.Step4Ideal.main (F := Ideal))) ⟨m, fun _ => 0, g⟩ (fun r => ∀ c : Dev Cert.Step4Ideal.nD,
          r.2.mem ((c.tc : Thread Cert.Step4Ideal.nD Cert.Step4Ideal.τ).loc Cert.Step4Ideal.main_v2_0) = v0 c
          ∧ r.2.mem ((c.tc : Thread Cert.Step4Ideal.nD Cert.Step4Ideal.τ).loc Cert.Step4Ideal.main_v2_1) = v1 c
          ∧ r.2.mem ((c.tc : Thread Cert.Step4Ideal.nD Cert.Step4Ideal.τ).loc Cert.Step4Ideal.main_v2_2) = v2 c
          ∧ r.2.mem ((c.tc : Thread Cert.Step4Ideal.nD Cert.Step4Ideal.τ).loc Cert.Step4Ideal.main_v2_3) = v3 c
          ∧ r.2.mem ((c.tc : Thread Cert.Step4Ideal.nD Cert.Step4Ideal.τ).loc Cert.Step4Ideal.main_arg0) = m ((c.tc : Thread Cert.Step4Ideal.nD Cert.Step4Ideal.τ).loc Cert.Step4Ideal.main_arg0)
          ∧ r.2.mem ((c.tc : Thread Cert.Step4Ideal.nD Cert.Step4Ideal.τ).loc Cert.Step4Ideal.main_arg1) = m ((c.tc : Thread Cert.Step4Ideal.nD Cert.Step4Ideal.τ).loc Cert.Step4Ideal.main_arg1)
          ∧ r.2.mem ((c.tc : Thread Cert.Step4Ideal.nD Cert.Step4Ideal.τ).loc Cert.Step4Ideal.main_arg2) = m ((c.tc : Thread Cert.Step4Ideal.nD Cert.Step4Ideal.τ).loc Cert.Step4Ideal.main_arg2)
          ∧ r.2.mem ((c.tc : Thread Cert.Step4Ideal.nD Cert.Step4Ideal.τ).loc Cert.Step4Ideal.main_arg3) = m ((c.tc : Thread Cert.Step4Ideal.nD Cert.Step4Ideal.τ).loc Cert.Step4Ideal.main_arg3)
          ∧ r.2.mem ((c.tc : Thread Cert.Step4Ideal.nD Cert.Step4Ideal.τ).loc Cert.Step4Ideal.main_arg4) = m ((c.tc : Thread Cert.Step4Ideal.nD Cert.Step4Ideal.τ).loc Cert.Step4Ideal.main_arg4)
          ∧ r.2.mem ((c.tc : Thread Cert.Step4Ideal.nD Cert.Step4Ideal.τ).loc Cert.Step4Ideal.main_arg5) = m ((c.tc : Thread Cert.Step4Ideal.nD Cert.Step4Ideal.τ).loc Cert.Step4Ideal.main_arg5)
          ∧ r.2.mem ((c.tc : Thread Cert.Step4Ideal.nD Cert.Step4Ideal.τ).loc Cert.Step4Ideal.main_arg6) = m ((c.tc : Thread Cert.Step4Ideal.nD Cert.Step4Ideal.τ).loc Cert.Step4Ideal.main_arg6))
      ∧ θ_run (Cert.Step4RefIdeal.defs (F := Ideal)) (onTc (τ := Cert.Step4RefIdeal.τ) (Cert.Step4RefIdeal.main (F := Ideal))) ⟨m', fun _ => 0, g'⟩ (fun r => ∀ c : Dev Cert.Step4RefIdeal.nD,
          r.2.mem ((c.tc : Thread Cert.Step4RefIdeal.nD Cert.Step4RefIdeal.τ).loc Cert.Step4RefIdeal.main_v6) = v0 c
          ∧ r.2.mem ((c.tc : Thread Cert.Step4RefIdeal.nD Cert.Step4RefIdeal.τ).loc Cert.Step4RefIdeal.main_v5) = v1 c
          ∧ r.2.mem ((c.tc : Thread Cert.Step4RefIdeal.nD Cert.Step4RefIdeal.τ).loc Cert.Step4RefIdeal.main_v40) = v2 c
          ∧ r.2.mem ((c.tc : Thread Cert.Step4RefIdeal.nD Cert.Step4RefIdeal.τ).loc Cert.Step4RefIdeal.main_v38) = v3 c
          ∧ r.2.mem ((c.tc : Thread Cert.Step4RefIdeal.nD Cert.Step4RefIdeal.τ).loc Cert.Step4RefIdeal.main_arg0) = m' ((c.tc : Thread Cert.Step4RefIdeal.nD Cert.Step4RefIdeal.τ).loc Cert.Step4RefIdeal.main_arg0)
          ∧ r.2.mem ((c.tc : Thread Cert.Step4RefIdeal.nD Cert.Step4RefIdeal.τ).loc Cert.Step4RefIdeal.main_arg1) = m' ((c.tc : Thread Cert.Step4RefIdeal.nD Cert.Step4RefIdeal.τ).loc Cert.Step4RefIdeal.main_arg1)
          ∧ r.2.mem ((c.tc : Thread Cert.Step4RefIdeal.nD Cert.Step4RefIdeal.τ).loc Cert.Step4RefIdeal.main_arg2) = m' ((c.tc : Thread Cert.Step4RefIdeal.nD Cert.Step4RefIdeal.τ).loc Cert.Step4RefIdeal.main_arg2)
          ∧ r.2.mem ((c.tc : Thread Cert.Step4RefIdeal.nD Cert.Step4RefIdeal.τ).loc Cert.Step4RefIdeal.main_arg3) = m' ((c.tc : Thread Cert.Step4RefIdeal.nD Cert.Step4RefIdeal.τ).loc Cert.Step4RefIdeal.main_arg3)
          ∧ r.2.mem ((c.tc : Thread Cert.Step4RefIdeal.nD Cert.Step4RefIdeal.τ).loc Cert.Step4RefIdeal.main_arg4) = m' ((c.tc : Thread Cert.Step4RefIdeal.nD Cert.Step4RefIdeal.τ).loc Cert.Step4RefIdeal.main_arg4)
          ∧ r.2.mem ((c.tc : Thread Cert.Step4RefIdeal.nD Cert.Step4RefIdeal.τ).loc Cert.Step4RefIdeal.main_arg5) = m' ((c.tc : Thread Cert.Step4RefIdeal.nD Cert.Step4RefIdeal.τ).loc Cert.Step4RefIdeal.main_arg5)
          ∧ r.2.mem ((c.tc : Thread Cert.Step4RefIdeal.nD Cert.Step4RefIdeal.τ).loc Cert.Step4RefIdeal.main_arg6) = m' ((c.tc : Thread Cert.Step4RefIdeal.nD Cert.Step4RefIdeal.τ).loc Cert.Step4RefIdeal.main_arg6))

def preserves_Step5_Step5Ideal : Prop :=
  True

def algebraic_Step5Ideal_Step5RefIdeal [hStep5Ideal : Cert.Step5Ideal.Facts] [hStep5RefIdeal : Cert.Step5RefIdeal.Facts] : Prop :=
  ∀ (m : (ℓ : Loc Cert.Step5Ideal.nD Cert.Step5Ideal.τ Cert.Step5Ideal.sig) → Buf (Elt Ideal) ℓ) (g : Dev Cert.Step5Ideal.nD → PrngReg)
    (m' : (ℓ : Loc Cert.Step5RefIdeal.nD Cert.Step5RefIdeal.τ Cert.Step5RefIdeal.sig) → Buf (Elt Ideal) ℓ) (g' : Dev Cert.Step5RefIdeal.nD → PrngReg), Pre_Step5Ideal m →
    (∀ c : Dev Cert.Step5Ideal.nD,
      m' ((c.tc : Thread Cert.Step5RefIdeal.nD Cert.Step5RefIdeal.τ).loc Cert.Step5RefIdeal.main_arg0) = m ((c.tc : Thread Cert.Step5Ideal.nD Cert.Step5Ideal.τ).loc Cert.Step5Ideal.main_arg0)
      ∧ m' ((c.tc : Thread Cert.Step5RefIdeal.nD Cert.Step5RefIdeal.τ).loc Cert.Step5RefIdeal.main_arg1) = m ((c.tc : Thread Cert.Step5Ideal.nD Cert.Step5Ideal.τ).loc Cert.Step5Ideal.main_arg1)
      ∧ m' ((c.tc : Thread Cert.Step5RefIdeal.nD Cert.Step5RefIdeal.τ).loc Cert.Step5RefIdeal.main_arg2) = m ((c.tc : Thread Cert.Step5Ideal.nD Cert.Step5Ideal.τ).loc Cert.Step5Ideal.main_arg2)
      ∧ m' ((c.tc : Thread Cert.Step5RefIdeal.nD Cert.Step5RefIdeal.τ).loc Cert.Step5RefIdeal.main_arg3) = m ((c.tc : Thread Cert.Step5Ideal.nD Cert.Step5Ideal.τ).loc Cert.Step5Ideal.main_arg3)
      ∧ m' ((c.tc : Thread Cert.Step5RefIdeal.nD Cert.Step5RefIdeal.τ).loc Cert.Step5RefIdeal.main_arg4) = m ((c.tc : Thread Cert.Step5Ideal.nD Cert.Step5Ideal.τ).loc Cert.Step5Ideal.main_arg4)
      ∧ m' ((c.tc : Thread Cert.Step5RefIdeal.nD Cert.Step5RefIdeal.τ).loc Cert.Step5RefIdeal.main_arg5) = m ((c.tc : Thread Cert.Step5Ideal.nD Cert.Step5Ideal.τ).loc Cert.Step5Ideal.main_arg5)
      ∧ m' ((c.tc : Thread Cert.Step5RefIdeal.nD Cert.Step5RefIdeal.τ).loc Cert.Step5RefIdeal.main_arg6) = m ((c.tc : Thread Cert.Step5Ideal.nD Cert.Step5Ideal.τ).loc Cert.Step5Ideal.main_arg6)) →
    ∃ (v0 : (c : Dev Cert.Step5Ideal.nD) → Buf (Elt Ideal) ((c.tc : Thread Cert.Step5Ideal.nD Cert.Step5Ideal.τ).loc Cert.Step5Ideal.main_v2_0)) (v1 : (c : Dev Cert.Step5Ideal.nD) → Buf (Elt Ideal) ((c.tc : Thread Cert.Step5Ideal.nD Cert.Step5Ideal.τ).loc Cert.Step5Ideal.main_v2_1)) (v2 : (c : Dev Cert.Step5Ideal.nD) → Buf (Elt Ideal) ((c.tc : Thread Cert.Step5Ideal.nD Cert.Step5Ideal.τ).loc Cert.Step5Ideal.main_v2_2)) (v3 : (c : Dev Cert.Step5Ideal.nD) → Buf (Elt Ideal) ((c.tc : Thread Cert.Step5Ideal.nD Cert.Step5Ideal.τ).loc Cert.Step5Ideal.main_v2_3)),
      θ_run (Cert.Step5Ideal.defs (F := Ideal)) (onTc (τ := Cert.Step5Ideal.τ) (Cert.Step5Ideal.main (F := Ideal))) ⟨m, fun _ => 0, g⟩ (fun r => ∀ c : Dev Cert.Step5Ideal.nD,
          r.2.mem ((c.tc : Thread Cert.Step5Ideal.nD Cert.Step5Ideal.τ).loc Cert.Step5Ideal.main_v2_0) = v0 c
          ∧ r.2.mem ((c.tc : Thread Cert.Step5Ideal.nD Cert.Step5Ideal.τ).loc Cert.Step5Ideal.main_v2_1) = v1 c
          ∧ r.2.mem ((c.tc : Thread Cert.Step5Ideal.nD Cert.Step5Ideal.τ).loc Cert.Step5Ideal.main_v2_2) = v2 c
          ∧ r.2.mem ((c.tc : Thread Cert.Step5Ideal.nD Cert.Step5Ideal.τ).loc Cert.Step5Ideal.main_v2_3) = v3 c
          ∧ r.2.mem ((c.tc : Thread Cert.Step5Ideal.nD Cert.Step5Ideal.τ).loc Cert.Step5Ideal.main_arg0) = m ((c.tc : Thread Cert.Step5Ideal.nD Cert.Step5Ideal.τ).loc Cert.Step5Ideal.main_arg0)
          ∧ r.2.mem ((c.tc : Thread Cert.Step5Ideal.nD Cert.Step5Ideal.τ).loc Cert.Step5Ideal.main_arg1) = m ((c.tc : Thread Cert.Step5Ideal.nD Cert.Step5Ideal.τ).loc Cert.Step5Ideal.main_arg1)
          ∧ r.2.mem ((c.tc : Thread Cert.Step5Ideal.nD Cert.Step5Ideal.τ).loc Cert.Step5Ideal.main_arg2) = m ((c.tc : Thread Cert.Step5Ideal.nD Cert.Step5Ideal.τ).loc Cert.Step5Ideal.main_arg2)
          ∧ r.2.mem ((c.tc : Thread Cert.Step5Ideal.nD Cert.Step5Ideal.τ).loc Cert.Step5Ideal.main_arg3) = m ((c.tc : Thread Cert.Step5Ideal.nD Cert.Step5Ideal.τ).loc Cert.Step5Ideal.main_arg3)
          ∧ r.2.mem ((c.tc : Thread Cert.Step5Ideal.nD Cert.Step5Ideal.τ).loc Cert.Step5Ideal.main_arg4) = m ((c.tc : Thread Cert.Step5Ideal.nD Cert.Step5Ideal.τ).loc Cert.Step5Ideal.main_arg4)
          ∧ r.2.mem ((c.tc : Thread Cert.Step5Ideal.nD Cert.Step5Ideal.τ).loc Cert.Step5Ideal.main_arg5) = m ((c.tc : Thread Cert.Step5Ideal.nD Cert.Step5Ideal.τ).loc Cert.Step5Ideal.main_arg5)
          ∧ r.2.mem ((c.tc : Thread Cert.Step5Ideal.nD Cert.Step5Ideal.τ).loc Cert.Step5Ideal.main_arg6) = m ((c.tc : Thread Cert.Step5Ideal.nD Cert.Step5Ideal.τ).loc Cert.Step5Ideal.main_arg6))
      ∧ θ_run (Cert.Step5RefIdeal.defs (F := Ideal)) (onTc (τ := Cert.Step5RefIdeal.τ) (Cert.Step5RefIdeal.main (F := Ideal))) ⟨m', fun _ => 0, g'⟩ (fun r => ∀ c : Dev Cert.Step5RefIdeal.nD,
          r.2.mem ((c.tc : Thread Cert.Step5RefIdeal.nD Cert.Step5RefIdeal.τ).loc Cert.Step5RefIdeal.main_v6) = v0 c
          ∧ r.2.mem ((c.tc : Thread Cert.Step5RefIdeal.nD Cert.Step5RefIdeal.τ).loc Cert.Step5RefIdeal.main_v5) = v1 c
          ∧ r.2.mem ((c.tc : Thread Cert.Step5RefIdeal.nD Cert.Step5RefIdeal.τ).loc Cert.Step5RefIdeal.main_v40) = v2 c
          ∧ r.2.mem ((c.tc : Thread Cert.Step5RefIdeal.nD Cert.Step5RefIdeal.τ).loc Cert.Step5RefIdeal.main_v38) = v3 c
          ∧ r.2.mem ((c.tc : Thread Cert.Step5RefIdeal.nD Cert.Step5RefIdeal.τ).loc Cert.Step5RefIdeal.main_arg0) = m' ((c.tc : Thread Cert.Step5RefIdeal.nD Cert.Step5RefIdeal.τ).loc Cert.Step5RefIdeal.main_arg0)
          ∧ r.2.mem ((c.tc : Thread Cert.Step5RefIdeal.nD Cert.Step5RefIdeal.τ).loc Cert.Step5RefIdeal.main_arg1) = m' ((c.tc : Thread Cert.Step5RefIdeal.nD Cert.Step5RefIdeal.τ).loc Cert.Step5RefIdeal.main_arg1)
          ∧ r.2.mem ((c.tc : Thread Cert.Step5RefIdeal.nD Cert.Step5RefIdeal.τ).loc Cert.Step5RefIdeal.main_arg2) = m' ((c.tc : Thread Cert.Step5RefIdeal.nD Cert.Step5RefIdeal.τ).loc Cert.Step5RefIdeal.main_arg2)
          ∧ r.2.mem ((c.tc : Thread Cert.Step5RefIdeal.nD Cert.Step5RefIdeal.τ).loc Cert.Step5RefIdeal.main_arg3) = m' ((c.tc : Thread Cert.Step5RefIdeal.nD Cert.Step5RefIdeal.τ).loc Cert.Step5RefIdeal.main_arg3)
          ∧ r.2.mem ((c.tc : Thread Cert.Step5RefIdeal.nD Cert.Step5RefIdeal.τ).loc Cert.Step5RefIdeal.main_arg4) = m' ((c.tc : Thread Cert.Step5RefIdeal.nD Cert.Step5RefIdeal.τ).loc Cert.Step5RefIdeal.main_arg4)
          ∧ r.2.mem ((c.tc : Thread Cert.Step5RefIdeal.nD Cert.Step5RefIdeal.τ).loc Cert.Step5RefIdeal.main_arg5) = m' ((c.tc : Thread Cert.Step5RefIdeal.nD Cert.Step5RefIdeal.τ).loc Cert.Step5RefIdeal.main_arg5)
          ∧ r.2.mem ((c.tc : Thread Cert.Step5RefIdeal.nD Cert.Step5RefIdeal.τ).loc Cert.Step5RefIdeal.main_arg6) = m' ((c.tc : Thread Cert.Step5RefIdeal.nD Cert.Step5RefIdeal.τ).loc Cert.Step5RefIdeal.main_arg6))

def preserves_Step6_Step6Ideal : Prop :=
  True

def algebraic_Step6Ideal_Step6RefIdeal [hStep6Ideal : Cert.Step6Ideal.Facts] [hStep6RefIdeal : Cert.Step6RefIdeal.Facts] : Prop :=
  ∀ (m : (ℓ : Loc Cert.Step6Ideal.nD Cert.Step6Ideal.τ Cert.Step6Ideal.sig) → Buf (Elt Ideal) ℓ) (g : Dev Cert.Step6Ideal.nD → PrngReg)
    (m' : (ℓ : Loc Cert.Step6RefIdeal.nD Cert.Step6RefIdeal.τ Cert.Step6RefIdeal.sig) → Buf (Elt Ideal) ℓ) (g' : Dev Cert.Step6RefIdeal.nD → PrngReg), Pre_Step6Ideal m →
    (∀ c : Dev Cert.Step6Ideal.nD,
      m' ((c.tc : Thread Cert.Step6RefIdeal.nD Cert.Step6RefIdeal.τ).loc Cert.Step6RefIdeal.main_arg0) = m ((c.tc : Thread Cert.Step6Ideal.nD Cert.Step6Ideal.τ).loc Cert.Step6Ideal.main_arg0)
      ∧ m' ((c.tc : Thread Cert.Step6RefIdeal.nD Cert.Step6RefIdeal.τ).loc Cert.Step6RefIdeal.main_arg1) = m ((c.tc : Thread Cert.Step6Ideal.nD Cert.Step6Ideal.τ).loc Cert.Step6Ideal.main_arg1)
      ∧ m' ((c.tc : Thread Cert.Step6RefIdeal.nD Cert.Step6RefIdeal.τ).loc Cert.Step6RefIdeal.main_arg2) = m ((c.tc : Thread Cert.Step6Ideal.nD Cert.Step6Ideal.τ).loc Cert.Step6Ideal.main_arg2)
      ∧ m' ((c.tc : Thread Cert.Step6RefIdeal.nD Cert.Step6RefIdeal.τ).loc Cert.Step6RefIdeal.main_arg3) = m ((c.tc : Thread Cert.Step6Ideal.nD Cert.Step6Ideal.τ).loc Cert.Step6Ideal.main_arg3)
      ∧ m' ((c.tc : Thread Cert.Step6RefIdeal.nD Cert.Step6RefIdeal.τ).loc Cert.Step6RefIdeal.main_arg4) = m ((c.tc : Thread Cert.Step6Ideal.nD Cert.Step6Ideal.τ).loc Cert.Step6Ideal.main_arg4)
      ∧ m' ((c.tc : Thread Cert.Step6RefIdeal.nD Cert.Step6RefIdeal.τ).loc Cert.Step6RefIdeal.main_arg5) = m ((c.tc : Thread Cert.Step6Ideal.nD Cert.Step6Ideal.τ).loc Cert.Step6Ideal.main_arg5)
      ∧ m' ((c.tc : Thread Cert.Step6RefIdeal.nD Cert.Step6RefIdeal.τ).loc Cert.Step6RefIdeal.main_arg6) = m ((c.tc : Thread Cert.Step6Ideal.nD Cert.Step6Ideal.τ).loc Cert.Step6Ideal.main_arg6)) →
    ∃ (v0 : (c : Dev Cert.Step6Ideal.nD) → Buf (Elt Ideal) ((c.tc : Thread Cert.Step6Ideal.nD Cert.Step6Ideal.τ).loc Cert.Step6Ideal.main_v2_0)) (v1 : (c : Dev Cert.Step6Ideal.nD) → Buf (Elt Ideal) ((c.tc : Thread Cert.Step6Ideal.nD Cert.Step6Ideal.τ).loc Cert.Step6Ideal.main_v2_1)) (v2 : (c : Dev Cert.Step6Ideal.nD) → Buf (Elt Ideal) ((c.tc : Thread Cert.Step6Ideal.nD Cert.Step6Ideal.τ).loc Cert.Step6Ideal.main_v2_2)) (v3 : (c : Dev Cert.Step6Ideal.nD) → Buf (Elt Ideal) ((c.tc : Thread Cert.Step6Ideal.nD Cert.Step6Ideal.τ).loc Cert.Step6Ideal.main_v2_3)),
      θ_run (Cert.Step6Ideal.defs (F := Ideal)) (onTc (τ := Cert.Step6Ideal.τ) (Cert.Step6Ideal.main (F := Ideal))) ⟨m, fun _ => 0, g⟩ (fun r => ∀ c : Dev Cert.Step6Ideal.nD,
          r.2.mem ((c.tc : Thread Cert.Step6Ideal.nD Cert.Step6Ideal.τ).loc Cert.Step6Ideal.main_v2_0) = v0 c
          ∧ r.2.mem ((c.tc : Thread Cert.Step6Ideal.nD Cert.Step6Ideal.τ).loc Cert.Step6Ideal.main_v2_1) = v1 c
          ∧ r.2.mem ((c.tc : Thread Cert.Step6Ideal.nD Cert.Step6Ideal.τ).loc Cert.Step6Ideal.main_v2_2) = v2 c
          ∧ r.2.mem ((c.tc : Thread Cert.Step6Ideal.nD Cert.Step6Ideal.τ).loc Cert.Step6Ideal.main_v2_3) = v3 c
          ∧ r.2.mem ((c.tc : Thread Cert.Step6Ideal.nD Cert.Step6Ideal.τ).loc Cert.Step6Ideal.main_arg0) = m ((c.tc : Thread Cert.Step6Ideal.nD Cert.Step6Ideal.τ).loc Cert.Step6Ideal.main_arg0)
          ∧ r.2.mem ((c.tc : Thread Cert.Step6Ideal.nD Cert.Step6Ideal.τ).loc Cert.Step6Ideal.main_arg1) = m ((c.tc : Thread Cert.Step6Ideal.nD Cert.Step6Ideal.τ).loc Cert.Step6Ideal.main_arg1)
          ∧ r.2.mem ((c.tc : Thread Cert.Step6Ideal.nD Cert.Step6Ideal.τ).loc Cert.Step6Ideal.main_arg2) = m ((c.tc : Thread Cert.Step6Ideal.nD Cert.Step6Ideal.τ).loc Cert.Step6Ideal.main_arg2)
          ∧ r.2.mem ((c.tc : Thread Cert.Step6Ideal.nD Cert.Step6Ideal.τ).loc Cert.Step6Ideal.main_arg3) = m ((c.tc : Thread Cert.Step6Ideal.nD Cert.Step6Ideal.τ).loc Cert.Step6Ideal.main_arg3)
          ∧ r.2.mem ((c.tc : Thread Cert.Step6Ideal.nD Cert.Step6Ideal.τ).loc Cert.Step6Ideal.main_arg4) = m ((c.tc : Thread Cert.Step6Ideal.nD Cert.Step6Ideal.τ).loc Cert.Step6Ideal.main_arg4)
          ∧ r.2.mem ((c.tc : Thread Cert.Step6Ideal.nD Cert.Step6Ideal.τ).loc Cert.Step6Ideal.main_arg5) = m ((c.tc : Thread Cert.Step6Ideal.nD Cert.Step6Ideal.τ).loc Cert.Step6Ideal.main_arg5)
          ∧ r.2.mem ((c.tc : Thread Cert.Step6Ideal.nD Cert.Step6Ideal.τ).loc Cert.Step6Ideal.main_arg6) = m ((c.tc : Thread Cert.Step6Ideal.nD Cert.Step6Ideal.τ).loc Cert.Step6Ideal.main_arg6))
      ∧ θ_run (Cert.Step6RefIdeal.defs (F := Ideal)) (onTc (τ := Cert.Step6RefIdeal.τ) (Cert.Step6RefIdeal.main (F := Ideal))) ⟨m', fun _ => 0, g'⟩ (fun r => ∀ c : Dev Cert.Step6RefIdeal.nD,
          r.2.mem ((c.tc : Thread Cert.Step6RefIdeal.nD Cert.Step6RefIdeal.τ).loc Cert.Step6RefIdeal.main_v6) = v0 c
          ∧ r.2.mem ((c.tc : Thread Cert.Step6RefIdeal.nD Cert.Step6RefIdeal.τ).loc Cert.Step6RefIdeal.main_v5) = v1 c
          ∧ r.2.mem ((c.tc : Thread Cert.Step6RefIdeal.nD Cert.Step6RefIdeal.τ).loc Cert.Step6RefIdeal.main_v40) = v2 c
          ∧ r.2.mem ((c.tc : Thread Cert.Step6RefIdeal.nD Cert.Step6RefIdeal.τ).loc Cert.Step6RefIdeal.main_v38) = v3 c
          ∧ r.2.mem ((c.tc : Thread Cert.Step6RefIdeal.nD Cert.Step6RefIdeal.τ).loc Cert.Step6RefIdeal.main_arg0) = m' ((c.tc : Thread Cert.Step6RefIdeal.nD Cert.Step6RefIdeal.τ).loc Cert.Step6RefIdeal.main_arg0)
          ∧ r.2.mem ((c.tc : Thread Cert.Step6RefIdeal.nD Cert.Step6RefIdeal.τ).loc Cert.Step6RefIdeal.main_arg1) = m' ((c.tc : Thread Cert.Step6RefIdeal.nD Cert.Step6RefIdeal.τ).loc Cert.Step6RefIdeal.main_arg1)
          ∧ r.2.mem ((c.tc : Thread Cert.Step6RefIdeal.nD Cert.Step6RefIdeal.τ).loc Cert.Step6RefIdeal.main_arg2) = m' ((c.tc : Thread Cert.Step6RefIdeal.nD Cert.Step6RefIdeal.τ).loc Cert.Step6RefIdeal.main_arg2)
          ∧ r.2.mem ((c.tc : Thread Cert.Step6RefIdeal.nD Cert.Step6RefIdeal.τ).loc Cert.Step6RefIdeal.main_arg3) = m' ((c.tc : Thread Cert.Step6RefIdeal.nD Cert.Step6RefIdeal.τ).loc Cert.Step6RefIdeal.main_arg3)
          ∧ r.2.mem ((c.tc : Thread Cert.Step6RefIdeal.nD Cert.Step6RefIdeal.τ).loc Cert.Step6RefIdeal.main_arg4) = m' ((c.tc : Thread Cert.Step6RefIdeal.nD Cert.Step6RefIdeal.τ).loc Cert.Step6RefIdeal.main_arg4)
          ∧ r.2.mem ((c.tc : Thread Cert.Step6RefIdeal.nD Cert.Step6RefIdeal.τ).loc Cert.Step6RefIdeal.main_arg5) = m' ((c.tc : Thread Cert.Step6RefIdeal.nD Cert.Step6RefIdeal.τ).loc Cert.Step6RefIdeal.main_arg5)
          ∧ r.2.mem ((c.tc : Thread Cert.Step6RefIdeal.nD Cert.Step6RefIdeal.τ).loc Cert.Step6RefIdeal.main_arg6) = m' ((c.tc : Thread Cert.Step6RefIdeal.nD Cert.Step6RefIdeal.τ).loc Cert.Step6RefIdeal.main_arg6))

def preserves_Step7_Step7Ideal : Prop :=
  True

def algebraic_Step7Ideal_Step7RefIdeal [hStep7Ideal : Cert.Step7Ideal.Facts] [hStep7RefIdeal : Cert.Step7RefIdeal.Facts] : Prop :=
  ∀ (m : (ℓ : Loc Cert.Step7Ideal.nD Cert.Step7Ideal.τ Cert.Step7Ideal.sig) → Buf (Elt Ideal) ℓ) (g : Dev Cert.Step7Ideal.nD → PrngReg)
    (m' : (ℓ : Loc Cert.Step7RefIdeal.nD Cert.Step7RefIdeal.τ Cert.Step7RefIdeal.sig) → Buf (Elt Ideal) ℓ) (g' : Dev Cert.Step7RefIdeal.nD → PrngReg), Pre_Step7Ideal m →
    (∀ c : Dev Cert.Step7Ideal.nD,
      m' ((c.tc : Thread Cert.Step7RefIdeal.nD Cert.Step7RefIdeal.τ).loc Cert.Step7RefIdeal.main_arg0) = m ((c.tc : Thread Cert.Step7Ideal.nD Cert.Step7Ideal.τ).loc Cert.Step7Ideal.main_arg0)
      ∧ m' ((c.tc : Thread Cert.Step7RefIdeal.nD Cert.Step7RefIdeal.τ).loc Cert.Step7RefIdeal.main_arg1) = m ((c.tc : Thread Cert.Step7Ideal.nD Cert.Step7Ideal.τ).loc Cert.Step7Ideal.main_arg1)
      ∧ m' ((c.tc : Thread Cert.Step7RefIdeal.nD Cert.Step7RefIdeal.τ).loc Cert.Step7RefIdeal.main_arg2) = m ((c.tc : Thread Cert.Step7Ideal.nD Cert.Step7Ideal.τ).loc Cert.Step7Ideal.main_arg2)
      ∧ m' ((c.tc : Thread Cert.Step7RefIdeal.nD Cert.Step7RefIdeal.τ).loc Cert.Step7RefIdeal.main_arg3) = m ((c.tc : Thread Cert.Step7Ideal.nD Cert.Step7Ideal.τ).loc Cert.Step7Ideal.main_arg3)
      ∧ m' ((c.tc : Thread Cert.Step7RefIdeal.nD Cert.Step7RefIdeal.τ).loc Cert.Step7RefIdeal.main_arg4) = m ((c.tc : Thread Cert.Step7Ideal.nD Cert.Step7Ideal.τ).loc Cert.Step7Ideal.main_arg4)
      ∧ m' ((c.tc : Thread Cert.Step7RefIdeal.nD Cert.Step7RefIdeal.τ).loc Cert.Step7RefIdeal.main_arg5) = m ((c.tc : Thread Cert.Step7Ideal.nD Cert.Step7Ideal.τ).loc Cert.Step7Ideal.main_arg5)
      ∧ m' ((c.tc : Thread Cert.Step7RefIdeal.nD Cert.Step7RefIdeal.τ).loc Cert.Step7RefIdeal.main_arg6) = m ((c.tc : Thread Cert.Step7Ideal.nD Cert.Step7Ideal.τ).loc Cert.Step7Ideal.main_arg6)) →
    ∃ (v0 : (c : Dev Cert.Step7Ideal.nD) → Buf (Elt Ideal) ((c.tc : Thread Cert.Step7Ideal.nD Cert.Step7Ideal.τ).loc Cert.Step7Ideal.main_v2_0)) (v1 : (c : Dev Cert.Step7Ideal.nD) → Buf (Elt Ideal) ((c.tc : Thread Cert.Step7Ideal.nD Cert.Step7Ideal.τ).loc Cert.Step7Ideal.main_v2_1)) (v2 : (c : Dev Cert.Step7Ideal.nD) → Buf (Elt Ideal) ((c.tc : Thread Cert.Step7Ideal.nD Cert.Step7Ideal.τ).loc Cert.Step7Ideal.main_v2_2)) (v3 : (c : Dev Cert.Step7Ideal.nD) → Buf (Elt Ideal) ((c.tc : Thread Cert.Step7Ideal.nD Cert.Step7Ideal.τ).loc Cert.Step7Ideal.main_v2_3)),
      θ_run (Cert.Step7Ideal.defs (F := Ideal)) (onTc (τ := Cert.Step7Ideal.τ) (Cert.Step7Ideal.main (F := Ideal))) ⟨m, fun _ => 0, g⟩ (fun r => ∀ c : Dev Cert.Step7Ideal.nD,
          r.2.mem ((c.tc : Thread Cert.Step7Ideal.nD Cert.Step7Ideal.τ).loc Cert.Step7Ideal.main_v2_0) = v0 c
          ∧ r.2.mem ((c.tc : Thread Cert.Step7Ideal.nD Cert.Step7Ideal.τ).loc Cert.Step7Ideal.main_v2_1) = v1 c
          ∧ r.2.mem ((c.tc : Thread Cert.Step7Ideal.nD Cert.Step7Ideal.τ).loc Cert.Step7Ideal.main_v2_2) = v2 c
          ∧ r.2.mem ((c.tc : Thread Cert.Step7Ideal.nD Cert.Step7Ideal.τ).loc Cert.Step7Ideal.main_v2_3) = v3 c
          ∧ r.2.mem ((c.tc : Thread Cert.Step7Ideal.nD Cert.Step7Ideal.τ).loc Cert.Step7Ideal.main_arg0) = m ((c.tc : Thread Cert.Step7Ideal.nD Cert.Step7Ideal.τ).loc Cert.Step7Ideal.main_arg0)
          ∧ r.2.mem ((c.tc : Thread Cert.Step7Ideal.nD Cert.Step7Ideal.τ).loc Cert.Step7Ideal.main_arg1) = m ((c.tc : Thread Cert.Step7Ideal.nD Cert.Step7Ideal.τ).loc Cert.Step7Ideal.main_arg1)
          ∧ r.2.mem ((c.tc : Thread Cert.Step7Ideal.nD Cert.Step7Ideal.τ).loc Cert.Step7Ideal.main_arg2) = m ((c.tc : Thread Cert.Step7Ideal.nD Cert.Step7Ideal.τ).loc Cert.Step7Ideal.main_arg2)
          ∧ r.2.mem ((c.tc : Thread Cert.Step7Ideal.nD Cert.Step7Ideal.τ).loc Cert.Step7Ideal.main_arg3) = m ((c.tc : Thread Cert.Step7Ideal.nD Cert.Step7Ideal.τ).loc Cert.Step7Ideal.main_arg3)
          ∧ r.2.mem ((c.tc : Thread Cert.Step7Ideal.nD Cert.Step7Ideal.τ).loc Cert.Step7Ideal.main_arg4) = m ((c.tc : Thread Cert.Step7Ideal.nD Cert.Step7Ideal.τ).loc Cert.Step7Ideal.main_arg4)
          ∧ r.2.mem ((c.tc : Thread Cert.Step7Ideal.nD Cert.Step7Ideal.τ).loc Cert.Step7Ideal.main_arg5) = m ((c.tc : Thread Cert.Step7Ideal.nD Cert.Step7Ideal.τ).loc Cert.Step7Ideal.main_arg5)
          ∧ r.2.mem ((c.tc : Thread Cert.Step7Ideal.nD Cert.Step7Ideal.τ).loc Cert.Step7Ideal.main_arg6) = m ((c.tc : Thread Cert.Step7Ideal.nD Cert.Step7Ideal.τ).loc Cert.Step7Ideal.main_arg6))
      ∧ θ_run (Cert.Step7RefIdeal.defs (F := Ideal)) (onTc (τ := Cert.Step7RefIdeal.τ) (Cert.Step7RefIdeal.main (F := Ideal))) ⟨m', fun _ => 0, g'⟩ (fun r => ∀ c : Dev Cert.Step7RefIdeal.nD,
          r.2.mem ((c.tc : Thread Cert.Step7RefIdeal.nD Cert.Step7RefIdeal.τ).loc Cert.Step7RefIdeal.main_v6) = v0 c
          ∧ r.2.mem ((c.tc : Thread Cert.Step7RefIdeal.nD Cert.Step7RefIdeal.τ).loc Cert.Step7RefIdeal.main_v5) = v1 c
          ∧ r.2.mem ((c.tc : Thread Cert.Step7RefIdeal.nD Cert.Step7RefIdeal.τ).loc Cert.Step7RefIdeal.main_v40) = v2 c
          ∧ r.2.mem ((c.tc : Thread Cert.Step7RefIdeal.nD Cert.Step7RefIdeal.τ).loc Cert.Step7RefIdeal.main_v38) = v3 c
          ∧ r.2.mem ((c.tc : Thread Cert.Step7RefIdeal.nD Cert.Step7RefIdeal.τ).loc Cert.Step7RefIdeal.main_arg0) = m' ((c.tc : Thread Cert.Step7RefIdeal.nD Cert.Step7RefIdeal.τ).loc Cert.Step7RefIdeal.main_arg0)
          ∧ r.2.mem ((c.tc : Thread Cert.Step7RefIdeal.nD Cert.Step7RefIdeal.τ).loc Cert.Step7RefIdeal.main_arg1) = m' ((c.tc : Thread Cert.Step7RefIdeal.nD Cert.Step7RefIdeal.τ).loc Cert.Step7RefIdeal.main_arg1)
          ∧ r.2.mem ((c.tc : Thread Cert.Step7RefIdeal.nD Cert.Step7RefIdeal.τ).loc Cert.Step7RefIdeal.main_arg2) = m' ((c.tc : Thread Cert.Step7RefIdeal.nD Cert.Step7RefIdeal.τ).loc Cert.Step7RefIdeal.main_arg2)
          ∧ r.2.mem ((c.tc : Thread Cert.Step7RefIdeal.nD Cert.Step7RefIdeal.τ).loc Cert.Step7RefIdeal.main_arg3) = m' ((c.tc : Thread Cert.Step7RefIdeal.nD Cert.Step7RefIdeal.τ).loc Cert.Step7RefIdeal.main_arg3)
          ∧ r.2.mem ((c.tc : Thread Cert.Step7RefIdeal.nD Cert.Step7RefIdeal.τ).loc Cert.Step7RefIdeal.main_arg4) = m' ((c.tc : Thread Cert.Step7RefIdeal.nD Cert.Step7RefIdeal.τ).loc Cert.Step7RefIdeal.main_arg4)
          ∧ r.2.mem ((c.tc : Thread Cert.Step7RefIdeal.nD Cert.Step7RefIdeal.τ).loc Cert.Step7RefIdeal.main_arg5) = m' ((c.tc : Thread Cert.Step7RefIdeal.nD Cert.Step7RefIdeal.τ).loc Cert.Step7RefIdeal.main_arg5)
          ∧ r.2.mem ((c.tc : Thread Cert.Step7RefIdeal.nD Cert.Step7RefIdeal.τ).loc Cert.Step7RefIdeal.main_arg6) = m' ((c.tc : Thread Cert.Step7RefIdeal.nD Cert.Step7RefIdeal.τ).loc Cert.Step7RefIdeal.main_arg6))

def preserves_Step8_Step8Ideal : Prop :=
  True

def algebraic_Step8Ideal_Step8RefIdeal [hStep8Ideal : Cert.Step8Ideal.Facts] [hStep8RefIdeal : Cert.Step8RefIdeal.Facts] : Prop :=
  ∀ (m : (ℓ : Loc Cert.Step8Ideal.nD Cert.Step8Ideal.τ Cert.Step8Ideal.sig) → Buf (Elt Ideal) ℓ) (g : Dev Cert.Step8Ideal.nD → PrngReg)
    (m' : (ℓ : Loc Cert.Step8RefIdeal.nD Cert.Step8RefIdeal.τ Cert.Step8RefIdeal.sig) → Buf (Elt Ideal) ℓ) (g' : Dev Cert.Step8RefIdeal.nD → PrngReg), Pre_Step8Ideal m →
    (∀ c : Dev Cert.Step8Ideal.nD,
      m' ((c.tc : Thread Cert.Step8RefIdeal.nD Cert.Step8RefIdeal.τ).loc Cert.Step8RefIdeal.main_arg0) = m ((c.tc : Thread Cert.Step8Ideal.nD Cert.Step8Ideal.τ).loc Cert.Step8Ideal.main_arg0)
      ∧ m' ((c.tc : Thread Cert.Step8RefIdeal.nD Cert.Step8RefIdeal.τ).loc Cert.Step8RefIdeal.main_arg1) = m ((c.tc : Thread Cert.Step8Ideal.nD Cert.Step8Ideal.τ).loc Cert.Step8Ideal.main_arg1)
      ∧ m' ((c.tc : Thread Cert.Step8RefIdeal.nD Cert.Step8RefIdeal.τ).loc Cert.Step8RefIdeal.main_arg2) = m ((c.tc : Thread Cert.Step8Ideal.nD Cert.Step8Ideal.τ).loc Cert.Step8Ideal.main_arg2)
      ∧ m' ((c.tc : Thread Cert.Step8RefIdeal.nD Cert.Step8RefIdeal.τ).loc Cert.Step8RefIdeal.main_arg3) = m ((c.tc : Thread Cert.Step8Ideal.nD Cert.Step8Ideal.τ).loc Cert.Step8Ideal.main_arg3)
      ∧ m' ((c.tc : Thread Cert.Step8RefIdeal.nD Cert.Step8RefIdeal.τ).loc Cert.Step8RefIdeal.main_arg4) = m ((c.tc : Thread Cert.Step8Ideal.nD Cert.Step8Ideal.τ).loc Cert.Step8Ideal.main_arg4)
      ∧ m' ((c.tc : Thread Cert.Step8RefIdeal.nD Cert.Step8RefIdeal.τ).loc Cert.Step8RefIdeal.main_arg5) = m ((c.tc : Thread Cert.Step8Ideal.nD Cert.Step8Ideal.τ).loc Cert.Step8Ideal.main_arg5)
      ∧ m' ((c.tc : Thread Cert.Step8RefIdeal.nD Cert.Step8RefIdeal.τ).loc Cert.Step8RefIdeal.main_arg6) = m ((c.tc : Thread Cert.Step8Ideal.nD Cert.Step8Ideal.τ).loc Cert.Step8Ideal.main_arg6)) →
    ∃ (v0 : (c : Dev Cert.Step8Ideal.nD) → Buf (Elt Ideal) ((c.tc : Thread Cert.Step8Ideal.nD Cert.Step8Ideal.τ).loc Cert.Step8Ideal.main_v2_0)) (v1 : (c : Dev Cert.Step8Ideal.nD) → Buf (Elt Ideal) ((c.tc : Thread Cert.Step8Ideal.nD Cert.Step8Ideal.τ).loc Cert.Step8Ideal.main_v2_1)) (v2 : (c : Dev Cert.Step8Ideal.nD) → Buf (Elt Ideal) ((c.tc : Thread Cert.Step8Ideal.nD Cert.Step8Ideal.τ).loc Cert.Step8Ideal.main_v2_2)) (v3 : (c : Dev Cert.Step8Ideal.nD) → Buf (Elt Ideal) ((c.tc : Thread Cert.Step8Ideal.nD Cert.Step8Ideal.τ).loc Cert.Step8Ideal.main_v2_3)),
      θ_run (Cert.Step8Ideal.defs (F := Ideal)) (onTc (τ := Cert.Step8Ideal.τ) (Cert.Step8Ideal.main (F := Ideal))) ⟨m, fun _ => 0, g⟩ (fun r => ∀ c : Dev Cert.Step8Ideal.nD,
          r.2.mem ((c.tc : Thread Cert.Step8Ideal.nD Cert.Step8Ideal.τ).loc Cert.Step8Ideal.main_v2_0) = v0 c
          ∧ r.2.mem ((c.tc : Thread Cert.Step8Ideal.nD Cert.Step8Ideal.τ).loc Cert.Step8Ideal.main_v2_1) = v1 c
          ∧ r.2.mem ((c.tc : Thread Cert.Step8Ideal.nD Cert.Step8Ideal.τ).loc Cert.Step8Ideal.main_v2_2) = v2 c
          ∧ r.2.mem ((c.tc : Thread Cert.Step8Ideal.nD Cert.Step8Ideal.τ).loc Cert.Step8Ideal.main_v2_3) = v3 c
          ∧ r.2.mem ((c.tc : Thread Cert.Step8Ideal.nD Cert.Step8Ideal.τ).loc Cert.Step8Ideal.main_arg0) = m ((c.tc : Thread Cert.Step8Ideal.nD Cert.Step8Ideal.τ).loc Cert.Step8Ideal.main_arg0)
          ∧ r.2.mem ((c.tc : Thread Cert.Step8Ideal.nD Cert.Step8Ideal.τ).loc Cert.Step8Ideal.main_arg1) = m ((c.tc : Thread Cert.Step8Ideal.nD Cert.Step8Ideal.τ).loc Cert.Step8Ideal.main_arg1)
          ∧ r.2.mem ((c.tc : Thread Cert.Step8Ideal.nD Cert.Step8Ideal.τ).loc Cert.Step8Ideal.main_arg2) = m ((c.tc : Thread Cert.Step8Ideal.nD Cert.Step8Ideal.τ).loc Cert.Step8Ideal.main_arg2)
          ∧ r.2.mem ((c.tc : Thread Cert.Step8Ideal.nD Cert.Step8Ideal.τ).loc Cert.Step8Ideal.main_arg3) = m ((c.tc : Thread Cert.Step8Ideal.nD Cert.Step8Ideal.τ).loc Cert.Step8Ideal.main_arg3)
          ∧ r.2.mem ((c.tc : Thread Cert.Step8Ideal.nD Cert.Step8Ideal.τ).loc Cert.Step8Ideal.main_arg4) = m ((c.tc : Thread Cert.Step8Ideal.nD Cert.Step8Ideal.τ).loc Cert.Step8Ideal.main_arg4)
          ∧ r.2.mem ((c.tc : Thread Cert.Step8Ideal.nD Cert.Step8Ideal.τ).loc Cert.Step8Ideal.main_arg5) = m ((c.tc : Thread Cert.Step8Ideal.nD Cert.Step8Ideal.τ).loc Cert.Step8Ideal.main_arg5)
          ∧ r.2.mem ((c.tc : Thread Cert.Step8Ideal.nD Cert.Step8Ideal.τ).loc Cert.Step8Ideal.main_arg6) = m ((c.tc : Thread Cert.Step8Ideal.nD Cert.Step8Ideal.τ).loc Cert.Step8Ideal.main_arg6))
      ∧ θ_run (Cert.Step8RefIdeal.defs (F := Ideal)) (onTc (τ := Cert.Step8RefIdeal.τ) (Cert.Step8RefIdeal.main (F := Ideal))) ⟨m', fun _ => 0, g'⟩ (fun r => ∀ c : Dev Cert.Step8RefIdeal.nD,
          r.2.mem ((c.tc : Thread Cert.Step8RefIdeal.nD Cert.Step8RefIdeal.τ).loc Cert.Step8RefIdeal.main_v4) = v0 c
          ∧ r.2.mem ((c.tc : Thread Cert.Step8RefIdeal.nD Cert.Step8RefIdeal.τ).loc Cert.Step8RefIdeal.main_v3) = v1 c
          ∧ r.2.mem ((c.tc : Thread Cert.Step8RefIdeal.nD Cert.Step8RefIdeal.τ).loc Cert.Step8RefIdeal.main_v38) = v2 c
          ∧ r.2.mem ((c.tc : Thread Cert.Step8RefIdeal.nD Cert.Step8RefIdeal.τ).loc Cert.Step8RefIdeal.main_v36) = v3 c
          ∧ r.2.mem ((c.tc : Thread Cert.Step8RefIdeal.nD Cert.Step8RefIdeal.τ).loc Cert.Step8RefIdeal.main_arg0) = m' ((c.tc : Thread Cert.Step8RefIdeal.nD Cert.Step8RefIdeal.τ).loc Cert.Step8RefIdeal.main_arg0)
          ∧ r.2.mem ((c.tc : Thread Cert.Step8RefIdeal.nD Cert.Step8RefIdeal.τ).loc Cert.Step8RefIdeal.main_arg1) = m' ((c.tc : Thread Cert.Step8RefIdeal.nD Cert.Step8RefIdeal.τ).loc Cert.Step8RefIdeal.main_arg1)
          ∧ r.2.mem ((c.tc : Thread Cert.Step8RefIdeal.nD Cert.Step8RefIdeal.τ).loc Cert.Step8RefIdeal.main_arg2) = m' ((c.tc : Thread Cert.Step8RefIdeal.nD Cert.Step8RefIdeal.τ).loc Cert.Step8RefIdeal.main_arg2)
          ∧ r.2.mem ((c.tc : Thread Cert.Step8RefIdeal.nD Cert.Step8RefIdeal.τ).loc Cert.Step8RefIdeal.main_arg3) = m' ((c.tc : Thread Cert.Step8RefIdeal.nD Cert.Step8RefIdeal.τ).loc Cert.Step8RefIdeal.main_arg3)
          ∧ r.2.mem ((c.tc : Thread Cert.Step8RefIdeal.nD Cert.Step8RefIdeal.τ).loc Cert.Step8RefIdeal.main_arg4) = m' ((c.tc : Thread Cert.Step8RefIdeal.nD Cert.Step8RefIdeal.τ).loc Cert.Step8RefIdeal.main_arg4)
          ∧ r.2.mem ((c.tc : Thread Cert.Step8RefIdeal.nD Cert.Step8RefIdeal.τ).loc Cert.Step8RefIdeal.main_arg5) = m' ((c.tc : Thread Cert.Step8RefIdeal.nD Cert.Step8RefIdeal.τ).loc Cert.Step8RefIdeal.main_arg5)
          ∧ r.2.mem ((c.tc : Thread Cert.Step8RefIdeal.nD Cert.Step8RefIdeal.τ).loc Cert.Step8RefIdeal.main_arg6) = m' ((c.tc : Thread Cert.Step8RefIdeal.nD Cert.Step8RefIdeal.τ).loc Cert.Step8RefIdeal.main_arg6))

def preserves_Step16_Step16Ideal : Prop :=
  True

def algebraic_Step16Ideal_Step16RefIdeal [hStep16Ideal : Cert.Step16Ideal.Facts] [hStep16RefIdeal : Cert.Step16RefIdeal.Facts] : Prop :=
  ∀ (m : (ℓ : Loc Cert.Step16Ideal.nD Cert.Step16Ideal.τ Cert.Step16Ideal.sig) → Buf (Elt Ideal) ℓ) (g : Dev Cert.Step16Ideal.nD → PrngReg)
    (m' : (ℓ : Loc Cert.Step16RefIdeal.nD Cert.Step16RefIdeal.τ Cert.Step16RefIdeal.sig) → Buf (Elt Ideal) ℓ) (g' : Dev Cert.Step16RefIdeal.nD → PrngReg), Pre_Step16Ideal m →
    (∀ c : Dev Cert.Step16Ideal.nD,
      m' ((c.tc : Thread Cert.Step16RefIdeal.nD Cert.Step16RefIdeal.τ).loc Cert.Step16RefIdeal.main_arg0) = m ((c.tc : Thread Cert.Step16Ideal.nD Cert.Step16Ideal.τ).loc Cert.Step16Ideal.main_arg0)
      ∧ m' ((c.tc : Thread Cert.Step16RefIdeal.nD Cert.Step16RefIdeal.τ).loc Cert.Step16RefIdeal.main_arg1) = m ((c.tc : Thread Cert.Step16Ideal.nD Cert.Step16Ideal.τ).loc Cert.Step16Ideal.main_arg1)
      ∧ m' ((c.tc : Thread Cert.Step16RefIdeal.nD Cert.Step16RefIdeal.τ).loc Cert.Step16RefIdeal.main_arg2) = m ((c.tc : Thread Cert.Step16Ideal.nD Cert.Step16Ideal.τ).loc Cert.Step16Ideal.main_arg2)
      ∧ m' ((c.tc : Thread Cert.Step16RefIdeal.nD Cert.Step16RefIdeal.τ).loc Cert.Step16RefIdeal.main_arg3) = m ((c.tc : Thread Cert.Step16Ideal.nD Cert.Step16Ideal.τ).loc Cert.Step16Ideal.main_arg3)
      ∧ m' ((c.tc : Thread Cert.Step16RefIdeal.nD Cert.Step16RefIdeal.τ).loc Cert.Step16RefIdeal.main_arg4) = m ((c.tc : Thread Cert.Step16Ideal.nD Cert.Step16Ideal.τ).loc Cert.Step16Ideal.main_arg4)
      ∧ m' ((c.tc : Thread Cert.Step16RefIdeal.nD Cert.Step16RefIdeal.τ).loc Cert.Step16RefIdeal.main_arg5) = m ((c.tc : Thread Cert.Step16Ideal.nD Cert.Step16Ideal.τ).loc Cert.Step16Ideal.main_arg5)
      ∧ m' ((c.tc : Thread Cert.Step16RefIdeal.nD Cert.Step16RefIdeal.τ).loc Cert.Step16RefIdeal.main_arg6) = m ((c.tc : Thread Cert.Step16Ideal.nD Cert.Step16Ideal.τ).loc Cert.Step16Ideal.main_arg6)) →
    ∃ (v0 : (c : Dev Cert.Step16Ideal.nD) → Buf (Elt Ideal) ((c.tc : Thread Cert.Step16Ideal.nD Cert.Step16Ideal.τ).loc Cert.Step16Ideal.main_v2_0)) (v1 : (c : Dev Cert.Step16Ideal.nD) → Buf (Elt Ideal) ((c.tc : Thread Cert.Step16Ideal.nD Cert.Step16Ideal.τ).loc Cert.Step16Ideal.main_v2_1)) (v2 : (c : Dev Cert.Step16Ideal.nD) → Buf (Elt Ideal) ((c.tc : Thread Cert.Step16Ideal.nD Cert.Step16Ideal.τ).loc Cert.Step16Ideal.main_v2_2)) (v3 : (c : Dev Cert.Step16Ideal.nD) → Buf (Elt Ideal) ((c.tc : Thread Cert.Step16Ideal.nD Cert.Step16Ideal.τ).loc Cert.Step16Ideal.main_v2_3)),
      θ_run (Cert.Step16Ideal.defs (F := Ideal)) (onTc (τ := Cert.Step16Ideal.τ) (Cert.Step16Ideal.main (F := Ideal))) ⟨m, fun _ => 0, g⟩ (fun r => ∀ c : Dev Cert.Step16Ideal.nD,
          r.2.mem ((c.tc : Thread Cert.Step16Ideal.nD Cert.Step16Ideal.τ).loc Cert.Step16Ideal.main_v2_0) = v0 c
          ∧ r.2.mem ((c.tc : Thread Cert.Step16Ideal.nD Cert.Step16Ideal.τ).loc Cert.Step16Ideal.main_v2_1) = v1 c
          ∧ r.2.mem ((c.tc : Thread Cert.Step16Ideal.nD Cert.Step16Ideal.τ).loc Cert.Step16Ideal.main_v2_2) = v2 c
          ∧ r.2.mem ((c.tc : Thread Cert.Step16Ideal.nD Cert.Step16Ideal.τ).loc Cert.Step16Ideal.main_v2_3) = v3 c
          ∧ r.2.mem ((c.tc : Thread Cert.Step16Ideal.nD Cert.Step16Ideal.τ).loc Cert.Step16Ideal.main_arg0) = m ((c.tc : Thread Cert.Step16Ideal.nD Cert.Step16Ideal.τ).loc Cert.Step16Ideal.main_arg0)
          ∧ r.2.mem ((c.tc : Thread Cert.Step16Ideal.nD Cert.Step16Ideal.τ).loc Cert.Step16Ideal.main_arg1) = m ((c.tc : Thread Cert.Step16Ideal.nD Cert.Step16Ideal.τ).loc Cert.Step16Ideal.main_arg1)
          ∧ r.2.mem ((c.tc : Thread Cert.Step16Ideal.nD Cert.Step16Ideal.τ).loc Cert.Step16Ideal.main_arg2) = m ((c.tc : Thread Cert.Step16Ideal.nD Cert.Step16Ideal.τ).loc Cert.Step16Ideal.main_arg2)
          ∧ r.2.mem ((c.tc : Thread Cert.Step16Ideal.nD Cert.Step16Ideal.τ).loc Cert.Step16Ideal.main_arg3) = m ((c.tc : Thread Cert.Step16Ideal.nD Cert.Step16Ideal.τ).loc Cert.Step16Ideal.main_arg3)
          ∧ r.2.mem ((c.tc : Thread Cert.Step16Ideal.nD Cert.Step16Ideal.τ).loc Cert.Step16Ideal.main_arg4) = m ((c.tc : Thread Cert.Step16Ideal.nD Cert.Step16Ideal.τ).loc Cert.Step16Ideal.main_arg4)
          ∧ r.2.mem ((c.tc : Thread Cert.Step16Ideal.nD Cert.Step16Ideal.τ).loc Cert.Step16Ideal.main_arg5) = m ((c.tc : Thread Cert.Step16Ideal.nD Cert.Step16Ideal.τ).loc Cert.Step16Ideal.main_arg5)
          ∧ r.2.mem ((c.tc : Thread Cert.Step16Ideal.nD Cert.Step16Ideal.τ).loc Cert.Step16Ideal.main_arg6) = m ((c.tc : Thread Cert.Step16Ideal.nD Cert.Step16Ideal.τ).loc Cert.Step16Ideal.main_arg6))
      ∧ θ_run (Cert.Step16RefIdeal.defs (F := Ideal)) (onTc (τ := Cert.Step16RefIdeal.τ) (Cert.Step16RefIdeal.main (F := Ideal))) ⟨m', fun _ => 0, g'⟩ (fun r => ∀ c : Dev Cert.Step16RefIdeal.nD,
          r.2.mem ((c.tc : Thread Cert.Step16RefIdeal.nD Cert.Step16RefIdeal.τ).loc Cert.Step16RefIdeal.main_v4) = v0 c
          ∧ r.2.mem ((c.tc : Thread Cert.Step16RefIdeal.nD Cert.Step16RefIdeal.τ).loc Cert.Step16RefIdeal.main_v3) = v1 c
          ∧ r.2.mem ((c.tc : Thread Cert.Step16RefIdeal.nD Cert.Step16RefIdeal.τ).loc Cert.Step16RefIdeal.main_v38) = v2 c
          ∧ r.2.mem ((c.tc : Thread Cert.Step16RefIdeal.nD Cert.Step16RefIdeal.τ).loc Cert.Step16RefIdeal.main_v36) = v3 c
          ∧ r.2.mem ((c.tc : Thread Cert.Step16RefIdeal.nD Cert.Step16RefIdeal.τ).loc Cert.Step16RefIdeal.main_arg0) = m' ((c.tc : Thread Cert.Step16RefIdeal.nD Cert.Step16RefIdeal.τ).loc Cert.Step16RefIdeal.main_arg0)
          ∧ r.2.mem ((c.tc : Thread Cert.Step16RefIdeal.nD Cert.Step16RefIdeal.τ).loc Cert.Step16RefIdeal.main_arg1) = m' ((c.tc : Thread Cert.Step16RefIdeal.nD Cert.Step16RefIdeal.τ).loc Cert.Step16RefIdeal.main_arg1)
          ∧ r.2.mem ((c.tc : Thread Cert.Step16RefIdeal.nD Cert.Step16RefIdeal.τ).loc Cert.Step16RefIdeal.main_arg2) = m' ((c.tc : Thread Cert.Step16RefIdeal.nD Cert.Step16RefIdeal.τ).loc Cert.Step16RefIdeal.main_arg2)
          ∧ r.2.mem ((c.tc : Thread Cert.Step16RefIdeal.nD Cert.Step16RefIdeal.τ).loc Cert.Step16RefIdeal.main_arg3) = m' ((c.tc : Thread Cert.Step16RefIdeal.nD Cert.Step16RefIdeal.τ).loc Cert.Step16RefIdeal.main_arg3)
          ∧ r.2.mem ((c.tc : Thread Cert.Step16RefIdeal.nD Cert.Step16RefIdeal.τ).loc Cert.Step16RefIdeal.main_arg4) = m' ((c.tc : Thread Cert.Step16RefIdeal.nD Cert.Step16RefIdeal.τ).loc Cert.Step16RefIdeal.main_arg4)
          ∧ r.2.mem ((c.tc : Thread Cert.Step16RefIdeal.nD Cert.Step16RefIdeal.τ).loc Cert.Step16RefIdeal.main_arg5) = m' ((c.tc : Thread Cert.Step16RefIdeal.nD Cert.Step16RefIdeal.τ).loc Cert.Step16RefIdeal.main_arg5)
          ∧ r.2.mem ((c.tc : Thread Cert.Step16RefIdeal.nD Cert.Step16RefIdeal.τ).loc Cert.Step16RefIdeal.main_arg6) = m' ((c.tc : Thread Cert.Step16RefIdeal.nD Cert.Step16RefIdeal.τ).loc Cert.Step16RefIdeal.main_arg6))

def preserves_Step24_Step24Ideal : Prop :=
  True

def algebraic_Step24Ideal_Step24RefIdeal [hStep24Ideal : Cert.Step24Ideal.Facts] [hStep24RefIdeal : Cert.Step24RefIdeal.Facts] : Prop :=
  ∀ (m : (ℓ : Loc Cert.Step24Ideal.nD Cert.Step24Ideal.τ Cert.Step24Ideal.sig) → Buf (Elt Ideal) ℓ) (g : Dev Cert.Step24Ideal.nD → PrngReg)
    (m' : (ℓ : Loc Cert.Step24RefIdeal.nD Cert.Step24RefIdeal.τ Cert.Step24RefIdeal.sig) → Buf (Elt Ideal) ℓ) (g' : Dev Cert.Step24RefIdeal.nD → PrngReg), Pre_Step24Ideal m →
    (∀ c : Dev Cert.Step24Ideal.nD,
      m' ((c.tc : Thread Cert.Step24RefIdeal.nD Cert.Step24RefIdeal.τ).loc Cert.Step24RefIdeal.main_arg0) = m ((c.tc : Thread Cert.Step24Ideal.nD Cert.Step24Ideal.τ).loc Cert.Step24Ideal.main_arg0)
      ∧ m' ((c.tc : Thread Cert.Step24RefIdeal.nD Cert.Step24RefIdeal.τ).loc Cert.Step24RefIdeal.main_arg1) = m ((c.tc : Thread Cert.Step24Ideal.nD Cert.Step24Ideal.τ).loc Cert.Step24Ideal.main_arg1)
      ∧ m' ((c.tc : Thread Cert.Step24RefIdeal.nD Cert.Step24RefIdeal.τ).loc Cert.Step24RefIdeal.main_arg2) = m ((c.tc : Thread Cert.Step24Ideal.nD Cert.Step24Ideal.τ).loc Cert.Step24Ideal.main_arg2)
      ∧ m' ((c.tc : Thread Cert.Step24RefIdeal.nD Cert.Step24RefIdeal.τ).loc Cert.Step24RefIdeal.main_arg3) = m ((c.tc : Thread Cert.Step24Ideal.nD Cert.Step24Ideal.τ).loc Cert.Step24Ideal.main_arg3)
      ∧ m' ((c.tc : Thread Cert.Step24RefIdeal.nD Cert.Step24RefIdeal.τ).loc Cert.Step24RefIdeal.main_arg4) = m ((c.tc : Thread Cert.Step24Ideal.nD Cert.Step24Ideal.τ).loc Cert.Step24Ideal.main_arg4)
      ∧ m' ((c.tc : Thread Cert.Step24RefIdeal.nD Cert.Step24RefIdeal.τ).loc Cert.Step24RefIdeal.main_arg5) = m ((c.tc : Thread Cert.Step24Ideal.nD Cert.Step24Ideal.τ).loc Cert.Step24Ideal.main_arg5)
      ∧ m' ((c.tc : Thread Cert.Step24RefIdeal.nD Cert.Step24RefIdeal.τ).loc Cert.Step24RefIdeal.main_arg6) = m ((c.tc : Thread Cert.Step24Ideal.nD Cert.Step24Ideal.τ).loc Cert.Step24Ideal.main_arg6)) →
    ∃ (v0 : (c : Dev Cert.Step24Ideal.nD) → Buf (Elt Ideal) ((c.tc : Thread Cert.Step24Ideal.nD Cert.Step24Ideal.τ).loc Cert.Step24Ideal.main_v2_0)) (v1 : (c : Dev Cert.Step24Ideal.nD) → Buf (Elt Ideal) ((c.tc : Thread Cert.Step24Ideal.nD Cert.Step24Ideal.τ).loc Cert.Step24Ideal.main_v2_1)) (v2 : (c : Dev Cert.Step24Ideal.nD) → Buf (Elt Ideal) ((c.tc : Thread Cert.Step24Ideal.nD Cert.Step24Ideal.τ).loc Cert.Step24Ideal.main_v2_2)) (v3 : (c : Dev Cert.Step24Ideal.nD) → Buf (Elt Ideal) ((c.tc : Thread Cert.Step24Ideal.nD Cert.Step24Ideal.τ).loc Cert.Step24Ideal.main_v2_3)),
      θ_run (Cert.Step24Ideal.defs (F := Ideal)) (onTc (τ := Cert.Step24Ideal.τ) (Cert.Step24Ideal.main (F := Ideal))) ⟨m, fun _ => 0, g⟩ (fun r => ∀ c : Dev Cert.Step24Ideal.nD,
          r.2.mem ((c.tc : Thread Cert.Step24Ideal.nD Cert.Step24Ideal.τ).loc Cert.Step24Ideal.main_v2_0) = v0 c
          ∧ r.2.mem ((c.tc : Thread Cert.Step24Ideal.nD Cert.Step24Ideal.τ).loc Cert.Step24Ideal.main_v2_1) = v1 c
          ∧ r.2.mem ((c.tc : Thread Cert.Step24Ideal.nD Cert.Step24Ideal.τ).loc Cert.Step24Ideal.main_v2_2) = v2 c
          ∧ r.2.mem ((c.tc : Thread Cert.Step24Ideal.nD Cert.Step24Ideal.τ).loc Cert.Step24Ideal.main_v2_3) = v3 c
          ∧ r.2.mem ((c.tc : Thread Cert.Step24Ideal.nD Cert.Step24Ideal.τ).loc Cert.Step24Ideal.main_arg0) = m ((c.tc : Thread Cert.Step24Ideal.nD Cert.Step24Ideal.τ).loc Cert.Step24Ideal.main_arg0)
          ∧ r.2.mem ((c.tc : Thread Cert.Step24Ideal.nD Cert.Step24Ideal.τ).loc Cert.Step24Ideal.main_arg1) = m ((c.tc : Thread Cert.Step24Ideal.nD Cert.Step24Ideal.τ).loc Cert.Step24Ideal.main_arg1)
          ∧ r.2.mem ((c.tc : Thread Cert.Step24Ideal.nD Cert.Step24Ideal.τ).loc Cert.Step24Ideal.main_arg2) = m ((c.tc : Thread Cert.Step24Ideal.nD Cert.Step24Ideal.τ).loc Cert.Step24Ideal.main_arg2)
          ∧ r.2.mem ((c.tc : Thread Cert.Step24Ideal.nD Cert.Step24Ideal.τ).loc Cert.Step24Ideal.main_arg3) = m ((c.tc : Thread Cert.Step24Ideal.nD Cert.Step24Ideal.τ).loc Cert.Step24Ideal.main_arg3)
          ∧ r.2.mem ((c.tc : Thread Cert.Step24Ideal.nD Cert.Step24Ideal.τ).loc Cert.Step24Ideal.main_arg4) = m ((c.tc : Thread Cert.Step24Ideal.nD Cert.Step24Ideal.τ).loc Cert.Step24Ideal.main_arg4)
          ∧ r.2.mem ((c.tc : Thread Cert.Step24Ideal.nD Cert.Step24Ideal.τ).loc Cert.Step24Ideal.main_arg5) = m ((c.tc : Thread Cert.Step24Ideal.nD Cert.Step24Ideal.τ).loc Cert.Step24Ideal.main_arg5)
          ∧ r.2.mem ((c.tc : Thread Cert.Step24Ideal.nD Cert.Step24Ideal.τ).loc Cert.Step24Ideal.main_arg6) = m ((c.tc : Thread Cert.Step24Ideal.nD Cert.Step24Ideal.τ).loc Cert.Step24Ideal.main_arg6))
      ∧ θ_run (Cert.Step24RefIdeal.defs (F := Ideal)) (onTc (τ := Cert.Step24RefIdeal.τ) (Cert.Step24RefIdeal.main (F := Ideal))) ⟨m', fun _ => 0, g'⟩ (fun r => ∀ c : Dev Cert.Step24RefIdeal.nD,
          r.2.mem ((c.tc : Thread Cert.Step24RefIdeal.nD Cert.Step24RefIdeal.τ).loc Cert.Step24RefIdeal.main_v4) = v0 c
          ∧ r.2.mem ((c.tc : Thread Cert.Step24RefIdeal.nD Cert.Step24RefIdeal.τ).loc Cert.Step24RefIdeal.main_v3) = v1 c
          ∧ r.2.mem ((c.tc : Thread Cert.Step24RefIdeal.nD Cert.Step24RefIdeal.τ).loc Cert.Step24RefIdeal.main_v38) = v2 c
          ∧ r.2.mem ((c.tc : Thread Cert.Step24RefIdeal.nD Cert.Step24RefIdeal.τ).loc Cert.Step24RefIdeal.main_v36) = v3 c
          ∧ r.2.mem ((c.tc : Thread Cert.Step24RefIdeal.nD Cert.Step24RefIdeal.τ).loc Cert.Step24RefIdeal.main_arg0) = m' ((c.tc : Thread Cert.Step24RefIdeal.nD Cert.Step24RefIdeal.τ).loc Cert.Step24RefIdeal.main_arg0)
          ∧ r.2.mem ((c.tc : Thread Cert.Step24RefIdeal.nD Cert.Step24RefIdeal.τ).loc Cert.Step24RefIdeal.main_arg1) = m' ((c.tc : Thread Cert.Step24RefIdeal.nD Cert.Step24RefIdeal.τ).loc Cert.Step24RefIdeal.main_arg1)
          ∧ r.2.mem ((c.tc : Thread Cert.Step24RefIdeal.nD Cert.Step24RefIdeal.τ).loc Cert.Step24RefIdeal.main_arg2) = m' ((c.tc : Thread Cert.Step24RefIdeal.nD Cert.Step24RefIdeal.τ).loc Cert.Step24RefIdeal.main_arg2)
          ∧ r.2.mem ((c.tc : Thread Cert.Step24RefIdeal.nD Cert.Step24RefIdeal.τ).loc Cert.Step24RefIdeal.main_arg3) = m' ((c.tc : Thread Cert.Step24RefIdeal.nD Cert.Step24RefIdeal.τ).loc Cert.Step24RefIdeal.main_arg3)
          ∧ r.2.mem ((c.tc : Thread Cert.Step24RefIdeal.nD Cert.Step24RefIdeal.τ).loc Cert.Step24RefIdeal.main_arg4) = m' ((c.tc : Thread Cert.Step24RefIdeal.nD Cert.Step24RefIdeal.τ).loc Cert.Step24RefIdeal.main_arg4)
          ∧ r.2.mem ((c.tc : Thread Cert.Step24RefIdeal.nD Cert.Step24RefIdeal.τ).loc Cert.Step24RefIdeal.main_arg5) = m' ((c.tc : Thread Cert.Step24RefIdeal.nD Cert.Step24RefIdeal.τ).loc Cert.Step24RefIdeal.main_arg5)
          ∧ r.2.mem ((c.tc : Thread Cert.Step24RefIdeal.nD Cert.Step24RefIdeal.τ).loc Cert.Step24RefIdeal.main_arg6) = m' ((c.tc : Thread Cert.Step24RefIdeal.nD Cert.Step24RefIdeal.τ).loc Cert.Step24RefIdeal.main_arg6))

def preserves_Step32_Step32Ideal : Prop :=
  True

def algebraic_Step32Ideal_Step32RefIdeal [hStep32Ideal : Cert.Step32Ideal.Facts] [hStep32RefIdeal : Cert.Step32RefIdeal.Facts] : Prop :=
  ∀ (m : (ℓ : Loc Cert.Step32Ideal.nD Cert.Step32Ideal.τ Cert.Step32Ideal.sig) → Buf (Elt Ideal) ℓ) (g : Dev Cert.Step32Ideal.nD → PrngReg)
    (m' : (ℓ : Loc Cert.Step32RefIdeal.nD Cert.Step32RefIdeal.τ Cert.Step32RefIdeal.sig) → Buf (Elt Ideal) ℓ) (g' : Dev Cert.Step32RefIdeal.nD → PrngReg), Pre_Step32Ideal m →
    (∀ c : Dev Cert.Step32Ideal.nD,
      m' ((c.tc : Thread Cert.Step32RefIdeal.nD Cert.Step32RefIdeal.τ).loc Cert.Step32RefIdeal.main_arg0) = m ((c.tc : Thread Cert.Step32Ideal.nD Cert.Step32Ideal.τ).loc Cert.Step32Ideal.main_arg0)
      ∧ m' ((c.tc : Thread Cert.Step32RefIdeal.nD Cert.Step32RefIdeal.τ).loc Cert.Step32RefIdeal.main_arg1) = m ((c.tc : Thread Cert.Step32Ideal.nD Cert.Step32Ideal.τ).loc Cert.Step32Ideal.main_arg1)
      ∧ m' ((c.tc : Thread Cert.Step32RefIdeal.nD Cert.Step32RefIdeal.τ).loc Cert.Step32RefIdeal.main_arg2) = m ((c.tc : Thread Cert.Step32Ideal.nD Cert.Step32Ideal.τ).loc Cert.Step32Ideal.main_arg2)
      ∧ m' ((c.tc : Thread Cert.Step32RefIdeal.nD Cert.Step32RefIdeal.τ).loc Cert.Step32RefIdeal.main_arg3) = m ((c.tc : Thread Cert.Step32Ideal.nD Cert.Step32Ideal.τ).loc Cert.Step32Ideal.main_arg3)
      ∧ m' ((c.tc : Thread Cert.Step32RefIdeal.nD Cert.Step32RefIdeal.τ).loc Cert.Step32RefIdeal.main_arg4) = m ((c.tc : Thread Cert.Step32Ideal.nD Cert.Step32Ideal.τ).loc Cert.Step32Ideal.main_arg4)
      ∧ m' ((c.tc : Thread Cert.Step32RefIdeal.nD Cert.Step32RefIdeal.τ).loc Cert.Step32RefIdeal.main_arg5) = m ((c.tc : Thread Cert.Step32Ideal.nD Cert.Step32Ideal.τ).loc Cert.Step32Ideal.main_arg5)
      ∧ m' ((c.tc : Thread Cert.Step32RefIdeal.nD Cert.Step32RefIdeal.τ).loc Cert.Step32RefIdeal.main_arg6) = m ((c.tc : Thread Cert.Step32Ideal.nD Cert.Step32Ideal.τ).loc Cert.Step32Ideal.main_arg6)) →
    ∃ (v0 : (c : Dev Cert.Step32Ideal.nD) → Buf (Elt Ideal) ((c.tc : Thread Cert.Step32Ideal.nD Cert.Step32Ideal.τ).loc Cert.Step32Ideal.main_v2_0)) (v1 : (c : Dev Cert.Step32Ideal.nD) → Buf (Elt Ideal) ((c.tc : Thread Cert.Step32Ideal.nD Cert.Step32Ideal.τ).loc Cert.Step32Ideal.main_v2_1)) (v2 : (c : Dev Cert.Step32Ideal.nD) → Buf (Elt Ideal) ((c.tc : Thread Cert.Step32Ideal.nD Cert.Step32Ideal.τ).loc Cert.Step32Ideal.main_v2_2)) (v3 : (c : Dev Cert.Step32Ideal.nD) → Buf (Elt Ideal) ((c.tc : Thread Cert.Step32Ideal.nD Cert.Step32Ideal.τ).loc Cert.Step32Ideal.main_v2_3)),
      θ_run (Cert.Step32Ideal.defs (F := Ideal)) (onTc (τ := Cert.Step32Ideal.τ) (Cert.Step32Ideal.main (F := Ideal))) ⟨m, fun _ => 0, g⟩ (fun r => ∀ c : Dev Cert.Step32Ideal.nD,
          r.2.mem ((c.tc : Thread Cert.Step32Ideal.nD Cert.Step32Ideal.τ).loc Cert.Step32Ideal.main_v2_0) = v0 c
          ∧ r.2.mem ((c.tc : Thread Cert.Step32Ideal.nD Cert.Step32Ideal.τ).loc Cert.Step32Ideal.main_v2_1) = v1 c
          ∧ r.2.mem ((c.tc : Thread Cert.Step32Ideal.nD Cert.Step32Ideal.τ).loc Cert.Step32Ideal.main_v2_2) = v2 c
          ∧ r.2.mem ((c.tc : Thread Cert.Step32Ideal.nD Cert.Step32Ideal.τ).loc Cert.Step32Ideal.main_v2_3) = v3 c
          ∧ r.2.mem ((c.tc : Thread Cert.Step32Ideal.nD Cert.Step32Ideal.τ).loc Cert.Step32Ideal.main_arg0) = m ((c.tc : Thread Cert.Step32Ideal.nD Cert.Step32Ideal.τ).loc Cert.Step32Ideal.main_arg0)
          ∧ r.2.mem ((c.tc : Thread Cert.Step32Ideal.nD Cert.Step32Ideal.τ).loc Cert.Step32Ideal.main_arg1) = m ((c.tc : Thread Cert.Step32Ideal.nD Cert.Step32Ideal.τ).loc Cert.Step32Ideal.main_arg1)
          ∧ r.2.mem ((c.tc : Thread Cert.Step32Ideal.nD Cert.Step32Ideal.τ).loc Cert.Step32Ideal.main_arg2) = m ((c.tc : Thread Cert.Step32Ideal.nD Cert.Step32Ideal.τ).loc Cert.Step32Ideal.main_arg2)
          ∧ r.2.mem ((c.tc : Thread Cert.Step32Ideal.nD Cert.Step32Ideal.τ).loc Cert.Step32Ideal.main_arg3) = m ((c.tc : Thread Cert.Step32Ideal.nD Cert.Step32Ideal.τ).loc Cert.Step32Ideal.main_arg3)
          ∧ r.2.mem ((c.tc : Thread Cert.Step32Ideal.nD Cert.Step32Ideal.τ).loc Cert.Step32Ideal.main_arg4) = m ((c.tc : Thread Cert.Step32Ideal.nD Cert.Step32Ideal.τ).loc Cert.Step32Ideal.main_arg4)
          ∧ r.2.mem ((c.tc : Thread Cert.Step32Ideal.nD Cert.Step32Ideal.τ).loc Cert.Step32Ideal.main_arg5) = m ((c.tc : Thread Cert.Step32Ideal.nD Cert.Step32Ideal.τ).loc Cert.Step32Ideal.main_arg5)
          ∧ r.2.mem ((c.tc : Thread Cert.Step32Ideal.nD Cert.Step32Ideal.τ).loc Cert.Step32Ideal.main_arg6) = m ((c.tc : Thread Cert.Step32Ideal.nD Cert.Step32Ideal.τ).loc Cert.Step32Ideal.main_arg6))
      ∧ θ_run (Cert.Step32RefIdeal.defs (F := Ideal)) (onTc (τ := Cert.Step32RefIdeal.τ) (Cert.Step32RefIdeal.main (F := Ideal))) ⟨m', fun _ => 0, g'⟩ (fun r => ∀ c : Dev Cert.Step32RefIdeal.nD,
          r.2.mem ((c.tc : Thread Cert.Step32RefIdeal.nD Cert.Step32RefIdeal.τ).loc Cert.Step32RefIdeal.main_v4) = v0 c
          ∧ r.2.mem ((c.tc : Thread Cert.Step32RefIdeal.nD Cert.Step32RefIdeal.τ).loc Cert.Step32RefIdeal.main_v3) = v1 c
          ∧ r.2.mem ((c.tc : Thread Cert.Step32RefIdeal.nD Cert.Step32RefIdeal.τ).loc Cert.Step32RefIdeal.main_v38) = v2 c
          ∧ r.2.mem ((c.tc : Thread Cert.Step32RefIdeal.nD Cert.Step32RefIdeal.τ).loc Cert.Step32RefIdeal.main_v36) = v3 c
          ∧ r.2.mem ((c.tc : Thread Cert.Step32RefIdeal.nD Cert.Step32RefIdeal.τ).loc Cert.Step32RefIdeal.main_arg0) = m' ((c.tc : Thread Cert.Step32RefIdeal.nD Cert.Step32RefIdeal.τ).loc Cert.Step32RefIdeal.main_arg0)
          ∧ r.2.mem ((c.tc : Thread Cert.Step32RefIdeal.nD Cert.Step32RefIdeal.τ).loc Cert.Step32RefIdeal.main_arg1) = m' ((c.tc : Thread Cert.Step32RefIdeal.nD Cert.Step32RefIdeal.τ).loc Cert.Step32RefIdeal.main_arg1)
          ∧ r.2.mem ((c.tc : Thread Cert.Step32RefIdeal.nD Cert.Step32RefIdeal.τ).loc Cert.Step32RefIdeal.main_arg2) = m' ((c.tc : Thread Cert.Step32RefIdeal.nD Cert.Step32RefIdeal.τ).loc Cert.Step32RefIdeal.main_arg2)
          ∧ r.2.mem ((c.tc : Thread Cert.Step32RefIdeal.nD Cert.Step32RefIdeal.τ).loc Cert.Step32RefIdeal.main_arg3) = m' ((c.tc : Thread Cert.Step32RefIdeal.nD Cert.Step32RefIdeal.τ).loc Cert.Step32RefIdeal.main_arg3)
          ∧ r.2.mem ((c.tc : Thread Cert.Step32RefIdeal.nD Cert.Step32RefIdeal.τ).loc Cert.Step32RefIdeal.main_arg4) = m' ((c.tc : Thread Cert.Step32RefIdeal.nD Cert.Step32RefIdeal.τ).loc Cert.Step32RefIdeal.main_arg4)
          ∧ r.2.mem ((c.tc : Thread Cert.Step32RefIdeal.nD Cert.Step32RefIdeal.τ).loc Cert.Step32RefIdeal.main_arg5) = m' ((c.tc : Thread Cert.Step32RefIdeal.nD Cert.Step32RefIdeal.τ).loc Cert.Step32RefIdeal.main_arg5)
          ∧ r.2.mem ((c.tc : Thread Cert.Step32RefIdeal.nD Cert.Step32RefIdeal.τ).loc Cert.Step32RefIdeal.main_arg6) = m' ((c.tc : Thread Cert.Step32RefIdeal.nD Cert.Step32RefIdeal.τ).loc Cert.Step32RefIdeal.main_arg6))

def preserves_Step40_Step40Ideal : Prop :=
  True

def algebraic_Step40Ideal_Step40RefIdeal [hStep40Ideal : Cert.Step40Ideal.Facts] [hStep40RefIdeal : Cert.Step40RefIdeal.Facts] : Prop :=
  ∀ (m : (ℓ : Loc Cert.Step40Ideal.nD Cert.Step40Ideal.τ Cert.Step40Ideal.sig) → Buf (Elt Ideal) ℓ) (g : Dev Cert.Step40Ideal.nD → PrngReg)
    (m' : (ℓ : Loc Cert.Step40RefIdeal.nD Cert.Step40RefIdeal.τ Cert.Step40RefIdeal.sig) → Buf (Elt Ideal) ℓ) (g' : Dev Cert.Step40RefIdeal.nD → PrngReg), Pre_Step40Ideal m →
    (∀ c : Dev Cert.Step40Ideal.nD,
      m' ((c.tc : Thread Cert.Step40RefIdeal.nD Cert.Step40RefIdeal.τ).loc Cert.Step40RefIdeal.main_arg0) = m ((c.tc : Thread Cert.Step40Ideal.nD Cert.Step40Ideal.τ).loc Cert.Step40Ideal.main_arg0)
      ∧ m' ((c.tc : Thread Cert.Step40RefIdeal.nD Cert.Step40RefIdeal.τ).loc Cert.Step40RefIdeal.main_arg1) = m ((c.tc : Thread Cert.Step40Ideal.nD Cert.Step40Ideal.τ).loc Cert.Step40Ideal.main_arg1)
      ∧ m' ((c.tc : Thread Cert.Step40RefIdeal.nD Cert.Step40RefIdeal.τ).loc Cert.Step40RefIdeal.main_arg2) = m ((c.tc : Thread Cert.Step40Ideal.nD Cert.Step40Ideal.τ).loc Cert.Step40Ideal.main_arg2)
      ∧ m' ((c.tc : Thread Cert.Step40RefIdeal.nD Cert.Step40RefIdeal.τ).loc Cert.Step40RefIdeal.main_arg3) = m ((c.tc : Thread Cert.Step40Ideal.nD Cert.Step40Ideal.τ).loc Cert.Step40Ideal.main_arg3)
      ∧ m' ((c.tc : Thread Cert.Step40RefIdeal.nD Cert.Step40RefIdeal.τ).loc Cert.Step40RefIdeal.main_arg4) = m ((c.tc : Thread Cert.Step40Ideal.nD Cert.Step40Ideal.τ).loc Cert.Step40Ideal.main_arg4)
      ∧ m' ((c.tc : Thread Cert.Step40RefIdeal.nD Cert.Step40RefIdeal.τ).loc Cert.Step40RefIdeal.main_arg5) = m ((c.tc : Thread Cert.Step40Ideal.nD Cert.Step40Ideal.τ).loc Cert.Step40Ideal.main_arg5)
      ∧ m' ((c.tc : Thread Cert.Step40RefIdeal.nD Cert.Step40RefIdeal.τ).loc Cert.Step40RefIdeal.main_arg6) = m ((c.tc : Thread Cert.Step40Ideal.nD Cert.Step40Ideal.τ).loc Cert.Step40Ideal.main_arg6)) →
    ∃ (v0 : (c : Dev Cert.Step40Ideal.nD) → Buf (Elt Ideal) ((c.tc : Thread Cert.Step40Ideal.nD Cert.Step40Ideal.τ).loc Cert.Step40Ideal.main_v2_0)) (v1 : (c : Dev Cert.Step40Ideal.nD) → Buf (Elt Ideal) ((c.tc : Thread Cert.Step40Ideal.nD Cert.Step40Ideal.τ).loc Cert.Step40Ideal.main_v2_1)) (v2 : (c : Dev Cert.Step40Ideal.nD) → Buf (Elt Ideal) ((c.tc : Thread Cert.Step40Ideal.nD Cert.Step40Ideal.τ).loc Cert.Step40Ideal.main_v2_2)) (v3 : (c : Dev Cert.Step40Ideal.nD) → Buf (Elt Ideal) ((c.tc : Thread Cert.Step40Ideal.nD Cert.Step40Ideal.τ).loc Cert.Step40Ideal.main_v2_3)),
      θ_run (Cert.Step40Ideal.defs (F := Ideal)) (onTc (τ := Cert.Step40Ideal.τ) (Cert.Step40Ideal.main (F := Ideal))) ⟨m, fun _ => 0, g⟩ (fun r => ∀ c : Dev Cert.Step40Ideal.nD,
          r.2.mem ((c.tc : Thread Cert.Step40Ideal.nD Cert.Step40Ideal.τ).loc Cert.Step40Ideal.main_v2_0) = v0 c
          ∧ r.2.mem ((c.tc : Thread Cert.Step40Ideal.nD Cert.Step40Ideal.τ).loc Cert.Step40Ideal.main_v2_1) = v1 c
          ∧ r.2.mem ((c.tc : Thread Cert.Step40Ideal.nD Cert.Step40Ideal.τ).loc Cert.Step40Ideal.main_v2_2) = v2 c
          ∧ r.2.mem ((c.tc : Thread Cert.Step40Ideal.nD Cert.Step40Ideal.τ).loc Cert.Step40Ideal.main_v2_3) = v3 c
          ∧ r.2.mem ((c.tc : Thread Cert.Step40Ideal.nD Cert.Step40Ideal.τ).loc Cert.Step40Ideal.main_arg0) = m ((c.tc : Thread Cert.Step40Ideal.nD Cert.Step40Ideal.τ).loc Cert.Step40Ideal.main_arg0)
          ∧ r.2.mem ((c.tc : Thread Cert.Step40Ideal.nD Cert.Step40Ideal.τ).loc Cert.Step40Ideal.main_arg1) = m ((c.tc : Thread Cert.Step40Ideal.nD Cert.Step40Ideal.τ).loc Cert.Step40Ideal.main_arg1)
          ∧ r.2.mem ((c.tc : Thread Cert.Step40Ideal.nD Cert.Step40Ideal.τ).loc Cert.Step40Ideal.main_arg2) = m ((c.tc : Thread Cert.Step40Ideal.nD Cert.Step40Ideal.τ).loc Cert.Step40Ideal.main_arg2)
          ∧ r.2.mem ((c.tc : Thread Cert.Step40Ideal.nD Cert.Step40Ideal.τ).loc Cert.Step40Ideal.main_arg3) = m ((c.tc : Thread Cert.Step40Ideal.nD Cert.Step40Ideal.τ).loc Cert.Step40Ideal.main_arg3)
          ∧ r.2.mem ((c.tc : Thread Cert.Step40Ideal.nD Cert.Step40Ideal.τ).loc Cert.Step40Ideal.main_arg4) = m ((c.tc : Thread Cert.Step40Ideal.nD Cert.Step40Ideal.τ).loc Cert.Step40Ideal.main_arg4)
          ∧ r.2.mem ((c.tc : Thread Cert.Step40Ideal.nD Cert.Step40Ideal.τ).loc Cert.Step40Ideal.main_arg5) = m ((c.tc : Thread Cert.Step40Ideal.nD Cert.Step40Ideal.τ).loc Cert.Step40Ideal.main_arg5)
          ∧ r.2.mem ((c.tc : Thread Cert.Step40Ideal.nD Cert.Step40Ideal.τ).loc Cert.Step40Ideal.main_arg6) = m ((c.tc : Thread Cert.Step40Ideal.nD Cert.Step40Ideal.τ).loc Cert.Step40Ideal.main_arg6))
      ∧ θ_run (Cert.Step40RefIdeal.defs (F := Ideal)) (onTc (τ := Cert.Step40RefIdeal.τ) (Cert.Step40RefIdeal.main (F := Ideal))) ⟨m', fun _ => 0, g'⟩ (fun r => ∀ c : Dev Cert.Step40RefIdeal.nD,
          r.2.mem ((c.tc : Thread Cert.Step40RefIdeal.nD Cert.Step40RefIdeal.τ).loc Cert.Step40RefIdeal.main_v4) = v0 c
          ∧ r.2.mem ((c.tc : Thread Cert.Step40RefIdeal.nD Cert.Step40RefIdeal.τ).loc Cert.Step40RefIdeal.main_v3) = v1 c
          ∧ r.2.mem ((c.tc : Thread Cert.Step40RefIdeal.nD Cert.Step40RefIdeal.τ).loc Cert.Step40RefIdeal.main_v38) = v2 c
          ∧ r.2.mem ((c.tc : Thread Cert.Step40RefIdeal.nD Cert.Step40RefIdeal.τ).loc Cert.Step40RefIdeal.main_v36) = v3 c
          ∧ r.2.mem ((c.tc : Thread Cert.Step40RefIdeal.nD Cert.Step40RefIdeal.τ).loc Cert.Step40RefIdeal.main_arg0) = m' ((c.tc : Thread Cert.Step40RefIdeal.nD Cert.Step40RefIdeal.τ).loc Cert.Step40RefIdeal.main_arg0)
          ∧ r.2.mem ((c.tc : Thread Cert.Step40RefIdeal.nD Cert.Step40RefIdeal.τ).loc Cert.Step40RefIdeal.main_arg1) = m' ((c.tc : Thread Cert.Step40RefIdeal.nD Cert.Step40RefIdeal.τ).loc Cert.Step40RefIdeal.main_arg1)
          ∧ r.2.mem ((c.tc : Thread Cert.Step40RefIdeal.nD Cert.Step40RefIdeal.τ).loc Cert.Step40RefIdeal.main_arg2) = m' ((c.tc : Thread Cert.Step40RefIdeal.nD Cert.Step40RefIdeal.τ).loc Cert.Step40RefIdeal.main_arg2)
          ∧ r.2.mem ((c.tc : Thread Cert.Step40RefIdeal.nD Cert.Step40RefIdeal.τ).loc Cert.Step40RefIdeal.main_arg3) = m' ((c.tc : Thread Cert.Step40RefIdeal.nD Cert.Step40RefIdeal.τ).loc Cert.Step40RefIdeal.main_arg3)
          ∧ r.2.mem ((c.tc : Thread Cert.Step40RefIdeal.nD Cert.Step40RefIdeal.τ).loc Cert.Step40RefIdeal.main_arg4) = m' ((c.tc : Thread Cert.Step40RefIdeal.nD Cert.Step40RefIdeal.τ).loc Cert.Step40RefIdeal.main_arg4)
          ∧ r.2.mem ((c.tc : Thread Cert.Step40RefIdeal.nD Cert.Step40RefIdeal.τ).loc Cert.Step40RefIdeal.main_arg5) = m' ((c.tc : Thread Cert.Step40RefIdeal.nD Cert.Step40RefIdeal.τ).loc Cert.Step40RefIdeal.main_arg5)
          ∧ r.2.mem ((c.tc : Thread Cert.Step40RefIdeal.nD Cert.Step40RefIdeal.τ).loc Cert.Step40RefIdeal.main_arg6) = m' ((c.tc : Thread Cert.Step40RefIdeal.nD Cert.Step40RefIdeal.τ).loc Cert.Step40RefIdeal.main_arg6))

def preserves_Step48_Step48Ideal : Prop :=
  True

def algebraic_Step48Ideal_Step48RefIdeal [hStep48Ideal : Cert.Step48Ideal.Facts] [hStep48RefIdeal : Cert.Step48RefIdeal.Facts] : Prop :=
  ∀ (m : (ℓ : Loc Cert.Step48Ideal.nD Cert.Step48Ideal.τ Cert.Step48Ideal.sig) → Buf (Elt Ideal) ℓ) (g : Dev Cert.Step48Ideal.nD → PrngReg)
    (m' : (ℓ : Loc Cert.Step48RefIdeal.nD Cert.Step48RefIdeal.τ Cert.Step48RefIdeal.sig) → Buf (Elt Ideal) ℓ) (g' : Dev Cert.Step48RefIdeal.nD → PrngReg), Pre_Step48Ideal m →
    (∀ c : Dev Cert.Step48Ideal.nD,
      m' ((c.tc : Thread Cert.Step48RefIdeal.nD Cert.Step48RefIdeal.τ).loc Cert.Step48RefIdeal.main_arg0) = m ((c.tc : Thread Cert.Step48Ideal.nD Cert.Step48Ideal.τ).loc Cert.Step48Ideal.main_arg0)
      ∧ m' ((c.tc : Thread Cert.Step48RefIdeal.nD Cert.Step48RefIdeal.τ).loc Cert.Step48RefIdeal.main_arg1) = m ((c.tc : Thread Cert.Step48Ideal.nD Cert.Step48Ideal.τ).loc Cert.Step48Ideal.main_arg1)
      ∧ m' ((c.tc : Thread Cert.Step48RefIdeal.nD Cert.Step48RefIdeal.τ).loc Cert.Step48RefIdeal.main_arg2) = m ((c.tc : Thread Cert.Step48Ideal.nD Cert.Step48Ideal.τ).loc Cert.Step48Ideal.main_arg2)
      ∧ m' ((c.tc : Thread Cert.Step48RefIdeal.nD Cert.Step48RefIdeal.τ).loc Cert.Step48RefIdeal.main_arg3) = m ((c.tc : Thread Cert.Step48Ideal.nD Cert.Step48Ideal.τ).loc Cert.Step48Ideal.main_arg3)
      ∧ m' ((c.tc : Thread Cert.Step48RefIdeal.nD Cert.Step48RefIdeal.τ).loc Cert.Step48RefIdeal.main_arg4) = m ((c.tc : Thread Cert.Step48Ideal.nD Cert.Step48Ideal.τ).loc Cert.Step48Ideal.main_arg4)
      ∧ m' ((c.tc : Thread Cert.Step48RefIdeal.nD Cert.Step48RefIdeal.τ).loc Cert.Step48RefIdeal.main_arg5) = m ((c.tc : Thread Cert.Step48Ideal.nD Cert.Step48Ideal.τ).loc Cert.Step48Ideal.main_arg5)
      ∧ m' ((c.tc : Thread Cert.Step48RefIdeal.nD Cert.Step48RefIdeal.τ).loc Cert.Step48RefIdeal.main_arg6) = m ((c.tc : Thread Cert.Step48Ideal.nD Cert.Step48Ideal.τ).loc Cert.Step48Ideal.main_arg6)) →
    ∃ (v0 : (c : Dev Cert.Step48Ideal.nD) → Buf (Elt Ideal) ((c.tc : Thread Cert.Step48Ideal.nD Cert.Step48Ideal.τ).loc Cert.Step48Ideal.main_v2_0)) (v1 : (c : Dev Cert.Step48Ideal.nD) → Buf (Elt Ideal) ((c.tc : Thread Cert.Step48Ideal.nD Cert.Step48Ideal.τ).loc Cert.Step48Ideal.main_v2_1)) (v2 : (c : Dev Cert.Step48Ideal.nD) → Buf (Elt Ideal) ((c.tc : Thread Cert.Step48Ideal.nD Cert.Step48Ideal.τ).loc Cert.Step48Ideal.main_v2_2)) (v3 : (c : Dev Cert.Step48Ideal.nD) → Buf (Elt Ideal) ((c.tc : Thread Cert.Step48Ideal.nD Cert.Step48Ideal.τ).loc Cert.Step48Ideal.main_v2_3)),
      θ_run (Cert.Step48Ideal.defs (F := Ideal)) (onTc (τ := Cert.Step48Ideal.τ) (Cert.Step48Ideal.main (F := Ideal))) ⟨m, fun _ => 0, g⟩ (fun r => ∀ c : Dev Cert.Step48Ideal.nD,
          r.2.mem ((c.tc : Thread Cert.Step48Ideal.nD Cert.Step48Ideal.τ).loc Cert.Step48Ideal.main_v2_0) = v0 c
          ∧ r.2.mem ((c.tc : Thread Cert.Step48Ideal.nD Cert.Step48Ideal.τ).loc Cert.Step48Ideal.main_v2_1) = v1 c
          ∧ r.2.mem ((c.tc : Thread Cert.Step48Ideal.nD Cert.Step48Ideal.τ).loc Cert.Step48Ideal.main_v2_2) = v2 c
          ∧ r.2.mem ((c.tc : Thread Cert.Step48Ideal.nD Cert.Step48Ideal.τ).loc Cert.Step48Ideal.main_v2_3) = v3 c
          ∧ r.2.mem ((c.tc : Thread Cert.Step48Ideal.nD Cert.Step48Ideal.τ).loc Cert.Step48Ideal.main_arg0) = m ((c.tc : Thread Cert.Step48Ideal.nD Cert.Step48Ideal.τ).loc Cert.Step48Ideal.main_arg0)
          ∧ r.2.mem ((c.tc : Thread Cert.Step48Ideal.nD Cert.Step48Ideal.τ).loc Cert.Step48Ideal.main_arg1) = m ((c.tc : Thread Cert.Step48Ideal.nD Cert.Step48Ideal.τ).loc Cert.Step48Ideal.main_arg1)
          ∧ r.2.mem ((c.tc : Thread Cert.Step48Ideal.nD Cert.Step48Ideal.τ).loc Cert.Step48Ideal.main_arg2) = m ((c.tc : Thread Cert.Step48Ideal.nD Cert.Step48Ideal.τ).loc Cert.Step48Ideal.main_arg2)
          ∧ r.2.mem ((c.tc : Thread Cert.Step48Ideal.nD Cert.Step48Ideal.τ).loc Cert.Step48Ideal.main_arg3) = m ((c.tc : Thread Cert.Step48Ideal.nD Cert.Step48Ideal.τ).loc Cert.Step48Ideal.main_arg3)
          ∧ r.2.mem ((c.tc : Thread Cert.Step48Ideal.nD Cert.Step48Ideal.τ).loc Cert.Step48Ideal.main_arg4) = m ((c.tc : Thread Cert.Step48Ideal.nD Cert.Step48Ideal.τ).loc Cert.Step48Ideal.main_arg4)
          ∧ r.2.mem ((c.tc : Thread Cert.Step48Ideal.nD Cert.Step48Ideal.τ).loc Cert.Step48Ideal.main_arg5) = m ((c.tc : Thread Cert.Step48Ideal.nD Cert.Step48Ideal.τ).loc Cert.Step48Ideal.main_arg5)
          ∧ r.2.mem ((c.tc : Thread Cert.Step48Ideal.nD Cert.Step48Ideal.τ).loc Cert.Step48Ideal.main_arg6) = m ((c.tc : Thread Cert.Step48Ideal.nD Cert.Step48Ideal.τ).loc Cert.Step48Ideal.main_arg6))
      ∧ θ_run (Cert.Step48RefIdeal.defs (F := Ideal)) (onTc (τ := Cert.Step48RefIdeal.τ) (Cert.Step48RefIdeal.main (F := Ideal))) ⟨m', fun _ => 0, g'⟩ (fun r => ∀ c : Dev Cert.Step48RefIdeal.nD,
          r.2.mem ((c.tc : Thread Cert.Step48RefIdeal.nD Cert.Step48RefIdeal.τ).loc Cert.Step48RefIdeal.main_v4) = v0 c
          ∧ r.2.mem ((c.tc : Thread Cert.Step48RefIdeal.nD Cert.Step48RefIdeal.τ).loc Cert.Step48RefIdeal.main_v3) = v1 c
          ∧ r.2.mem ((c.tc : Thread Cert.Step48RefIdeal.nD Cert.Step48RefIdeal.τ).loc Cert.Step48RefIdeal.main_v38) = v2 c
          ∧ r.2.mem ((c.tc : Thread Cert.Step48RefIdeal.nD Cert.Step48RefIdeal.τ).loc Cert.Step48RefIdeal.main_v36) = v3 c
          ∧ r.2.mem ((c.tc : Thread Cert.Step48RefIdeal.nD Cert.Step48RefIdeal.τ).loc Cert.Step48RefIdeal.main_arg0) = m' ((c.tc : Thread Cert.Step48RefIdeal.nD Cert.Step48RefIdeal.τ).loc Cert.Step48RefIdeal.main_arg0)
          ∧ r.2.mem ((c.tc : Thread Cert.Step48RefIdeal.nD Cert.Step48RefIdeal.τ).loc Cert.Step48RefIdeal.main_arg1) = m' ((c.tc : Thread Cert.Step48RefIdeal.nD Cert.Step48RefIdeal.τ).loc Cert.Step48RefIdeal.main_arg1)
          ∧ r.2.mem ((c.tc : Thread Cert.Step48RefIdeal.nD Cert.Step48RefIdeal.τ).loc Cert.Step48RefIdeal.main_arg2) = m' ((c.tc : Thread Cert.Step48RefIdeal.nD Cert.Step48RefIdeal.τ).loc Cert.Step48RefIdeal.main_arg2)
          ∧ r.2.mem ((c.tc : Thread Cert.Step48RefIdeal.nD Cert.Step48RefIdeal.τ).loc Cert.Step48RefIdeal.main_arg3) = m' ((c.tc : Thread Cert.Step48RefIdeal.nD Cert.Step48RefIdeal.τ).loc Cert.Step48RefIdeal.main_arg3)
          ∧ r.2.mem ((c.tc : Thread Cert.Step48RefIdeal.nD Cert.Step48RefIdeal.τ).loc Cert.Step48RefIdeal.main_arg4) = m' ((c.tc : Thread Cert.Step48RefIdeal.nD Cert.Step48RefIdeal.τ).loc Cert.Step48RefIdeal.main_arg4)
          ∧ r.2.mem ((c.tc : Thread Cert.Step48RefIdeal.nD Cert.Step48RefIdeal.τ).loc Cert.Step48RefIdeal.main_arg5) = m' ((c.tc : Thread Cert.Step48RefIdeal.nD Cert.Step48RefIdeal.τ).loc Cert.Step48RefIdeal.main_arg5)
          ∧ r.2.mem ((c.tc : Thread Cert.Step48RefIdeal.nD Cert.Step48RefIdeal.τ).loc Cert.Step48RefIdeal.main_arg6) = m' ((c.tc : Thread Cert.Step48RefIdeal.nD Cert.Step48RefIdeal.τ).loc Cert.Step48RefIdeal.main_arg6))

def preserves_Step56_Step56Ideal : Prop :=
  True

def algebraic_Step56Ideal_Step56RefIdeal [hStep56Ideal : Cert.Step56Ideal.Facts] [hStep56RefIdeal : Cert.Step56RefIdeal.Facts] : Prop :=
  ∀ (m : (ℓ : Loc Cert.Step56Ideal.nD Cert.Step56Ideal.τ Cert.Step56Ideal.sig) → Buf (Elt Ideal) ℓ) (g : Dev Cert.Step56Ideal.nD → PrngReg)
    (m' : (ℓ : Loc Cert.Step56RefIdeal.nD Cert.Step56RefIdeal.τ Cert.Step56RefIdeal.sig) → Buf (Elt Ideal) ℓ) (g' : Dev Cert.Step56RefIdeal.nD → PrngReg), Pre_Step56Ideal m →
    (∀ c : Dev Cert.Step56Ideal.nD,
      m' ((c.tc : Thread Cert.Step56RefIdeal.nD Cert.Step56RefIdeal.τ).loc Cert.Step56RefIdeal.main_arg0) = m ((c.tc : Thread Cert.Step56Ideal.nD Cert.Step56Ideal.τ).loc Cert.Step56Ideal.main_arg0)
      ∧ m' ((c.tc : Thread Cert.Step56RefIdeal.nD Cert.Step56RefIdeal.τ).loc Cert.Step56RefIdeal.main_arg1) = m ((c.tc : Thread Cert.Step56Ideal.nD Cert.Step56Ideal.τ).loc Cert.Step56Ideal.main_arg1)
      ∧ m' ((c.tc : Thread Cert.Step56RefIdeal.nD Cert.Step56RefIdeal.τ).loc Cert.Step56RefIdeal.main_arg2) = m ((c.tc : Thread Cert.Step56Ideal.nD Cert.Step56Ideal.τ).loc Cert.Step56Ideal.main_arg2)
      ∧ m' ((c.tc : Thread Cert.Step56RefIdeal.nD Cert.Step56RefIdeal.τ).loc Cert.Step56RefIdeal.main_arg3) = m ((c.tc : Thread Cert.Step56Ideal.nD Cert.Step56Ideal.τ).loc Cert.Step56Ideal.main_arg3)
      ∧ m' ((c.tc : Thread Cert.Step56RefIdeal.nD Cert.Step56RefIdeal.τ).loc Cert.Step56RefIdeal.main_arg4) = m ((c.tc : Thread Cert.Step56Ideal.nD Cert.Step56Ideal.τ).loc Cert.Step56Ideal.main_arg4)
      ∧ m' ((c.tc : Thread Cert.Step56RefIdeal.nD Cert.Step56RefIdeal.τ).loc Cert.Step56RefIdeal.main_arg5) = m ((c.tc : Thread Cert.Step56Ideal.nD Cert.Step56Ideal.τ).loc Cert.Step56Ideal.main_arg5)
      ∧ m' ((c.tc : Thread Cert.Step56RefIdeal.nD Cert.Step56RefIdeal.τ).loc Cert.Step56RefIdeal.main_arg6) = m ((c.tc : Thread Cert.Step56Ideal.nD Cert.Step56Ideal.τ).loc Cert.Step56Ideal.main_arg6)) →
    ∃ (v0 : (c : Dev Cert.Step56Ideal.nD) → Buf (Elt Ideal) ((c.tc : Thread Cert.Step56Ideal.nD Cert.Step56Ideal.τ).loc Cert.Step56Ideal.main_v2_0)) (v1 : (c : Dev Cert.Step56Ideal.nD) → Buf (Elt Ideal) ((c.tc : Thread Cert.Step56Ideal.nD Cert.Step56Ideal.τ).loc Cert.Step56Ideal.main_v2_1)) (v2 : (c : Dev Cert.Step56Ideal.nD) → Buf (Elt Ideal) ((c.tc : Thread Cert.Step56Ideal.nD Cert.Step56Ideal.τ).loc Cert.Step56Ideal.main_v2_2)) (v3 : (c : Dev Cert.Step56Ideal.nD) → Buf (Elt Ideal) ((c.tc : Thread Cert.Step56Ideal.nD Cert.Step56Ideal.τ).loc Cert.Step56Ideal.main_v2_3)),
      θ_run (Cert.Step56Ideal.defs (F := Ideal)) (onTc (τ := Cert.Step56Ideal.τ) (Cert.Step56Ideal.main (F := Ideal))) ⟨m, fun _ => 0, g⟩ (fun r => ∀ c : Dev Cert.Step56Ideal.nD,
          r.2.mem ((c.tc : Thread Cert.Step56Ideal.nD Cert.Step56Ideal.τ).loc Cert.Step56Ideal.main_v2_0) = v0 c
          ∧ r.2.mem ((c.tc : Thread Cert.Step56Ideal.nD Cert.Step56Ideal.τ).loc Cert.Step56Ideal.main_v2_1) = v1 c
          ∧ r.2.mem ((c.tc : Thread Cert.Step56Ideal.nD Cert.Step56Ideal.τ).loc Cert.Step56Ideal.main_v2_2) = v2 c
          ∧ r.2.mem ((c.tc : Thread Cert.Step56Ideal.nD Cert.Step56Ideal.τ).loc Cert.Step56Ideal.main_v2_3) = v3 c
          ∧ r.2.mem ((c.tc : Thread Cert.Step56Ideal.nD Cert.Step56Ideal.τ).loc Cert.Step56Ideal.main_arg0) = m ((c.tc : Thread Cert.Step56Ideal.nD Cert.Step56Ideal.τ).loc Cert.Step56Ideal.main_arg0)
          ∧ r.2.mem ((c.tc : Thread Cert.Step56Ideal.nD Cert.Step56Ideal.τ).loc Cert.Step56Ideal.main_arg1) = m ((c.tc : Thread Cert.Step56Ideal.nD Cert.Step56Ideal.τ).loc Cert.Step56Ideal.main_arg1)
          ∧ r.2.mem ((c.tc : Thread Cert.Step56Ideal.nD Cert.Step56Ideal.τ).loc Cert.Step56Ideal.main_arg2) = m ((c.tc : Thread Cert.Step56Ideal.nD Cert.Step56Ideal.τ).loc Cert.Step56Ideal.main_arg2)
          ∧ r.2.mem ((c.tc : Thread Cert.Step56Ideal.nD Cert.Step56Ideal.τ).loc Cert.Step56Ideal.main_arg3) = m ((c.tc : Thread Cert.Step56Ideal.nD Cert.Step56Ideal.τ).loc Cert.Step56Ideal.main_arg3)
          ∧ r.2.mem ((c.tc : Thread Cert.Step56Ideal.nD Cert.Step56Ideal.τ).loc Cert.Step56Ideal.main_arg4) = m ((c.tc : Thread Cert.Step56Ideal.nD Cert.Step56Ideal.τ).loc Cert.Step56Ideal.main_arg4)
          ∧ r.2.mem ((c.tc : Thread Cert.Step56Ideal.nD Cert.Step56Ideal.τ).loc Cert.Step56Ideal.main_arg5) = m ((c.tc : Thread Cert.Step56Ideal.nD Cert.Step56Ideal.τ).loc Cert.Step56Ideal.main_arg5)
          ∧ r.2.mem ((c.tc : Thread Cert.Step56Ideal.nD Cert.Step56Ideal.τ).loc Cert.Step56Ideal.main_arg6) = m ((c.tc : Thread Cert.Step56Ideal.nD Cert.Step56Ideal.τ).loc Cert.Step56Ideal.main_arg6))
      ∧ θ_run (Cert.Step56RefIdeal.defs (F := Ideal)) (onTc (τ := Cert.Step56RefIdeal.τ) (Cert.Step56RefIdeal.main (F := Ideal))) ⟨m', fun _ => 0, g'⟩ (fun r => ∀ c : Dev Cert.Step56RefIdeal.nD,
          r.2.mem ((c.tc : Thread Cert.Step56RefIdeal.nD Cert.Step56RefIdeal.τ).loc Cert.Step56RefIdeal.main_v4) = v0 c
          ∧ r.2.mem ((c.tc : Thread Cert.Step56RefIdeal.nD Cert.Step56RefIdeal.τ).loc Cert.Step56RefIdeal.main_v3) = v1 c
          ∧ r.2.mem ((c.tc : Thread Cert.Step56RefIdeal.nD Cert.Step56RefIdeal.τ).loc Cert.Step56RefIdeal.main_v38) = v2 c
          ∧ r.2.mem ((c.tc : Thread Cert.Step56RefIdeal.nD Cert.Step56RefIdeal.τ).loc Cert.Step56RefIdeal.main_v36) = v3 c
          ∧ r.2.mem ((c.tc : Thread Cert.Step56RefIdeal.nD Cert.Step56RefIdeal.τ).loc Cert.Step56RefIdeal.main_arg0) = m' ((c.tc : Thread Cert.Step56RefIdeal.nD Cert.Step56RefIdeal.τ).loc Cert.Step56RefIdeal.main_arg0)
          ∧ r.2.mem ((c.tc : Thread Cert.Step56RefIdeal.nD Cert.Step56RefIdeal.τ).loc Cert.Step56RefIdeal.main_arg1) = m' ((c.tc : Thread Cert.Step56RefIdeal.nD Cert.Step56RefIdeal.τ).loc Cert.Step56RefIdeal.main_arg1)
          ∧ r.2.mem ((c.tc : Thread Cert.Step56RefIdeal.nD Cert.Step56RefIdeal.τ).loc Cert.Step56RefIdeal.main_arg2) = m' ((c.tc : Thread Cert.Step56RefIdeal.nD Cert.Step56RefIdeal.τ).loc Cert.Step56RefIdeal.main_arg2)
          ∧ r.2.mem ((c.tc : Thread Cert.Step56RefIdeal.nD Cert.Step56RefIdeal.τ).loc Cert.Step56RefIdeal.main_arg3) = m' ((c.tc : Thread Cert.Step56RefIdeal.nD Cert.Step56RefIdeal.τ).loc Cert.Step56RefIdeal.main_arg3)
          ∧ r.2.mem ((c.tc : Thread Cert.Step56RefIdeal.nD Cert.Step56RefIdeal.τ).loc Cert.Step56RefIdeal.main_arg4) = m' ((c.tc : Thread Cert.Step56RefIdeal.nD Cert.Step56RefIdeal.τ).loc Cert.Step56RefIdeal.main_arg4)
          ∧ r.2.mem ((c.tc : Thread Cert.Step56RefIdeal.nD Cert.Step56RefIdeal.τ).loc Cert.Step56RefIdeal.main_arg5) = m' ((c.tc : Thread Cert.Step56RefIdeal.nD Cert.Step56RefIdeal.τ).loc Cert.Step56RefIdeal.main_arg5)
          ∧ r.2.mem ((c.tc : Thread Cert.Step56RefIdeal.nD Cert.Step56RefIdeal.τ).loc Cert.Step56RefIdeal.main_arg6) = m' ((c.tc : Thread Cert.Step56RefIdeal.nD Cert.Step56RefIdeal.τ).loc Cert.Step56RefIdeal.main_arg6))

def preserves_Step64_Step64Ideal : Prop :=
  True

def algebraic_Step64Ideal_Step64RefIdeal [hStep64Ideal : Cert.Step64Ideal.Facts] [hStep64RefIdeal : Cert.Step64RefIdeal.Facts] : Prop :=
  ∀ (m : (ℓ : Loc Cert.Step64Ideal.nD Cert.Step64Ideal.τ Cert.Step64Ideal.sig) → Buf (Elt Ideal) ℓ) (g : Dev Cert.Step64Ideal.nD → PrngReg)
    (m' : (ℓ : Loc Cert.Step64RefIdeal.nD Cert.Step64RefIdeal.τ Cert.Step64RefIdeal.sig) → Buf (Elt Ideal) ℓ) (g' : Dev Cert.Step64RefIdeal.nD → PrngReg), Pre_Step64Ideal m →
    (∀ c : Dev Cert.Step64Ideal.nD,
      m' ((c.tc : Thread Cert.Step64RefIdeal.nD Cert.Step64RefIdeal.τ).loc Cert.Step64RefIdeal.main_arg0) = m ((c.tc : Thread Cert.Step64Ideal.nD Cert.Step64Ideal.τ).loc Cert.Step64Ideal.main_arg0)
      ∧ m' ((c.tc : Thread Cert.Step64RefIdeal.nD Cert.Step64RefIdeal.τ).loc Cert.Step64RefIdeal.main_arg1) = m ((c.tc : Thread Cert.Step64Ideal.nD Cert.Step64Ideal.τ).loc Cert.Step64Ideal.main_arg1)
      ∧ m' ((c.tc : Thread Cert.Step64RefIdeal.nD Cert.Step64RefIdeal.τ).loc Cert.Step64RefIdeal.main_arg2) = m ((c.tc : Thread Cert.Step64Ideal.nD Cert.Step64Ideal.τ).loc Cert.Step64Ideal.main_arg2)
      ∧ m' ((c.tc : Thread Cert.Step64RefIdeal.nD Cert.Step64RefIdeal.τ).loc Cert.Step64RefIdeal.main_arg3) = m ((c.tc : Thread Cert.Step64Ideal.nD Cert.Step64Ideal.τ).loc Cert.Step64Ideal.main_arg3)
      ∧ m' ((c.tc : Thread Cert.Step64RefIdeal.nD Cert.Step64RefIdeal.τ).loc Cert.Step64RefIdeal.main_arg4) = m ((c.tc : Thread Cert.Step64Ideal.nD Cert.Step64Ideal.τ).loc Cert.Step64Ideal.main_arg4)
      ∧ m' ((c.tc : Thread Cert.Step64RefIdeal.nD Cert.Step64RefIdeal.τ).loc Cert.Step64RefIdeal.main_arg5) = m ((c.tc : Thread Cert.Step64Ideal.nD Cert.Step64Ideal.τ).loc Cert.Step64Ideal.main_arg5)
      ∧ m' ((c.tc : Thread Cert.Step64RefIdeal.nD Cert.Step64RefIdeal.τ).loc Cert.Step64RefIdeal.main_arg6) = m ((c.tc : Thread Cert.Step64Ideal.nD Cert.Step64Ideal.τ).loc Cert.Step64Ideal.main_arg6)) →
    ∃ (v0 : (c : Dev Cert.Step64Ideal.nD) → Buf (Elt Ideal) ((c.tc : Thread Cert.Step64Ideal.nD Cert.Step64Ideal.τ).loc Cert.Step64Ideal.main_v2_0)) (v1 : (c : Dev Cert.Step64Ideal.nD) → Buf (Elt Ideal) ((c.tc : Thread Cert.Step64Ideal.nD Cert.Step64Ideal.τ).loc Cert.Step64Ideal.main_v2_1)) (v2 : (c : Dev Cert.Step64Ideal.nD) → Buf (Elt Ideal) ((c.tc : Thread Cert.Step64Ideal.nD Cert.Step64Ideal.τ).loc Cert.Step64Ideal.main_v2_2)) (v3 : (c : Dev Cert.Step64Ideal.nD) → Buf (Elt Ideal) ((c.tc : Thread Cert.Step64Ideal.nD Cert.Step64Ideal.τ).loc Cert.Step64Ideal.main_v2_3)),
      θ_run (Cert.Step64Ideal.defs (F := Ideal)) (onTc (τ := Cert.Step64Ideal.τ) (Cert.Step64Ideal.main (F := Ideal))) ⟨m, fun _ => 0, g⟩ (fun r => ∀ c : Dev Cert.Step64Ideal.nD,
          r.2.mem ((c.tc : Thread Cert.Step64Ideal.nD Cert.Step64Ideal.τ).loc Cert.Step64Ideal.main_v2_0) = v0 c
          ∧ r.2.mem ((c.tc : Thread Cert.Step64Ideal.nD Cert.Step64Ideal.τ).loc Cert.Step64Ideal.main_v2_1) = v1 c
          ∧ r.2.mem ((c.tc : Thread Cert.Step64Ideal.nD Cert.Step64Ideal.τ).loc Cert.Step64Ideal.main_v2_2) = v2 c
          ∧ r.2.mem ((c.tc : Thread Cert.Step64Ideal.nD Cert.Step64Ideal.τ).loc Cert.Step64Ideal.main_v2_3) = v3 c
          ∧ r.2.mem ((c.tc : Thread Cert.Step64Ideal.nD Cert.Step64Ideal.τ).loc Cert.Step64Ideal.main_arg0) = m ((c.tc : Thread Cert.Step64Ideal.nD Cert.Step64Ideal.τ).loc Cert.Step64Ideal.main_arg0)
          ∧ r.2.mem ((c.tc : Thread Cert.Step64Ideal.nD Cert.Step64Ideal.τ).loc Cert.Step64Ideal.main_arg1) = m ((c.tc : Thread Cert.Step64Ideal.nD Cert.Step64Ideal.τ).loc Cert.Step64Ideal.main_arg1)
          ∧ r.2.mem ((c.tc : Thread Cert.Step64Ideal.nD Cert.Step64Ideal.τ).loc Cert.Step64Ideal.main_arg2) = m ((c.tc : Thread Cert.Step64Ideal.nD Cert.Step64Ideal.τ).loc Cert.Step64Ideal.main_arg2)
          ∧ r.2.mem ((c.tc : Thread Cert.Step64Ideal.nD Cert.Step64Ideal.τ).loc Cert.Step64Ideal.main_arg3) = m ((c.tc : Thread Cert.Step64Ideal.nD Cert.Step64Ideal.τ).loc Cert.Step64Ideal.main_arg3)
          ∧ r.2.mem ((c.tc : Thread Cert.Step64Ideal.nD Cert.Step64Ideal.τ).loc Cert.Step64Ideal.main_arg4) = m ((c.tc : Thread Cert.Step64Ideal.nD Cert.Step64Ideal.τ).loc Cert.Step64Ideal.main_arg4)
          ∧ r.2.mem ((c.tc : Thread Cert.Step64Ideal.nD Cert.Step64Ideal.τ).loc Cert.Step64Ideal.main_arg5) = m ((c.tc : Thread Cert.Step64Ideal.nD Cert.Step64Ideal.τ).loc Cert.Step64Ideal.main_arg5)
          ∧ r.2.mem ((c.tc : Thread Cert.Step64Ideal.nD Cert.Step64Ideal.τ).loc Cert.Step64Ideal.main_arg6) = m ((c.tc : Thread Cert.Step64Ideal.nD Cert.Step64Ideal.τ).loc Cert.Step64Ideal.main_arg6))
      ∧ θ_run (Cert.Step64RefIdeal.defs (F := Ideal)) (onTc (τ := Cert.Step64RefIdeal.τ) (Cert.Step64RefIdeal.main (F := Ideal))) ⟨m', fun _ => 0, g'⟩ (fun r => ∀ c : Dev Cert.Step64RefIdeal.nD,
          r.2.mem ((c.tc : Thread Cert.Step64RefIdeal.nD Cert.Step64RefIdeal.τ).loc Cert.Step64RefIdeal.main_v4) = v0 c
          ∧ r.2.mem ((c.tc : Thread Cert.Step64RefIdeal.nD Cert.Step64RefIdeal.τ).loc Cert.Step64RefIdeal.main_v3) = v1 c
          ∧ r.2.mem ((c.tc : Thread Cert.Step64RefIdeal.nD Cert.Step64RefIdeal.τ).loc Cert.Step64RefIdeal.main_v38) = v2 c
          ∧ r.2.mem ((c.tc : Thread Cert.Step64RefIdeal.nD Cert.Step64RefIdeal.τ).loc Cert.Step64RefIdeal.main_v36) = v3 c
          ∧ r.2.mem ((c.tc : Thread Cert.Step64RefIdeal.nD Cert.Step64RefIdeal.τ).loc Cert.Step64RefIdeal.main_arg0) = m' ((c.tc : Thread Cert.Step64RefIdeal.nD Cert.Step64RefIdeal.τ).loc Cert.Step64RefIdeal.main_arg0)
          ∧ r.2.mem ((c.tc : Thread Cert.Step64RefIdeal.nD Cert.Step64RefIdeal.τ).loc Cert.Step64RefIdeal.main_arg1) = m' ((c.tc : Thread Cert.Step64RefIdeal.nD Cert.Step64RefIdeal.τ).loc Cert.Step64RefIdeal.main_arg1)
          ∧ r.2.mem ((c.tc : Thread Cert.Step64RefIdeal.nD Cert.Step64RefIdeal.τ).loc Cert.Step64RefIdeal.main_arg2) = m' ((c.tc : Thread Cert.Step64RefIdeal.nD Cert.Step64RefIdeal.τ).loc Cert.Step64RefIdeal.main_arg2)
          ∧ r.2.mem ((c.tc : Thread Cert.Step64RefIdeal.nD Cert.Step64RefIdeal.τ).loc Cert.Step64RefIdeal.main_arg3) = m' ((c.tc : Thread Cert.Step64RefIdeal.nD Cert.Step64RefIdeal.τ).loc Cert.Step64RefIdeal.main_arg3)
          ∧ r.2.mem ((c.tc : Thread Cert.Step64RefIdeal.nD Cert.Step64RefIdeal.τ).loc Cert.Step64RefIdeal.main_arg4) = m' ((c.tc : Thread Cert.Step64RefIdeal.nD Cert.Step64RefIdeal.τ).loc Cert.Step64RefIdeal.main_arg4)
          ∧ r.2.mem ((c.tc : Thread Cert.Step64RefIdeal.nD Cert.Step64RefIdeal.τ).loc Cert.Step64RefIdeal.main_arg5) = m' ((c.tc : Thread Cert.Step64RefIdeal.nD Cert.Step64RefIdeal.τ).loc Cert.Step64RefIdeal.main_arg5)
          ∧ r.2.mem ((c.tc : Thread Cert.Step64RefIdeal.nD Cert.Step64RefIdeal.τ).loc Cert.Step64RefIdeal.main_arg6) = m' ((c.tc : Thread Cert.Step64RefIdeal.nD Cert.Step64RefIdeal.τ).loc Cert.Step64RefIdeal.main_arg6))

def Claim : Prop :=
  ∃ (hLast : Cert.Last.Facts) (hLastIdeal : Cert.LastIdeal.Facts) (hLastRefIdeal : Cert.LastRefIdeal.Facts) (hTopk : Cert.Topk.Facts) (hTopkIdeal : Cert.TopkIdeal.Facts) (hTopkRefIdeal : Cert.TopkRefIdeal.Facts) (hXw : Cert.Xw.Facts) (hXwIdeal : Cert.XwIdeal.Facts) (hXwRefIdeal : Cert.XwRefIdeal.Facts) (hStep1 : Cert.Step1.Facts) (hStep1Ideal : Cert.Step1Ideal.Facts) (hStep1RefIdeal : Cert.Step1RefIdeal.Facts) (hStep2 : Cert.Step2.Facts) (hStep2Ideal : Cert.Step2Ideal.Facts) (hStep2RefIdeal : Cert.Step2RefIdeal.Facts) (hStep3 : Cert.Step3.Facts) (hStep3Ideal : Cert.Step3Ideal.Facts) (hStep3RefIdeal : Cert.Step3RefIdeal.Facts) (hStep4 : Cert.Step4.Facts) (hStep4Ideal : Cert.Step4Ideal.Facts) (hStep4RefIdeal : Cert.Step4RefIdeal.Facts) (hStep5 : Cert.Step5.Facts) (hStep5Ideal : Cert.Step5Ideal.Facts) (hStep5RefIdeal : Cert.Step5RefIdeal.Facts) (hStep6 : Cert.Step6.Facts) (hStep6Ideal : Cert.Step6Ideal.Facts) (hStep6RefIdeal : Cert.Step6RefIdeal.Facts) (hStep7 : Cert.Step7.Facts) (hStep7Ideal : Cert.Step7Ideal.Facts) (hStep7RefIdeal : Cert.Step7RefIdeal.Facts) (hStep8 : Cert.Step8.Facts) (hStep8Ideal : Cert.Step8Ideal.Facts) (hStep8RefIdeal : Cert.Step8RefIdeal.Facts) (hStep16 : Cert.Step16.Facts) (hStep16Ideal : Cert.Step16Ideal.Facts) (hStep16RefIdeal : Cert.Step16RefIdeal.Facts) (hStep24 : Cert.Step24.Facts) (hStep24Ideal : Cert.Step24Ideal.Facts) (hStep24RefIdeal : Cert.Step24RefIdeal.Facts) (hStep32 : Cert.Step32.Facts) (hStep32Ideal : Cert.Step32Ideal.Facts) (hStep32RefIdeal : Cert.Step32RefIdeal.Facts) (hStep40 : Cert.Step40.Facts) (hStep40Ideal : Cert.Step40Ideal.Facts) (hStep40RefIdeal : Cert.Step40RefIdeal.Facts) (hStep48 : Cert.Step48.Facts) (hStep48Ideal : Cert.Step48Ideal.Facts) (hStep48RefIdeal : Cert.Step48RefIdeal.Facts) (hStep56 : Cert.Step56.Facts) (hStep56Ideal : Cert.Step56Ideal.Facts) (hStep56RefIdeal : Cert.Step56RefIdeal.Facts) (hStep64 : Cert.Step64.Facts) (hStep64Ideal : Cert.Step64Ideal.Facts) (hStep64RefIdeal : Cert.Step64RefIdeal.Facts),
    quiescent_Last (hLast := hLast)
    ∧ quiescent_LastIdeal (hLastIdeal := hLastIdeal)
    ∧ quiescent_LastRefIdeal (hLastRefIdeal := hLastRefIdeal)
    ∧ quiescent_Topk (hTopk := hTopk)
    ∧ quiescent_TopkIdeal (hTopkIdeal := hTopkIdeal)
    ∧ quiescent_TopkRefIdeal (hTopkRefIdeal := hTopkRefIdeal)
    ∧ quiescent_Xw (hXw := hXw)
    ∧ quiescent_XwIdeal (hXwIdeal := hXwIdeal)
    ∧ quiescent_XwRefIdeal (hXwRefIdeal := hXwRefIdeal)
    ∧ quiescent_Step1 (hStep1 := hStep1)
    ∧ quiescent_Step1Ideal (hStep1Ideal := hStep1Ideal)
    ∧ quiescent_Step1RefIdeal (hStep1RefIdeal := hStep1RefIdeal)
    ∧ quiescent_Step2 (hStep2 := hStep2)
    ∧ quiescent_Step2Ideal (hStep2Ideal := hStep2Ideal)
    ∧ quiescent_Step2RefIdeal (hStep2RefIdeal := hStep2RefIdeal)
    ∧ quiescent_Step3 (hStep3 := hStep3)
    ∧ quiescent_Step3Ideal (hStep3Ideal := hStep3Ideal)
    ∧ quiescent_Step3RefIdeal (hStep3RefIdeal := hStep3RefIdeal)
    ∧ quiescent_Step4 (hStep4 := hStep4)
    ∧ quiescent_Step4Ideal (hStep4Ideal := hStep4Ideal)
    ∧ quiescent_Step4RefIdeal (hStep4RefIdeal := hStep4RefIdeal)
    ∧ quiescent_Step5 (hStep5 := hStep5)
    ∧ quiescent_Step5Ideal (hStep5Ideal := hStep5Ideal)
    ∧ quiescent_Step5RefIdeal (hStep5RefIdeal := hStep5RefIdeal)
    ∧ quiescent_Step6 (hStep6 := hStep6)
    ∧ quiescent_Step6Ideal (hStep6Ideal := hStep6Ideal)
    ∧ quiescent_Step6RefIdeal (hStep6RefIdeal := hStep6RefIdeal)
    ∧ quiescent_Step7 (hStep7 := hStep7)
    ∧ quiescent_Step7Ideal (hStep7Ideal := hStep7Ideal)
    ∧ quiescent_Step7RefIdeal (hStep7RefIdeal := hStep7RefIdeal)
    ∧ quiescent_Step8 (hStep8 := hStep8)
    ∧ quiescent_Step8Ideal (hStep8Ideal := hStep8Ideal)
    ∧ quiescent_Step8RefIdeal (hStep8RefIdeal := hStep8RefIdeal)
    ∧ quiescent_Step16 (hStep16 := hStep16)
    ∧ quiescent_Step16Ideal (hStep16Ideal := hStep16Ideal)
    ∧ quiescent_Step16RefIdeal (hStep16RefIdeal := hStep16RefIdeal)
    ∧ quiescent_Step24 (hStep24 := hStep24)
    ∧ quiescent_Step24Ideal (hStep24Ideal := hStep24Ideal)
    ∧ quiescent_Step24RefIdeal (hStep24RefIdeal := hStep24RefIdeal)
    ∧ quiescent_Step32 (hStep32 := hStep32)
    ∧ quiescent_Step32Ideal (hStep32Ideal := hStep32Ideal)
    ∧ quiescent_Step32RefIdeal (hStep32RefIdeal := hStep32RefIdeal)
    ∧ quiescent_Step40 (hStep40 := hStep40)
    ∧ quiescent_Step40Ideal (hStep40Ideal := hStep40Ideal)
    ∧ quiescent_Step40RefIdeal (hStep40RefIdeal := hStep40RefIdeal)
    ∧ quiescent_Step48 (hStep48 := hStep48)
    ∧ quiescent_Step48Ideal (hStep48Ideal := hStep48Ideal)
    ∧ quiescent_Step48RefIdeal (hStep48RefIdeal := hStep48RefIdeal)
    ∧ quiescent_Step56 (hStep56 := hStep56)
    ∧ quiescent_Step56Ideal (hStep56Ideal := hStep56Ideal)
    ∧ quiescent_Step56RefIdeal (hStep56RefIdeal := hStep56RefIdeal)
    ∧ quiescent_Step64 (hStep64 := hStep64)
    ∧ quiescent_Step64Ideal (hStep64Ideal := hStep64Ideal)
    ∧ quiescent_Step64RefIdeal (hStep64RefIdeal := hStep64RefIdeal)
    ∧ preserves_Last_LastIdeal
    ∧ algebraic_LastIdeal_LastRefIdeal (hLastIdeal := hLastIdeal) (hLastRefIdeal := hLastRefIdeal)
    ∧ preserves_Topk_TopkIdeal
    ∧ algebraic_TopkIdeal_TopkRefIdeal (hTopkIdeal := hTopkIdeal) (hTopkRefIdeal := hTopkRefIdeal)
    ∧ preserves_Xw_XwIdeal
    ∧ algebraic_XwIdeal_XwRefIdeal (hXwIdeal := hXwIdeal) (hXwRefIdeal := hXwRefIdeal)
    ∧ preserves_Step1_Step1Ideal
    ∧ algebraic_Step1Ideal_Step1RefIdeal (hStep1Ideal := hStep1Ideal) (hStep1RefIdeal := hStep1RefIdeal)
    ∧ preserves_Step2_Step2Ideal
    ∧ algebraic_Step2Ideal_Step2RefIdeal (hStep2Ideal := hStep2Ideal) (hStep2RefIdeal := hStep2RefIdeal)
    ∧ preserves_Step3_Step3Ideal
    ∧ algebraic_Step3Ideal_Step3RefIdeal (hStep3Ideal := hStep3Ideal) (hStep3RefIdeal := hStep3RefIdeal)
    ∧ preserves_Step4_Step4Ideal
    ∧ algebraic_Step4Ideal_Step4RefIdeal (hStep4Ideal := hStep4Ideal) (hStep4RefIdeal := hStep4RefIdeal)
    ∧ preserves_Step5_Step5Ideal
    ∧ algebraic_Step5Ideal_Step5RefIdeal (hStep5Ideal := hStep5Ideal) (hStep5RefIdeal := hStep5RefIdeal)
    ∧ preserves_Step6_Step6Ideal
    ∧ algebraic_Step6Ideal_Step6RefIdeal (hStep6Ideal := hStep6Ideal) (hStep6RefIdeal := hStep6RefIdeal)
    ∧ preserves_Step7_Step7Ideal
    ∧ algebraic_Step7Ideal_Step7RefIdeal (hStep7Ideal := hStep7Ideal) (hStep7RefIdeal := hStep7RefIdeal)
    ∧ preserves_Step8_Step8Ideal
    ∧ algebraic_Step8Ideal_Step8RefIdeal (hStep8Ideal := hStep8Ideal) (hStep8RefIdeal := hStep8RefIdeal)
    ∧ preserves_Step16_Step16Ideal
    ∧ algebraic_Step16Ideal_Step16RefIdeal (hStep16Ideal := hStep16Ideal) (hStep16RefIdeal := hStep16RefIdeal)
    ∧ preserves_Step24_Step24Ideal
    ∧ algebraic_Step24Ideal_Step24RefIdeal (hStep24Ideal := hStep24Ideal) (hStep24RefIdeal := hStep24RefIdeal)
    ∧ preserves_Step32_Step32Ideal
    ∧ algebraic_Step32Ideal_Step32RefIdeal (hStep32Ideal := hStep32Ideal) (hStep32RefIdeal := hStep32RefIdeal)
    ∧ preserves_Step40_Step40Ideal
    ∧ algebraic_Step40Ideal_Step40RefIdeal (hStep40Ideal := hStep40Ideal) (hStep40RefIdeal := hStep40RefIdeal)
    ∧ preserves_Step48_Step48Ideal
    ∧ algebraic_Step48Ideal_Step48RefIdeal (hStep48Ideal := hStep48Ideal) (hStep48RefIdeal := hStep48RefIdeal)
    ∧ preserves_Step56_Step56Ideal
    ∧ algebraic_Step56Ideal_Step56RefIdeal (hStep56Ideal := hStep56Ideal) (hStep56RefIdeal := hStep56RefIdeal)
    ∧ preserves_Step64_Step64Ideal
    ∧ algebraic_Step64Ideal_Step64RefIdeal (hStep64Ideal := hStep64Ideal) (hStep64RefIdeal := hStep64RefIdeal)
-- ==== Last.lean ====
abbrev S64x64x512 : Shape := ⟨3, ![64, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S1024x1 : Shape := ⟨2, ![1024, 1]⟩
abbrev S1x64 : Shape := ⟨2, ![1, 64]⟩
abbrev S512x2048 : Shape := ⟨2, ![512, 2048]⟩
abbrev S1x2048 : Shape := ⟨2, ![1, 2048]⟩
abbrev S64x1x512 : Shape := ⟨3, ![64, 1, 512]⟩
abbrev S64x64x1024 : Shape := ⟨3, ![64, 64, 1024]⟩
abbrev S4096x1024 : Shape := ⟨2, ![4096, 1024]⟩
abbrev S4096x1 : Shape := ⟨2, ![4096, 1]⟩
abbrev S64x64 : Shape := ⟨2, ![64, 64]⟩
abbrev S64 : Shape := ⟨1, ![64]⟩
abbrev S64x1 : Shape := ⟨2, ![64, 1]⟩
abbrev S_ : Shape := ⟨0, ![]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩
abbrev S64x64x1 : Shape := ⟨3, ![64, 64, 1]⟩

abbrev nBuf : Space → Nat
  | .hbm => 34
  | .vmem => 15
  | .smem => 0
  | _ => 0

abbrev bufTy : (tb : Table) → Fin (tcTables nBuf tb) → BufTy
  | .hbm, ⟨0, _⟩ => ⟨S64x64x512, .f32⟩
  | .hbm, ⟨1, _⟩ => ⟨S64x512, .f32⟩
  | .hbm, ⟨2, _⟩ => ⟨S64x512, .f32⟩
  | .hbm, ⟨3, _⟩ => ⟨S64x2048, .f32⟩
  | .hbm, ⟨4, _⟩ => ⟨S2048x512, .f32⟩
  | .hbm, ⟨5, _⟩ => ⟨S2048, .f32⟩
  | .hbm, ⟨6, _⟩ => ⟨S1024x1, .f32⟩
  | .hbm, ⟨7, _⟩ => ⟨S1x64, .i32⟩
  | .hbm, ⟨8, _⟩ => ⟨S512x2048, .f32⟩
  | .hbm, ⟨9, _⟩ => ⟨S1x2048, .f32⟩
  | .hbm, ⟨10, _⟩ => ⟨S64x1x512, .f32⟩
  | .hbm, ⟨11, _⟩ => ⟨S64x64x512, .f32⟩
  | .hbm, ⟨12, _⟩ => ⟨S64x64x1024, .f32⟩
  | .hbm, ⟨13, _⟩ => ⟨S64x64x1024, .f32⟩
  | .hbm, ⟨14, _⟩ => ⟨S4096x1024, .f32⟩
  | .hbm, ⟨15, _⟩ => ⟨S4096x1, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64x1, .f32⟩
  | .hbm, ⟨25, _⟩ => ⟨S64x64, .f32⟩
  | .hbm, ⟨26, _⟩ => ⟨S64x64, .f32⟩
  | .hbm, ⟨27, _⟩ => ⟨S64x64x512, .f32⟩
  | .hbm, ⟨28, _⟩ => ⟨S64x64, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S64x64x1, .f32⟩
  | .local _ .vmem, ⟨0, _⟩ => ⟨S64x64, .f32⟩
  | .local _ .vmem, ⟨1, _⟩ => ⟨S1x64, .i32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64x512, .f32⟩
  | .local _ .vmem, ⟨6, _⟩ => ⟨S64x512, .f32⟩
  | .local _ .vmem, ⟨7, _⟩ => ⟨S64x512, .f32⟩
  | .local _ .vmem, ⟨8, _⟩ => ⟨S64x2048, .f32⟩
  | .local _ .vmem, ⟨9, _⟩ => ⟨S512x2048, .f32⟩
  | .local _ .vmem, ⟨10, _⟩ => ⟨S1x2048, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | _, _ => ⟨S64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S64x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S64x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S64x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S64x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== LastIdeal.lean ====
variable {F : FTy → Type} [FloatOps F] [Named F]
def κ : String → Option EReal := fun
  | "low" => some ⊥
  | "neg" => some ⊥
  | _ => none
-- ==== LastRefIdeal.lean ====
abbrev S64x64x512 : Shape := ⟨3, ![64, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S1024x1 : Shape := ⟨2, ![1024, 1]⟩
abbrev S64x1x512 : Shape := ⟨3, ![64, 1, 512]⟩
abbrev S64x64x1024 : Shape := ⟨3, ![64, 64, 1024]⟩
abbrev S4096x1024 : Shape := ⟨2, ![4096, 1024]⟩
abbrev S4096x1 : Shape := ⟨2, ![4096, 1]⟩
abbrev S64x64 : Shape := ⟨2, ![64, 64]⟩
abbrev S64x10 : Shape := ⟨2, ![64, 10]⟩
abbrev S64x1 : Shape := ⟨2, ![64, 1]⟩
abbrev S64 : Shape := ⟨1, ![64]⟩
abbrev S_ : Shape := ⟨0, ![]⟩
abbrev S64x64x1 : Shape := ⟨3, ![64, 64, 1]⟩
abbrev S512x2048 : Shape := ⟨2, ![512, 2048]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S64x64x512, .f32⟩
  | .hbm, ⟨1, _⟩ => ⟨S64x512, .f32⟩
  | .hbm, ⟨2, _⟩ => ⟨S64x512, .f32⟩
  | .hbm, ⟨3, _⟩ => ⟨S64x2048, .f32⟩
  | .hbm, ⟨4, _⟩ => ⟨S2048x512, .f32⟩
  | .hbm, ⟨5, _⟩ => ⟨S2048, .f32⟩
  | .hbm, ⟨6, _⟩ => ⟨S1024x1, .f32⟩
  | .hbm, ⟨7, _⟩ => ⟨S64x1x512, .f32⟩
  | .hbm, ⟨8, _⟩ => ⟨S64x64x512, .f32⟩
  | .hbm, ⟨9, _⟩ => ⟨S64x64x1024, .f32⟩
  | .hbm, ⟨10, _⟩ => ⟨S64x64x1024, .f32⟩
  | .hbm, ⟨11, _⟩ => ⟨S4096x1024, .f32⟩
  | .hbm, ⟨12, _⟩ => ⟨S4096x1, .f32⟩
  | .hbm, ⟨13, _⟩ => ⟨S64x64, .f32⟩
  | .hbm, ⟨14, _⟩ => ⟨S64x10, .f32⟩
  | .hbm, ⟨15, _⟩ => ⟨S64x10, .i32⟩
  | .hbm, ⟨16, _⟩ => ⟨S64x1, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64x1, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64x1, .f32⟩
  | .hbm, ⟨33, _⟩ => ⟨S64x64, .f32⟩
  | .hbm, ⟨34, _⟩ => ⟨S64x64, .f32⟩
  | .hbm, ⟨35, _⟩ => ⟨S64x64x1, .f32⟩
  | .hbm, ⟨36, _⟩ => ⟨S64x64x512, .f32⟩
  | .hbm, ⟨37, _⟩ => ⟨S64x64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S512x2048, .f32⟩
  | .hbm, ⟨42, _⟩ => ⟨S64x2048, .f32⟩
  | .hbm, ⟨43, _⟩ => ⟨S64x2048, .f32⟩
  | .hbm, ⟨44, _⟩ => ⟨S1x2048, .f32⟩
  | .hbm, ⟨45, _⟩ => ⟨S64x2048, .f32⟩
  | .hbm, ⟨46, _⟩ => ⟨S64x2048, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | .hbm, ⟨53, _⟩ => ⟨S_, .f32⟩
  | .hbm, ⟨54, _⟩ => ⟨S64x512, .f32⟩
  | .hbm, ⟨55, _⟩ => ⟨S64x512, .f32⟩
  | .hbm, ⟨56, _⟩ => ⟨S_, .f32⟩
  | .hbm, ⟨57, _⟩ => ⟨S64x512, .f32⟩
  | .hbm, ⟨58, _⟩ => ⟨S64x512, .f32⟩
  | .hbm, ⟨59, _⟩ => ⟨S64x512, .f32⟩
  | .hbm, ⟨60, _⟩ => ⟨S64x512, .f32⟩
  | .hbm, ⟨61, _⟩ => ⟨S_, .f32⟩
  | .hbm, ⟨62, _⟩ => ⟨S64x512, .f32⟩
  | .hbm, ⟨63, _⟩ => ⟨S64x512, .f32⟩
  | .hbm, ⟨64, _⟩ => ⟨S_, .f32⟩
  | .hbm, ⟨65, _⟩ => ⟨S64x512, .f32⟩
  | .hbm, ⟨66, _⟩ => ⟨S64x512, .f32⟩
  | .hbm, ⟨67, _⟩ => ⟨S64x512, .f32⟩
  | .hbm, ⟨68, _⟩ => ⟨S64x512, .f32⟩
  | .hbm, ⟨69, _⟩ => ⟨S64x512, .f32⟩
  | .hbm, ⟨70, _⟩ => ⟨S_, .f32⟩
  | .hbm, ⟨71, _⟩ => ⟨S64x512, .f32⟩
  | .hbm, ⟨72, _⟩ => ⟨S64x512, .f32⟩
  | .hbm, ⟨73, _⟩ => ⟨S_, .f32⟩
  | .hbm, ⟨74, _⟩ => ⟨S64x512, .f32⟩
  | .hbm, ⟨75, _⟩ => ⟨S64x512, .f32⟩
  | .hbm, ⟨76, _⟩ => ⟨S64x512, .f32⟩
  | .hbm, ⟨77, _⟩ => ⟨S64x512, .f32⟩
  | .hbm, ⟨78, _⟩ => ⟨S64x512, .f32⟩
  | .hbm, ⟨79, _⟩ => ⟨S64x512, .f32⟩
  | .hbm, ⟨80, _⟩ => ⟨S64x512, .f32⟩
  | _, _ => ⟨S64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_values : Ref sig .tc := ⟨.hbm, 14, rfl⟩
abbrev main_indices : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Topk.lean ====
abbrev S64x64 : Shape := ⟨2, ![64, 64]⟩
abbrev S1x64 : Shape := ⟨2, ![1, 64]⟩
abbrev S64 : Shape := ⟨1, ![64]⟩
abbrev S64x1 : Shape := ⟨2, ![64, 1]⟩

abbrev nBuf : Space → Nat
  | .hbm => 4
  | .vmem => 4
  | .smem => 0
  | _ => 0

abbrev bufTy : (tb : Table) → Fin (tcTables nBuf tb) → BufTy
  | .hbm, ⟨0, _⟩ => ⟨S64x64, .f32⟩
  | .hbm, ⟨1, _⟩ => ⟨S1x64, .i32⟩
  | .hbm, ⟨2, _⟩ => ⟨S64x64, .f32⟩
  | .hbm, ⟨3, _⟩ => ⟨S64x64, .f32⟩
  | .local _ .vmem, ⟨0, _⟩ => ⟨S64x64, .f32⟩
  | .local _ .vmem, ⟨1, _⟩ => ⟨S1x64, .i32⟩
  | .local _ .vmem, ⟨2, _⟩ => ⟨S64x64, .f32⟩
  | .local _ .vmem, ⟨3, _⟩ => ⟨S64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== TopkIdeal.lean ====
variable {F : FTy → Type} [FloatOps F] [Named F]
def κ : String → Option EReal := fun
  | "low" => some ⊥
  | "neg" => some ⊥
  | _ => none
-- ==== TopkRefIdeal.lean ====
abbrev S64x64 : Shape := ⟨2, ![64, 64]⟩
abbrev S1x64 : Shape := ⟨2, ![1, 64]⟩
abbrev S_ : Shape := ⟨0, ![]⟩
abbrev S64x10 : Shape := ⟨2, ![64, 10]⟩
abbrev S64x1 : Shape := ⟨2, ![64, 1]⟩
abbrev S64 : Shape := ⟨1, ![64]⟩

abbrev nBuf : Space → Nat
  | .hbm => 28
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S1x64, .i32⟩
  | .hbm, ⟨2, _⟩ => ⟨S_, .i32⟩
  | .hbm, ⟨3, _⟩ => ⟨S1x64, .i32⟩
  | .hbm, ⟨4, _⟩ => ⟨S1x64, .i1⟩
  | .hbm, ⟨5, _⟩ => ⟨S_, .f32⟩
  | .hbm, ⟨6, _⟩ => ⟨S_, .f32⟩
  | .hbm, ⟨7, _⟩ => ⟨S64x64, .i1⟩
  | .hbm, ⟨8, _⟩ => ⟨S64x64, .f32⟩
  | .hbm, ⟨9, _⟩ => ⟨S64x64, .f32⟩
  | .hbm, ⟨10, _⟩ => ⟨S64x10, .f32⟩
  | .hbm, ⟨11, _⟩ => ⟨S64x10, .i32⟩
  | .hbm, ⟨12, _⟩ => ⟨S64x1, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64x1, .f32⟩
  | .hbm, ⟨18, _⟩ => ⟨S64x64, .f32⟩
  | .hbm, ⟨19, _⟩ => ⟨S64x64, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S_, .f32⟩
  | .hbm, ⟨25, _⟩ => ⟨S64x64, .i1⟩
  | .hbm, ⟨26, _⟩ => ⟨S64x64, .f32⟩
  | .hbm, ⟨27, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v2 : Ref sig .tc := ⟨.hbm, 9, rfl⟩
abbrev main_values : Ref sig .tc := ⟨.hbm, 10, rfl⟩
abbrev main_indices : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v12 : Ref sig .tc := ⟨.hbm, 27, rfl⟩

abbrev nD : Nat := 1
abbrev τ : Topo := Topo.v7x

variable {F : FTy → Type} [FloatOps F]
-- ==== Xw.lean ====
abbrev S64x64x256 : Shape := ⟨3, ![64, 64, 256]⟩
abbrev S2048x256 : Shape := ⟨2, ![2048, 256]⟩
abbrev S2048 : Shape := ⟨1, ![2048]⟩
abbrev S256x2048 : Shape := ⟨2, ![256, 2048]⟩
abbrev S1x2048 : Shape := ⟨2, ![1, 2048]⟩
abbrev S64x64x2048 : Shape := ⟨3, ![64, 64, 2048]⟩
abbrev S8x64x256 : Shape := ⟨3, ![8, 64, 256]⟩
abbrev S8x64x2048 : Shape := ⟨3, ![8, 64, 2048]⟩
abbrev S512x256 : Shape := ⟨2, ![512, 256]⟩
abbrev S512x2048 : Shape := ⟨2, ![512, 2048]⟩

abbrev nBuf : Space → Nat
  | .hbm => 7
  | .vmem => 6
  | .smem => 0
  | _ => 0

abbrev bufTy : (tb : Table) → Fin (tcTables nBuf tb) → BufTy
  | .hbm, ⟨0, _⟩ => ⟨S64x64x256, .f32⟩
  | .hbm, ⟨1, _⟩ => ⟨S2048x256, .f32⟩
  | .hbm, ⟨2, _⟩ => ⟨S2048, .f32⟩
  | .hbm, ⟨3, _⟩ => ⟨S64x64x256, .f32⟩
  | .hbm, ⟨4, _⟩ => ⟨S256x2048, .f32⟩
  | .hbm, ⟨5, _⟩ => ⟨S1x2048, .f32⟩
  | .hbm, ⟨6, _⟩ => ⟨S64x64x2048, .f32⟩
  | .local _ .vmem, ⟨0, _⟩ => ⟨S8x64x256, .f32⟩
  | .local _ .vmem, ⟨1, _⟩ => ⟨S8x64x256, .f32⟩
  | .local _ .vmem, ⟨2, _⟩ => ⟨S256x2048, .f32⟩
  | .local _ .vmem, ⟨3, _⟩ => ⟨S1x2048, .f32⟩
  | .local _ .vmem, ⟨4, _⟩ => ⟨S8x64x2048, .f32⟩
  | .local _ .vmem, ⟨5, _⟩ => ⟨S8x64x2048, .f32⟩
  | _, _ => ⟨S64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XwRefIdeal.lean ====
abbrev S64x64x256 : Shape := ⟨3, ![64, 64, 256]⟩
abbrev S2048x256 : Shape := ⟨2, ![2048, 256]⟩
abbrev S2048 : Shape := ⟨1, ![2048]⟩
abbrev S2048x64x64 : Shape := ⟨3, ![2048, 64, 64]⟩
abbrev S64x64x2048 : Shape := ⟨3, ![64, 64, 2048]⟩
abbrev S1x1x2048 : Shape := ⟨3, ![1, 1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S64x64x256, .f32⟩
  | .hbm, ⟨1, _⟩ => ⟨S2048x256, .f32⟩
  | .hbm, ⟨2, _⟩ => ⟨S2048, .f32⟩
  | .hbm, ⟨3, _⟩ => ⟨S2048x64x64, .f32⟩
  | .hbm, ⟨4, _⟩ => ⟨S64x64x2048, .f32⟩
  | .hbm, ⟨5, _⟩ => ⟨S1x1x2048, .f32⟩
  | .hbm, ⟨6, _⟩ => ⟨S64x64x2048, .f32⟩
  | .hbm, ⟨7, _⟩ => ⟨S64x64x2048, .f32⟩
  | _, _ => ⟨S64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Step1.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step1Ideal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step1RefIdeal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S1x64 : Shape := ⟨2, ![1, 64]⟩
abbrev S1x64x1 : Shape := ⟨3, ![1, 64, 1]⟩
abbrev S1x64x512 : Shape := ⟨3, ![1, 64, 512]⟩
abbrev S_ : Shape := ⟨0, ![]⟩
abbrev S512x2048 : Shape := ⟨2, ![512, 2048]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S1x64, .f32⟩
  | .hbm, ⟨8, _⟩ => ⟨S1x64x1, .f32⟩
  | .hbm, ⟨9, _⟩ => ⟨S1x64x512, .f32⟩
  | .hbm, ⟨10, _⟩ => ⟨S1x64x512, .f32⟩
  | .hbm, ⟨11, _⟩ => ⟨S1x64x512, .f32⟩
  | .hbm, ⟨12, _⟩ => ⟨S_, .f32⟩
  | .hbm, ⟨13, _⟩ => ⟨S64x512, .f32⟩
  | .hbm, ⟨14, _⟩ => ⟨S64x512, .f32⟩
  | .hbm, ⟨15, _⟩ => ⟨S512x2048, .f32⟩
  | .hbm, ⟨16, _⟩ => ⟨S64x2048, .f32⟩
  | .hbm, ⟨17, _⟩ => ⟨S64x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S64x512, .f32⟩
  | .hbm, ⟨29, _⟩ => ⟨S64x512, .f32⟩
  | .hbm, ⟨30, _⟩ => ⟨S_, .f32⟩
  | .hbm, ⟨31, _⟩ => ⟨S64x512, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S64x512, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Step2.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step2Ideal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step2RefIdeal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S2x64 : Shape := ⟨2, ![2, 64]⟩
abbrev S2x64x1 : Shape := ⟨3, ![2, 64, 1]⟩
abbrev S2x64x512 : Shape := ⟨3, ![2, 64, 512]⟩
abbrev S_ : Shape := ⟨0, ![]⟩
abbrev S512x2048 : Shape := ⟨2, ![512, 2048]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S2x64, .f32⟩
  | .hbm, ⟨8, _⟩ => ⟨S2x64x1, .f32⟩
  | .hbm, ⟨9, _⟩ => ⟨S2x64x512, .f32⟩
  | .hbm, ⟨10, _⟩ => ⟨S2x64x512, .f32⟩
  | .hbm, ⟨11, _⟩ => ⟨S2x64x512, .f32⟩
  | .hbm, ⟨12, _⟩ => ⟨S_, .f32⟩
  | .hbm, ⟨13, _⟩ => ⟨S64x512, .f32⟩
  | .hbm, ⟨14, _⟩ => ⟨S64x512, .f32⟩
  | .hbm, ⟨15, _⟩ => ⟨S512x2048, .f32⟩
  | .hbm, ⟨16, _⟩ => ⟨S64x2048, .f32⟩
  | .hbm, ⟨17, _⟩ => ⟨S64x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S64x512, .f32⟩
  | .hbm, ⟨29, _⟩ => ⟨S64x512, .f32⟩
  | .hbm, ⟨30, _⟩ => ⟨S_, .f32⟩
  | .hbm, ⟨31, _⟩ => ⟨S64x512, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S64x512, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Step3.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step3Ideal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step3RefIdeal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S3x64 : Shape := ⟨2, ![3, 64]⟩
abbrev S3x64x1 : Shape := ⟨3, ![3, 64, 1]⟩
abbrev S3x64x512 : Shape := ⟨3, ![3, 64, 512]⟩
abbrev S_ : Shape := ⟨0, ![]⟩
abbrev S512x2048 : Shape := ⟨2, ![512, 2048]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S3x64, .f32⟩
  | .hbm, ⟨8, _⟩ => ⟨S3x64x1, .f32⟩
  | .hbm, ⟨9, _⟩ => ⟨S3x64x512, .f32⟩
  | .hbm, ⟨10, _⟩ => ⟨S3x64x512, .f32⟩
  | .hbm, ⟨11, _⟩ => ⟨S3x64x512, .f32⟩
  | .hbm, ⟨12, _⟩ => ⟨S_, .f32⟩
  | .hbm, ⟨13, _⟩ => ⟨S64x512, .f32⟩
  | .hbm, ⟨14, _⟩ => ⟨S64x512, .f32⟩
  | .hbm, ⟨15, _⟩ => ⟨S512x2048, .f32⟩
  | .hbm, ⟨16, _⟩ => ⟨S64x2048, .f32⟩
  | .hbm, ⟨17, _⟩ => ⟨S64x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S64x512, .f32⟩
  | .hbm, ⟨29, _⟩ => ⟨S64x512, .f32⟩
  | .hbm, ⟨30, _⟩ => ⟨S_, .f32⟩
  | .hbm, ⟨31, _⟩ => ⟨S64x512, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S64x512, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Step4.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step4Ideal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step4RefIdeal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S4x64 : Shape := ⟨2, ![4, 64]⟩
abbrev S4x64x1 : Shape := ⟨3, ![4, 64, 1]⟩
abbrev S4x64x512 : Shape := ⟨3, ![4, 64, 512]⟩
abbrev S_ : Shape := ⟨0, ![]⟩
abbrev S512x2048 : Shape := ⟨2, ![512, 2048]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S4x64, .f32⟩
  | .hbm, ⟨8, _⟩ => ⟨S4x64x1, .f32⟩
  | .hbm, ⟨9, _⟩ => ⟨S4x64x512, .f32⟩
  | .hbm, ⟨10, _⟩ => ⟨S4x64x512, .f32⟩
  | .hbm, ⟨11, _⟩ => ⟨S4x64x512, .f32⟩
  | .hbm, ⟨12, _⟩ => ⟨S_, .f32⟩
  | .hbm, ⟨13, _⟩ => ⟨S64x512, .f32⟩
  | .hbm, ⟨14, _⟩ => ⟨S64x512, .f32⟩
  | .hbm, ⟨15, _⟩ => ⟨S512x2048, .f32⟩
  | .hbm, ⟨16, _⟩ => ⟨S64x2048, .f32⟩
  | .hbm, ⟨17, _⟩ => ⟨S64x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S64x512, .f32⟩
  | .hbm, ⟨29, _⟩ => ⟨S64x512, .f32⟩
  | .hbm, ⟨30, _⟩ => ⟨S_, .f32⟩
  | .hbm, ⟨31, _⟩ => ⟨S64x512, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S64x512, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Step5.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step5Ideal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step5RefIdeal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S5x64 : Shape := ⟨2, ![5, 64]⟩
abbrev S5x64x1 : Shape := ⟨3, ![5, 64, 1]⟩
abbrev S5x64x512 : Shape := ⟨3, ![5, 64, 512]⟩
abbrev S_ : Shape := ⟨0, ![]⟩
abbrev S512x2048 : Shape := ⟨2, ![512, 2048]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S5x64, .f32⟩
  | .hbm, ⟨8, _⟩ => ⟨S5x64x1, .f32⟩
  | .hbm, ⟨9, _⟩ => ⟨S5x64x512, .f32⟩
  | .hbm, ⟨10, _⟩ => ⟨S5x64x512, .f32⟩
  | .hbm, ⟨11, _⟩ => ⟨S5x64x512, .f32⟩
  | .hbm, ⟨12, _⟩ => ⟨S_, .f32⟩
  | .hbm, ⟨13, _⟩ => ⟨S64x512, .f32⟩
  | .hbm, ⟨14, _⟩ => ⟨S64x512, .f32⟩
  | .hbm, ⟨15, _⟩ => ⟨S512x2048, .f32⟩
  | .hbm, ⟨16, _⟩ => ⟨S64x2048, .f32⟩
  | .hbm, ⟨17, _⟩ => ⟨S64x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S64x512, .f32⟩
  | .hbm, ⟨29, _⟩ => ⟨S64x512, .f32⟩
  | .hbm, ⟨30, _⟩ => ⟨S_, .f32⟩
  | .hbm, ⟨31, _⟩ => ⟨S64x512, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S64x512, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Step6.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step6Ideal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step6RefIdeal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S6x64 : Shape := ⟨2, ![6, 64]⟩
abbrev S6x64x1 : Shape := ⟨3, ![6, 64, 1]⟩
abbrev S6x64x512 : Shape := ⟨3, ![6, 64, 512]⟩
abbrev S_ : Shape := ⟨0, ![]⟩
abbrev S512x2048 : Shape := ⟨2, ![512, 2048]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S6x64, .f32⟩
  | .hbm, ⟨8, _⟩ => ⟨S6x64x1, .f32⟩
  | .hbm, ⟨9, _⟩ => ⟨S6x64x512, .f32⟩
  | .hbm, ⟨10, _⟩ => ⟨S6x64x512, .f32⟩
  | .hbm, ⟨11, _⟩ => ⟨S6x64x512, .f32⟩
  | .hbm, ⟨12, _⟩ => ⟨S_, .f32⟩
  | .hbm, ⟨13, _⟩ => ⟨S64x512, .f32⟩
  | .hbm, ⟨14, _⟩ => ⟨S64x512, .f32⟩
  | .hbm, ⟨15, _⟩ => ⟨S512x2048, .f32⟩
  | .hbm, ⟨16, _⟩ => ⟨S64x2048, .f32⟩
  | .hbm, ⟨17, _⟩ => ⟨S64x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S64x512, .f32⟩
  | .hbm, ⟨29, _⟩ => ⟨S64x512, .f32⟩
  | .hbm, ⟨30, _⟩ => ⟨S_, .f32⟩
  | .hbm, ⟨31, _⟩ => ⟨S64x512, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S64x512, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Step7.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step7Ideal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x64 : Shape := ⟨2, ![1, 64]⟩
abbrev S64 : Shape := ⟨1, ![64]⟩
abbrev S64x1 : Shape := ⟨2, ![64, 1]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step7RefIdeal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S7x64 : Shape := ⟨2, ![7, 64]⟩
abbrev S7x64x1 : Shape := ⟨3, ![7, 64, 1]⟩
abbrev S7x64x512 : Shape := ⟨3, ![7, 64, 512]⟩
abbrev S_ : Shape := ⟨0, ![]⟩
abbrev S512x2048 : Shape := ⟨2, ![512, 2048]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S7x64, .f32⟩
  | .hbm, ⟨8, _⟩ => ⟨S7x64x1, .f32⟩
  | .hbm, ⟨9, _⟩ => ⟨S7x64x512, .f32⟩
  | .hbm, ⟨10, _⟩ => ⟨S7x64x512, .f32⟩
  | .hbm, ⟨11, _⟩ => ⟨S7x64x512, .f32⟩
  | .hbm, ⟨12, _⟩ => ⟨S_, .f32⟩
  | .hbm, ⟨13, _⟩ => ⟨S64x512, .f32⟩
  | .hbm, ⟨14, _⟩ => ⟨S64x512, .f32⟩
  | .hbm, ⟨15, _⟩ => ⟨S512x2048, .f32⟩
  | .hbm, ⟨16, _⟩ => ⟨S64x2048, .f32⟩
  | .hbm, ⟨17, _⟩ => ⟨S64x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S64x512, .f32⟩
  | .hbm, ⟨29, _⟩ => ⟨S64x512, .f32⟩
  | .hbm, ⟨30, _⟩ => ⟨S_, .f32⟩
  | .hbm, ⟨31, _⟩ => ⟨S64x512, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S64x512, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Step8.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64x1 : Shape := ⟨3, ![8, 64, 1]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step8Ideal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64x1 : Shape := ⟨3, ![8, 64, 1]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S8x64, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step8RefIdeal.lean ====
abbrev S8x64 : Shape := ⟨2, ![8, 64]⟩
abbrev S8x64x512 : Shape := ⟨3, ![8, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S8x64x1 : Shape := ⟨3, ![8, 64, 1]⟩
abbrev S_ : Shape := ⟨0, ![]⟩
abbrev S512x2048 : Shape := ⟨2, ![512, 2048]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S8x64x1, .f32⟩
  | .hbm, ⟨8, _⟩ => ⟨S8x64x512, .f32⟩
  | .hbm, ⟨9, _⟩ => ⟨S8x64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S512x2048, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S_, .f32⟩
  | .hbm, ⟨46, _⟩ => ⟨S64x512, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Step16.lean ====
abbrev S16x64 : Shape := ⟨2, ![16, 64]⟩
abbrev S16x64x512 : Shape := ⟨3, ![16, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S16x64, .f32⟩
  | .hbm, ⟨1, _⟩ => ⟨S16x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S16x64, .f32⟩
  | .local _ .vmem, ⟨1, _⟩ => ⟨S16x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step16Ideal.lean ====
abbrev S16x64 : Shape := ⟨2, ![16, 64]⟩
abbrev S16x64x512 : Shape := ⟨3, ![16, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S16x64, .f32⟩
  | .hbm, ⟨1, _⟩ => ⟨S16x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S16x64, .f32⟩
  | .local _ .vmem, ⟨1, _⟩ => ⟨S16x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step16RefIdeal.lean ====
abbrev S16x64 : Shape := ⟨2, ![16, 64]⟩
abbrev S16x64x512 : Shape := ⟨3, ![16, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S16x64x1 : Shape := ⟨3, ![16, 64, 1]⟩
abbrev S_ : Shape := ⟨0, ![]⟩
abbrev S512x2048 : Shape := ⟨2, ![512, 2048]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S16x64x1, .f32⟩
  | .hbm, ⟨8, _⟩ => ⟨S16x64x512, .f32⟩
  | .hbm, ⟨9, _⟩ => ⟨S16x64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S512x2048, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S_, .f32⟩
  | .hbm, ⟨46, _⟩ => ⟨S64x512, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Step24.lean ====
abbrev S24x64 : Shape := ⟨2, ![24, 64]⟩
abbrev S24x64x512 : Shape := ⟨3, ![24, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S24x64, .f32⟩
  | .hbm, ⟨1, _⟩ => ⟨S24x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S24x64, .f32⟩
  | .local _ .vmem, ⟨1, _⟩ => ⟨S24x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S24x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step24Ideal.lean ====
abbrev S24x64 : Shape := ⟨2, ![24, 64]⟩
abbrev S24x64x512 : Shape := ⟨3, ![24, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S24x64, .f32⟩
  | .hbm, ⟨1, _⟩ => ⟨S24x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S24x64, .f32⟩
  | .local _ .vmem, ⟨1, _⟩ => ⟨S24x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S24x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step24RefIdeal.lean ====
abbrev S24x64 : Shape := ⟨2, ![24, 64]⟩
abbrev S24x64x512 : Shape := ⟨3, ![24, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S24x64x1 : Shape := ⟨3, ![24, 64, 1]⟩
abbrev S_ : Shape := ⟨0, ![]⟩
abbrev S512x2048 : Shape := ⟨2, ![512, 2048]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S24x64, .f32⟩
  | .hbm, ⟨1, _⟩ => ⟨S24x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S24x64x1, .f32⟩
  | .hbm, ⟨8, _⟩ => ⟨S24x64x512, .f32⟩
  | .hbm, ⟨9, _⟩ => ⟨S24x64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S512x2048, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S_, .f32⟩
  | .hbm, ⟨46, _⟩ => ⟨S64x512, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | _, _ => ⟨S24x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Step32.lean ====
abbrev S32x64 : Shape := ⟨2, ![32, 64]⟩
abbrev S32x64x512 : Shape := ⟨3, ![32, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S32x64, .f32⟩
  | .hbm, ⟨1, _⟩ => ⟨S32x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S32x64, .f32⟩
  | .local _ .vmem, ⟨1, _⟩ => ⟨S32x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step32Ideal.lean ====
abbrev S32x64 : Shape := ⟨2, ![32, 64]⟩
abbrev S32x64x512 : Shape := ⟨3, ![32, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S32x64, .f32⟩
  | .hbm, ⟨1, _⟩ => ⟨S32x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S32x64, .f32⟩
  | .local _ .vmem, ⟨1, _⟩ => ⟨S32x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step32RefIdeal.lean ====
abbrev S32x64 : Shape := ⟨2, ![32, 64]⟩
abbrev S32x64x512 : Shape := ⟨3, ![32, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S32x64x1 : Shape := ⟨3, ![32, 64, 1]⟩
abbrev S_ : Shape := ⟨0, ![]⟩
abbrev S512x2048 : Shape := ⟨2, ![512, 2048]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S32x64x1, .f32⟩
  | .hbm, ⟨8, _⟩ => ⟨S32x64x512, .f32⟩
  | .hbm, ⟨9, _⟩ => ⟨S32x64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S512x2048, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S_, .f32⟩
  | .hbm, ⟨46, _⟩ => ⟨S64x512, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Step40.lean ====
abbrev S40x64 : Shape := ⟨2, ![40, 64]⟩
abbrev S40x64x512 : Shape := ⟨3, ![40, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S40x64, .f32⟩
  | .hbm, ⟨1, _⟩ => ⟨S40x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S40x64, .f32⟩
  | .local _ .vmem, ⟨1, _⟩ => ⟨S40x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S40x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step40Ideal.lean ====
abbrev S40x64 : Shape := ⟨2, ![40, 64]⟩
abbrev S40x64x512 : Shape := ⟨3, ![40, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S40x64, .f32⟩
  | .hbm, ⟨1, _⟩ => ⟨S40x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S40x64, .f32⟩
  | .local _ .vmem, ⟨1, _⟩ => ⟨S40x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S40x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step40RefIdeal.lean ====
abbrev S40x64 : Shape := ⟨2, ![40, 64]⟩
abbrev S40x64x512 : Shape := ⟨3, ![40, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S40x64x1 : Shape := ⟨3, ![40, 64, 1]⟩
abbrev S_ : Shape := ⟨0, ![]⟩
abbrev S512x2048 : Shape := ⟨2, ![512, 2048]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S40x64, .f32⟩
  | .hbm, ⟨1, _⟩ => ⟨S40x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S40x64x1, .f32⟩
  | .hbm, ⟨8, _⟩ => ⟨S40x64x512, .f32⟩
  | .hbm, ⟨9, _⟩ => ⟨S40x64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S512x2048, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S_, .f32⟩
  | .hbm, ⟨46, _⟩ => ⟨S64x512, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | _, _ => ⟨S40x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Step48.lean ====
abbrev S48x64 : Shape := ⟨2, ![48, 64]⟩
abbrev S48x64x512 : Shape := ⟨3, ![48, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S48x64, .f32⟩
  | .hbm, ⟨1, _⟩ => ⟨S48x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S48x64, .f32⟩
  | .local _ .vmem, ⟨1, _⟩ => ⟨S48x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S48x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S48x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step48Ideal.lean ====
abbrev S48x64 : Shape := ⟨2, ![48, 64]⟩
abbrev S48x64x512 : Shape := ⟨3, ![48, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S48x64, .f32⟩
  | .hbm, ⟨1, _⟩ => ⟨S48x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S48x64, .f32⟩
  | .local _ .vmem, ⟨1, _⟩ => ⟨S48x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S48x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S48x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step48RefIdeal.lean ====
abbrev S48x64 : Shape := ⟨2, ![48, 64]⟩
abbrev S48x64x512 : Shape := ⟨3, ![48, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S48x64x1 : Shape := ⟨3, ![48, 64, 1]⟩
abbrev S_ : Shape := ⟨0, ![]⟩
abbrev S512x2048 : Shape := ⟨2, ![512, 2048]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S48x64, .f32⟩
  | .hbm, ⟨1, _⟩ => ⟨S48x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S48x64x1, .f32⟩
  | .hbm, ⟨8, _⟩ => ⟨S48x64x512, .f32⟩
  | .hbm, ⟨9, _⟩ => ⟨S48x64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S512x2048, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S_, .f32⟩
  | .hbm, ⟨46, _⟩ => ⟨S64x512, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | _, _ => ⟨S48x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Step56.lean ====
abbrev S56x64 : Shape := ⟨2, ![56, 64]⟩
abbrev S56x64x512 : Shape := ⟨3, ![56, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S56x64, .f32⟩
  | .hbm, ⟨1, _⟩ => ⟨S56x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S56x64, .f32⟩
  | .local _ .vmem, ⟨1, _⟩ => ⟨S56x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S56x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S56x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step56Ideal.lean ====
abbrev S56x64 : Shape := ⟨2, ![56, 64]⟩
abbrev S56x64x512 : Shape := ⟨3, ![56, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S56x64, .f32⟩
  | .hbm, ⟨1, _⟩ => ⟨S56x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S56x64, .f32⟩
  | .local _ .vmem, ⟨1, _⟩ => ⟨S56x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S56x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S56x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step56RefIdeal.lean ====
abbrev S56x64 : Shape := ⟨2, ![56, 64]⟩
abbrev S56x64x512 : Shape := ⟨3, ![56, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S56x64x1 : Shape := ⟨3, ![56, 64, 1]⟩
abbrev S_ : Shape := ⟨0, ![]⟩
abbrev S512x2048 : Shape := ⟨2, ![512, 2048]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S56x64, .f32⟩
  | .hbm, ⟨1, _⟩ => ⟨S56x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S56x64x1, .f32⟩
  | .hbm, ⟨8, _⟩ => ⟨S56x64x512, .f32⟩
  | .hbm, ⟨9, _⟩ => ⟨S56x64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S512x2048, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S_, .f32⟩
  | .hbm, ⟨46, _⟩ => ⟨S64x512, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | _, _ => ⟨S56x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Step64.lean ====
abbrev S64x64 : Shape := ⟨2, ![64, 64]⟩
abbrev S64x64x512 : Shape := ⟨3, ![64, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S8x64 : Shape := ⟨2, ![8, 64]⟩
abbrev S8x64x1 : Shape := ⟨3, ![8, 64, 1]⟩
abbrev S8x64x512 : Shape := ⟨3, ![8, 64, 512]⟩
abbrev S4x64x512 : Shape := ⟨3, ![4, 64, 512]⟩
abbrev S2x64x512 : Shape := ⟨3, ![2, 64, 512]⟩
abbrev S1x64x512 : Shape := ⟨3, ![1, 64, 512]⟩

abbrev nBuf : Space → Nat
  | .hbm => 13
  | .vmem => 11
  | .smem => 0
  | _ => 0

abbrev bufTy : (tb : Table) → Fin (tcTables nBuf tb) → BufTy
  | .hbm, ⟨0, _⟩ => ⟨S64x64, .f32⟩
  | .hbm, ⟨1, _⟩ => ⟨S64x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S1x2048, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S64x512, .f32⟩
  | .local _ .vmem, ⟨0, _⟩ => ⟨S64x64, .f32⟩
  | .local _ .vmem, ⟨1, _⟩ => ⟨S64x64x512, .f32⟩
  | .local _ .vmem, ⟨2, _⟩ => ⟨S64x512, .f32⟩
  | .local _ .vmem, ⟨3, _⟩ => ⟨S64x512, .f32⟩
  | .local _ .vmem, ⟨4, _⟩ => ⟨S64x2048, .f32⟩
  | .local _ .vmem, ⟨5, _⟩ => ⟨S512x2048, .f32⟩
  | .local _ .vmem, ⟨6, _⟩ => ⟨S1x2048, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Step64RefIdeal.lean ====
abbrev S64x64 : Shape := ⟨2, ![64, 64]⟩
abbrev S64x64x512 : Shape := ⟨3, ![64, 64, 512]⟩
abbrev S64x512 : Shape := ⟨2, ![64, 512]⟩
abbrev S64x2048 : Shape := ⟨2, ![64, 2048]⟩
abbrev S2048x512 : Shape := ⟨2, ![2048, 512]⟩
abbrev S2048 : Shape := ⟨1, ![2048]⟩
abbrev S64x64x1 : Shape := ⟨3, ![64, 64, 1]⟩
abbrev S_ : Shape := ⟨0, ![]⟩
abbrev S512x2048 : Shape := ⟨2, ![512, 2048]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64x512, .f32⟩
  | .hbm, ⟨2, _⟩ => ⟨S64x512, .f32⟩
  | .hbm, ⟨3, _⟩ => ⟨S64x512, .f32⟩
  | .hbm, ⟨4, _⟩ => ⟨S64x2048, .f32⟩
  | .hbm, ⟨5, _⟩ => ⟨S2048x512, .f32⟩
  | .hbm, ⟨6, _⟩ => ⟨S2048, .f32⟩
  | .hbm, ⟨7, _⟩ => ⟨S64x64x1, .f32⟩
  | .hbm, ⟨8, _⟩ => ⟨S64x64x512, .f32⟩
  | .hbm, ⟨9, _⟩ => ⟨S64x64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S512x2048, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S_, .f32⟩
  | .hbm, ⟨46, _⟩ => ⟨S64x512, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.TopkRank.lean ====
module

public import Idealize.ShloMosaic.Lib.SortFacts
public import Idealize.ShloMosaic.PureOps.Ideal
public import Idealize.ShloMosaic.PureOps.Ideal.Laws
public import Idealize.ShloMosaic.Lib.SortNet.Extract
public import Idealize.ShloMosaic.Lib.Pointwise

@[expose] public section

noncomputable section

open Idealize.ShloMosaic

namespace Cert.TopkRank

variable {n : Nat}

/-! ## The k-th largest of a finite family of extended reals, by counting -/

/-- `v` is the entry at position `k` of the family in descending order: at most `k` entries lie above it and more than `k` are at least it. -/
def Nth (f : Fin n → EReal) (k : Nat) (v : EReal) : Prop :=
  (Finset.univ.filter fun j => v < f j).card ≤ k ∧ k < (Finset.univ.filter fun j => v ≤ f j).card

theorem Nth.not_below {f : Fin n → EReal} {k : Nat} {v w : EReal} (hv : Nth f k v) (hw : Nth f k w) : ¬ v < w := fun h => by
  have hs : (Finset.univ.filter fun j => w ≤ f j) ⊆ Finset.univ.filter fun j => v < f j := fun j hj => by
    rw [Finset.mem_filter] at hj ⊢
    exact ⟨hj.1, lt_of_lt_of_le h hj.2⟩
  have := Finset.card_le_card hs
  have := hv.1
  have := hw.2
  omega

theorem Nth.unique {f : Fin n → EReal} {k : Nat} {v w : EReal} (hv : Nth f k v) (hw : Nth f k w) : v = w :=
  le_antisymm (not_lt.mp (hw.not_below hv)) (not_lt.mp (hv.not_below hw))

/-- The greatest entry is at position 0. -/
theorem nth_zero {f : Fin n → EReal} {a : Fin n} (ha : ∀ j, f j ≤ f a) : Nth f 0 (f a) := by
  refine ⟨le_of_eq (Finset.card_eq_zero.mpr (Finset.filter_eq_empty_iff.mpr fun j _ => not_lt.mpr (ha j))), ?_⟩
  exact Finset.card_pos.mpr ⟨a, Finset.mem_filter.mpr ⟨Finset.mem_univ a, le_refl _⟩⟩

/-- With one greatest entry put at −∞, positions move by one. -/
theorem nth_succ {f : Fin n → EReal} {a : Fin n} (ha : ∀ j, f j ≤ f a) {k : Nat} (hk : k + 1 < n) {v : EReal}
    (hv : Nth (fun j => if j = a then ⊥ else f j) k v) : Nth f (k + 1) v := by
  obtain ⟨hlow, hhigh⟩ := hv
  dsimp only at hlow hhigh
  constructor
  · have hs : (Finset.univ.filter fun j => v < f j) ⊆ insert a (Finset.univ.filter fun j => v < if j = a then ⊥ else f j) := fun j hj => by
      rw [Finset.mem_filter] at hj
      rw [Finset.mem_insert, Finset.mem_filter]
      by_cases e : j = a
      · exact Or.inl e
      · exact Or.inr ⟨hj.1, by rw [if_neg e]; exact hj.2⟩
    have h1 := Finset.card_le_card hs
    have h2 := Finset.card_insert_le a (Finset.univ.filter fun j => v < if j = a then ⊥ else f j)
    omega
  · rcases eq_or_ne v ⊥ with e | e
    · rw [e, Finset.filter_true_of_mem fun j _ => bot_le, Finset.card_univ, Fintype.card_fin]
      exact hk
    · obtain ⟨j, hj⟩ := Finset.card_pos.mp (lt_of_le_of_lt (Nat.zero_le k) hhigh)
      have hj := (Finset.mem_filter.mp hj).2
      have hva : v ≤ f a := by
        by_cases e' : j = a
        · rw [if_pos e'] at hj
          exact absurd (le_bot_iff.mp hj) e
        · rw [if_neg e'] at hj
          exact hj.trans (ha j)
      have hn : a ∉ Finset.univ.filter fun j => v ≤ if j = a then ⊥ else f j := fun h => by
        have := (Finset.mem_filter.mp h).2
        rw [if_pos rfl] at this
        exact e (le_bot_iff.mp this)
      have hs : insert a (Finset.univ.filter fun j => v ≤ if j = a then ⊥ else f j) ⊆ Finset.univ.filter fun j => v ≤ f j := fun i hi => by
        rw [Finset.mem_filter]
        refine ⟨Finset.mem_univ i, ?_⟩
        rcases Finset.mem_insert.mp hi with e' | h
        · rw [e']; exact hva
        · have h := (Finset.mem_filter.mp h).2
          by_cases e' : i = a
          · rw [e']; exact hva
          · rw [if_neg e'] at h; exact h
      have h1 := Finset.card_le_card hs
      rw [Finset.card_insert_of_notMem hn] at h1
      omega

/-- A permutation that leaves no later entry above an earlier one has the k-th largest at position `k`. -/
theorem nth_sorted {f : Fin n → EReal} {σ : Fin n → Fin n} (hi : Function.Injective σ) (hs : Function.Surjective σ)
    (h : ∀ i j, i < j → f (σ j) ≤ f (σ i)) (k : Fin n) : Nth f k (f (σ k)) := by
  constructor
  · have hsub : (Finset.univ.filter fun j => f (σ k) < f j) ⊆ (Finset.Iio k).image σ := fun j hj => by
      have hj := (Finset.mem_filter.mp hj).2
      obtain ⟨i, rfl⟩ := hs j
      refine Finset.mem_image.mpr ⟨i, Finset.mem_Iio.mpr (not_le.mp fun hki => ?_), rfl⟩
      rcases lt_or_eq_of_le hki with hl | he
      · exact absurd hj (not_lt.mpr (h k i hl))
      · rw [he] at hj; exact lt_irrefl _ hj
    have h1 := (Finset.card_le_card hsub).trans Finset.card_image_le
    rwa [Fin.card_Iio] at h1
  · have hsub : (Finset.Iic k).image σ ⊆ Finset.univ.filter fun j => f (σ k) ≤ f j := fun j hj => by
      obtain ⟨i, hik, rfl⟩ := Finset.mem_image.mp hj
      refine Finset.mem_filter.mpr ⟨Finset.mem_univ _, ?_⟩
      rcases lt_or_eq_of_le (Finset.mem_Iic.mp hik) with hl | he
      · exact h i k hl
      · rw [he]
    have h1 := Finset.card_le_card hsub
    rw [Finset.card_image_of_injective _ hi, Fin.card_Iic] at h1
    omega

/-! ## The reductions of a round -/

/-- The maximum from −∞ is the greatest entry. -/
theorem fold_max {f : Fin n → EReal} {a : Fin n} (ha : ∀ j, f j ≤ f a) : (Finset.univ : Finset (Fin n)).fold max ⊥ f = f a :=
  le_antisymm (Finset.fold_max_le _ |>.mpr ⟨bot_le, fun j _ => ha j⟩) (Finset.le_fold_max _ |>.mpr (Or.inr ⟨a, Finset.mem_univ a, le_refl _⟩))

theorem minsi_or (a b : BitVec 32) : IntOp.minsi a b = a ∨ IntOp.minsi a b = b := by
  unfold IntOp.minsi
  split
  · exact Or.inl rfl
  · exact Or.inr rfl

/-- A minimum of words is the initial word or one of them, and at most each of them. -/
theorem fold_minsi (b : BitVec 32) (w : Fin n → BitVec 32) (s : Finset (Fin n)) :
    (s.fold IntOp.minsi b w = b ∨ ∃ k ∈ s, s.fold IntOp.minsi b w = w k) ∧ ∀ k ∈ s, (s.fold IntOp.minsi b w).toInt ≤ (w k).toInt := by
  induction s using Finset.induction_on with
  | empty => exact ⟨Or.inl rfl, fun k hk => absurd hk (Finset.notMem_empty k)⟩
  | insert a s ha ih =>
    rw [Finset.fold_insert ha]
    refine ⟨?_, fun k hk => ?_⟩
    · rcases minsi_or (w a) (s.fold IntOp.minsi b w) with e | e
      · exact Or.inr ⟨a, Finset.mem_insert_self a s, e⟩
      · rw [e]
        rcases ih.1 with h | ⟨k, hk, h⟩
        · exact Or.inl h
        · exact Or.inr ⟨k, Finset.mem_insert_of_mem hk, h⟩
    · rw [SortNet.toInt_minsi]
      rcases Finset.mem_insert.mp hk with rfl | hk
      · exact min_le_left _ _
      · exact (min_le_right _ _).trans (ih.2 k hk)

end Cert.TopkRank

end
-- ==== Proof.LastTopk.lean ====
module

public import proofs.«01_k».proof.Proof.TopkRank
public import proofs.«01_k».proof.Proof.Gen.LastIdeal.Frame
public import proofs.«01_k».proof.LastRefIdeal
public import Idealize.ShloMosaic.Lib.Pipeline.ValueKit

@[expose] public section

set_option maxRecDepth 16384

noncomputable section

open Idealize.ShloMosaic Idealize.ShloMosaic.TcCoe Idealize.SL.Sem

namespace Cert.LastIdeal.Topk

open Cert.LastIdeal Cert.LastIdeal.Gen Cert.TopkRank

/-- The greatest entry of each row. -/
def top (x : FVec Ideal S64x64 .f32) : FVec Ideal S64 .f32 :=
  multiReduction .maximumf [1] S64 x 0xFF800000#32 reduces_S64x64_S64 (.inl rfl) rfl

/-- The column number of each row's first greatest entry. -/
def pick (x : FVec Ideal S64x64 .f32) : IVec S64 32 :=
  multiReductionI .minsi [1] S64
    (select (cmpf .oge x (broadcastTo S64x64 (shapeCast S64x1 (top x) shapeCasts_S64_S64x1) broadcasts_S64x1_S64x64))
      (iota .tc S64x64 32 [1] iota_S64x64_d1_w32) (broadcast S64x64 64#32))
    2147483647#32 reduces_S64x64_S64 rfl

/-- A round: each row's first greatest entry put at −∞. -/
def round (x : FVec Ideal S64x64 .f32) : FVec Ideal S64x64 .f32 :=
  select (cmpi .eq (iota .tc S64x64 32 [1] iota_S64x64_d1_w32)
      (broadcastTo S64x64 (shapeCast S64x1 (pick x) shapeCasts_S64_S64x1) broadcasts_S64x1_S64x64))
    (broadcast S64x64 (Named.named (F := Ideal) κ "low" 0xFF61B1E6#32)) x

theorem minus_inf : Ideal.ofBits .f32 0xFF800000#32 = ⊥ := by
  simp [Ideal.ofBits, Ideal.ieee]

theorem low_eq : Named.named (F := Ideal) (φ := .f32) κ "low" 0xFF61B1E6#32 = (⊥ : EReal) :=
  IdealRules.named_const.ideal_named_scalar _ _ _ _ rfl

theorem neg_eq : Named.named (F := Ideal) (φ := .f32) κ "neg" 0xF149F2CA#32 = (⊥ : EReal) :=
  IdealRules.named_const.ideal_named_scalar _ _ _ _ rfl

theorem top_read (x : FVec Ideal S64x64 .f32) (i : Fin 64) :
    top x (ix1 i) = (Finset.univ : Finset (Fin 64)).fold max ⊥ fun k => x (ix2 i k) := by
  pointwise [top]
  rw [minus_inf]

theorem pick_read (x : FVec Ideal S64x64 .f32) (i : Fin 64) :
    pick x (ix1 i) = (Finset.univ : Finset (Fin 64)).fold IntOp.minsi 2147483647#32
      fun k => if top x (ix1 i) ≤ x (ix2 i k) then BitVec.ofNat 32 k.val else 64#32 := by
  pointwise [pick]

theorem round_read (x : FVec Ideal S64x64 .f32) (i j : Fin 64) :
    round x (ix2 i j) = if BitVec.ofNat 32 j.val = pick x (ix1 i) then (⊥ : EReal) else x (ix2 i j) := by
  pointwise [round]
  rw [low_eq]
  unfold IntOp.cmpi Scalar.select
  by_cases h : BitVec.ofNat 32 j.val = pick x (ix1 i)
  · rw [if_pos h, h]
    simp
  · rw [if_neg h, beq_eq_false_iff_ne.mpr h]
    rfl

theorem word_inj {a b : Fin 64} (h : BitVec.ofNat 32 a.val = BitVec.ofNat 32 b.val) : a = b := by
  have h := congrArg BitVec.toNat h
  rw [BitVec.toNat_ofNat, BitVec.toNat_ofNat] at h
  have := a.isLt
  have := b.isLt
  exact Fin.ext (by omega)

theorem word_int (a : Fin 64) : (BitVec.ofNat 32 a.val).toInt = a.val := by
  revert a
  decide

/-- The picked column holds a greatest entry of its row. -/
theorem pick_spec (x : FVec Ideal S64x64 .f32) (i : Fin 64) :
    ∃ a : Fin 64, pick x (ix1 i) = BitVec.ofNat 32 a.val ∧ ∀ j, x (ix2 i j) ≤ x (ix2 i a) := by
  obtain ⟨b, hb⟩ := Finite.exists_max fun j : Fin 64 => (x (ix2 i j) : EReal)
  have ht : top x (ix1 i) = x (ix2 i b) := (top_read x i).trans (fold_max hb)
  obtain ⟨hor, hle⟩ := fold_minsi 2147483647#32 (fun k : Fin 64 => if top x (ix1 i) ≤ x (ix2 i k) then BitVec.ofNat 32 k.val else 64#32) Finset.univ
  rw [← pick_read] at hor hle
  have hlt : (pick x (ix1 i)).toInt < 64 := by
    have h := hle b (Finset.mem_univ b)
    rw [if_pos (le_of_eq ht), word_int] at h
    have := b.isLt
    omega
  rcases hor with h | ⟨k, _, h⟩
  · rw [h] at hlt
    exact absurd hlt (by decide)
  · by_cases hc : top x (ix1 i) ≤ x (ix2 i k)
    · rw [if_pos hc] at h
      exact ⟨k, h, fun j => (hb j).trans (le_of_eq_of_le ht.symm hc)⟩
    · rw [if_neg hc] at h
      rw [h] at hlt
      exact absurd hlt (by decide)

/-- A round moves the positions of a row by one. -/
theorem round_nth (x : FVec Ideal S64x64 .f32) (i : Fin 64) {k : Nat} (hk : k + 1 < 64) {v : EReal}
    (hv : Nth (fun j => round x (ix2 i j)) k v) : Nth (fun j : Fin 64 => x (ix2 i j)) (k + 1) v := by
  obtain ⟨a, ha, hmax⟩ := pick_spec x i
  refine nth_succ (f := fun j : Fin 64 => x (ix2 i j)) hmax hk ?_
  have e : (fun j => round x (ix2 i j)) = fun j : Fin 64 => if j = a then (⊥ : EReal) else x (ix2 i j) := by
    funext j
    rw [round_read, ha]
    by_cases h : j = a
    · rw [h, if_pos rfl, if_pos rfl]
    · rw [if_neg h, if_neg fun h' => h (word_inj h')]
  rwa [e] at hv

theorem top_nth (x : FVec Ideal S64x64 .f32) (i : Fin 64) : Nth (fun j : Fin 64 => x (ix2 i j)) 0 (top x (ix1 i)) := by
  obtain ⟨b, hb⟩ := Finite.exists_max fun j : Fin 64 => (x (ix2 i j) : EReal)
  rw [top_read, fold_max hb]
  exact nth_zero hb

/-- The greatest entry after nine rounds: the tenth largest of the row. -/
def tenth (x : FVec Ideal S64x64 .f32) : FVec Ideal S64 .f32 :=
  top (round (round (round (round (round (round (round (round (round x)))))))))

theorem tenth_nth (x : FVec Ideal S64x64 .f32) (i : Fin 64) : Nth (fun j : Fin 64 => x (ix2 i j)) 9 (tenth x (ix1 i)) := by
  iterate 9 refine round_nth _ i (by decide) ?_
  exact top_nth _ i

/-- The kernel's first result, of the masked scores. -/
theorem threshold (x : FVec Ideal S64x64 .f32) (y : IVec S1x64 32) :
    k0_pay8 (F := Ideal) (k0_pay3 x y) (k0_pay10 (F := Ideal) x y) (k0_pay6 (k0_pay10 (F := Ideal) x y) (k0_pay4 x y) (k0_pay5 (F := Ideal) x y)) (k0_pay7 (F := Ideal) (k0_pay10 (F := Ideal) x y) (k0_pay4 x y) (k0_pay5 (F := Ideal) x y))
    = maximumf (subf (k0_pay3 (F := Ideal) x y) (broadcastTo S64x64 (shapeCast S64x1 (addf (tenth (k0_pay3 (F := Ideal) x y))
        (broadcast S64 (Scalar.ofBits (F := Ideal) .f32 0x33D6BF95#32))) shapeCasts_S64_S64x1) broadcasts_S64x1_S64x64)) (broadcast S64x64 (Scalar.ofBits (F := Ideal) .f32 0x00000000#32)) := rfl

/-- Under a mask of ones the scores stay. -/
theorem masked (x : FVec Ideal S64x64 .f32) : k0_pay3 (F := Ideal) x (fun _ => 1#32) = x := by
  funext j
  idx_vars j
  pointwise [k0_pay3, k0_pay1, k0_pay2]
  rfl

/-- The sorted row's entry at position `k`. -/
theorem slot_nth (x : FVec Ideal S64x64 .f32) (h : S64x64.Slices (fun _ => 0) Cert.LastRefIdeal.S64x10) (i : Fin 64) (k : Fin 10) :
    Nth (fun j : Fin 64 => x (ix2 i j)) k.val
      ((Host.topK Cert.LastRefIdeal.S64x10 1 (FloatOps.cmpfTotal (F := Ideal) (φ := .f32) .gt) x h).1 (ix2 i k)) := by
  have hk : k.val < 64 := by have := k.isLt; omega
  have hal (q p : Fin 64) : Shape.Idx.along (s := S64x64) (ix2 i q) (1 : Fin 2) p = ix2 i p := by
    funext a
    match a with
    | ⟨0, _⟩ => rfl
    | ⟨1, _⟩ => rfl
  have hstart (y : FVec Ideal S64x64 .f32) : extractStridedSlice Cert.LastRefIdeal.S64x10 (fun _ => 0) y h (ix2 i k) = y (ix2 i (⟨k.val, hk⟩ : Fin 64)) := by
    refine congrArg y (funext fun a => ?_)
    match a with
    | ⟨0, _⟩ => exact Fin.ext (Nat.zero_add _)
    | ⟨1, _⟩ => exact Fin.ext (Nat.zero_add _)
  have e : (Host.topK Cert.LastRefIdeal.S64x10 1 (FloatOps.cmpfTotal (F := Ideal) (φ := .f32) .gt) x h).1 (ix2 i k)
      = x (ix2 i (sortedFrom (fun a b : Fin 64 => Ideal.cmp .ogt (x (ix2 i a)) (x (ix2 i b)) == 1#1) ⟨k.val, hk⟩)) := by
    unfold Host.topK
    dsimp only
    rw [hstart]
    show x (Shape.Idx.along (s := S64x64) (ix2 i ⟨k.val, hk⟩) (1 : Fin 2) (sortedFrom (fun a b : Fin 64 =>
      Ideal.cmp .ogt (x (Shape.Idx.along (s := S64x64) (ix2 i ⟨k.val, hk⟩) (1 : Fin 2) a)) (x (Shape.Idx.along (s := S64x64) (ix2 i ⟨k.val, hk⟩) (1 : Fin 2) b)) == 1#1) ⟨k.val, hk⟩)) = _
    simp only [hal]
    exact congrArg x (hal _ _)
  rw [e]
  have hg (a b : Fin 64) : (Ideal.cmp .ogt (x (ix2 i a)) (x (ix2 i b)) == 1#1) = decide ((x (ix2 i b) : EReal) < x (ix2 i a)) := by
    unfold Ideal.cmp
    by_cases h : (x (ix2 i b) : EReal) < x (ix2 i a) <;> simp [h]
  simp only [hg]
  refine nth_sorted (f := fun j : Fin 64 => x (ix2 i j)) (sortedFrom_injective _) (sortedFrom_surjective _) (fun a b hab => ?_) ⟨k.val, hk⟩
  have hs := sortedFrom_noInversion (fun a b : Fin 64 => decide ((x (ix2 i b) : EReal) < x (ix2 i a))) (fun a b : Fin 64 => decide ((x (ix2 i b) : EReal) < x (ix2 i a)))
    (fun a b h => decide_eq_false (not_lt.mpr (le_of_lt (of_decide_eq_true h)))) (fun a b h => h)
    (fun a b c h h' => decide_eq_false (not_lt.mpr ((not_lt.mp (of_decide_eq_false h)).trans (not_lt.mp (of_decide_eq_false h'))))) a b hab
  exact not_lt.mp (of_decide_eq_false hs)

/-- The reference's tenth slot is the kernel's value after nine rounds. -/
theorem tenth_eq (x : FVec Ideal S64x64 .f32) (h : S64x64.Slices (fun _ => 0) Cert.LastRefIdeal.S64x10) (i : Fin 64) :
    tenth x (ix1 i) = (Host.topK Cert.LastRefIdeal.S64x10 1 (FloatOps.cmpfTotal (F := Ideal) (φ := .f32) .gt) x h).1 (ix2 i (9 : Fin 10)) :=
  (tenth_nth x i).unique (slot_nth x h i 9)

end Cert.LastIdeal.Topk

end
-- ==== Proof.LastRun.lean ====
module

public import proofs.«01_k».proof.Proof.Gen.LastIdeal.Frame

@[expose] public section

set_option maxRecDepth 16384

noncomputable section

namespace Cert.LastIdeal.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LastIdeal Cert.LastIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions
set_option backward.isDefEq.respectTransparency.types false in
/-- Every buffer outside the kernels' own ends at the contents after the last stretch of host operations. -/
theorem run : θ_run defs (onTc (τ := τ) (main (F := F))) ⟨m, fun _ => 0, ρ⟩
    fun r => ∀ c : Dev nD, ∀ b ∈ Pipeline.ucRefs τ sig, r.2.mem (((c : Thread nD τ)).1, b) = W5 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.LastIdeal.Held

end
-- ==== Proof.CellSpec.lean ====
/-
  One step of the cell after the attention, on the extended reals, stated once for every number of history rows.
  `k…` are the kernel's vector expressions over the attention sum `A`, `r…` the reference's; the lemmas say that they are
  equal as functions, and `tree` is the order in which the kernel adds the eight rows of a chunk.
-/
module

public import proofs.«01_k».proof.Proof.Gen.Step64Ideal.Skeleton
public import proofs.«01_k».proof.Proof.Gen.Step64RefIdeal.Run
public import Idealize.ShloMosaic.Lib.Pointwise

@[expose] public section

set_option maxRecDepth 16384

noncomputable section

open Idealize.ShloMosaic Idealize.ShloMosaic.TcCoe Idealize.SL.Sem

namespace Cert.CellSpec

open Cert.Step64Ideal Cert.Step64Ideal.Gen

/-- The gates as the kernel computes them from the new hidden state. -/
def kGates (hn : FVec Ideal S64x512 .f32) (xw : FVec Ideal S64x2048 .f32) (w : FVec Ideal S512x2048 .f32) (b : FVec Ideal S1x2048 .f32) :
    FVec Ideal S64x2048 .f32 :=
  addf (addf xw (matmul dot_S64x512_S512x2048_S64x2048_1_0_0_1_n_n none hn
      (shapeCast S512x2048 w shapeCasts_S512x2048_S512x2048) (constant S64x2048 .f32 0x00000000#32)))
    (broadcastTo S64x2048 (shapeCast S1x2048 b shapeCasts_S1x2048_S1x2048) broadcasts_S1x2048_S64x2048)

/-- The next cell state as the kernel computes it from the gates. -/
def kCell (g : FVec Ideal S64x2048 .f32) (c : FVec Ideal S64x512 .f32) : FVec Ideal S64x512 .f32 :=
  addf (mulf (logistic (extractStridedSlice S64x512 ![0, 512] g slices_S64x2048_o0_512_S64x512)) c)
    (mulf (logistic (extractStridedSlice S64x512 ![0, 0] g slices_S64x2048_o0_0_S64x512))
      (tanh (extractStridedSlice S64x512 ![0, 1024] g slices_S64x2048_o0_1024_S64x512)))

/-- The next hidden state as the kernel computes it from the gates. -/
def kHidden (g : FVec Ideal S64x2048 .f32) (c : FVec Ideal S64x512 .f32) : FVec Ideal S64x512 .f32 :=
  mulf (logistic (extractStridedSlice S64x512 ![0, 1536] g slices_S64x2048_o0_1536_S64x512)) (tanh (kCell g c))

/-- The reference's gates. -/
def rGates (hn : FVec Ideal S64x512 .f32) (xw : FVec Ideal S64x2048 .f32) (W : FVec Ideal S2048x512 .f32) (b : FVec Ideal S2048 .f32) :
    FVec Ideal S64x2048 .f32 :=
  addf (addf xw (Host.dotGeneral Cert.Step64RefIdeal.dot_S64x512_S512x2048_S64x2048_1_0_0_1_n_n none hn
      (transpose S512x2048 [1, 0] W Cert.Step64RefIdeal.Gen.transposes_S2048x512_S512x2048_1_0)))
    (broadcastInDim S64x2048 ![0, 1] Cert.Step64RefIdeal.Gen.bcast_S1x2048_S64x2048_0_1
      (broadcastInDim S1x2048 ![1] Cert.Step64RefIdeal.Gen.bcast_S2048_S1x2048_1 b))

/-- The reference's sigmoid, `1 / (1 + exp (-x))`. -/
def rSigmoid (x : FVec Ideal S64x512 .f32) : FVec Ideal S64x512 .f32 :=
  Host.divf (broadcastInDim S64x512 ![] Cert.Step64RefIdeal.Gen.bcast_S_S64x512 (constant Cert.Step64RefIdeal.S_ .f32 0x3F800000#32))
    (addf (broadcastInDim S64x512 ![] Cert.Step64RefIdeal.Gen.bcast_S_S64x512 (constant Cert.Step64RefIdeal.S_ .f32 0x3F800000#32))
      (Host.exp (Host.negf x)))

/-- The reference's next cell state. -/
def rCell (g : FVec Ideal S64x2048 .f32) (c : FVec Ideal S64x512 .f32) : FVec Ideal S64x512 .f32 :=
  addf (mulf (rSigmoid (extractStridedSlice S64x512 ![0, 512] g Cert.Step64RefIdeal.Gen.slices_S64x2048_S64x512_0_512)) c)
    (mulf (rSigmoid (extractStridedSlice S64x512 ![0, 0] g Cert.Step64RefIdeal.Gen.slices_S64x2048_S64x512_0_0))
      (Host.tanh (extractStridedSlice S64x512 ![0, 1024] g Cert.Step64RefIdeal.Gen.slices_S64x2048_S64x512_0_1024)))

/-- The reference's next hidden state. -/
def rHidden (g : FVec Ideal S64x2048 .f32) (c : FVec Ideal S64x512 .f32) : FVec Ideal S64x512 .f32 :=
  mulf (rSigmoid (extractStridedSlice S64x512 ![0, 1536] g Cert.Step64RefIdeal.Gen.slices_S64x2048_S64x512_0_1536)) (Host.tanh (rCell g c))

/-- The gates agree: `W_hh` transposed and the bias as a row are what the kernel is given. -/
theorem gates_eq (hn : FVec Ideal S64x512 .f32) (xw : FVec Ideal S64x2048 .f32) (W : FVec Ideal S2048x512 .f32) (b : FVec Ideal S2048 .f32) :
    kGates hn xw (transpose S512x2048 [1, 0] W transposes_S2048x512_S512x2048_1_0)
      (broadcastInDim S1x2048 ![1] bcast_S2048_S1x2048_1 b) = rGates hn xw W b := by
  funext j
  idx_vars j
  pointwise! [kGates, rGates]

/-- `tpu.logistic` is the reference's sigmoid. -/
theorem sigmoid_eq (x : FVec Ideal S64x512 .f32) : logistic x = rSigmoid x := by
  funext j
  idx_vars j
  pointwise [rSigmoid]
  rfl

theorem tanh_eq (x : FVec Ideal S64x512 .f32) : tanh x = Host.tanh x := by
  funext j
  idx_vars j
  pointwise

theorem cell_eq (g : FVec Ideal S64x2048 .f32) (c : FVec Ideal S64x512 .f32) : kCell g c = rCell g c := by
  unfold kCell rCell
  simp only [sigmoid_eq, tanh_eq]

theorem hidden_eq (g : FVec Ideal S64x2048 .f32) (c : FVec Ideal S64x512 .f32) : kHidden g c = rHidden g c := by
  unfold kHidden rHidden
  simp only [sigmoid_eq, tanh_eq, cell_eq]

/-- The reference's next hidden state, of the attention sum `A` and the arguments of a step. -/
def stepHidden (A h c : FVec Ideal S64x512 .f32) (xw : FVec Ideal S64x2048 .f32) (W : FVec Ideal S2048x512 .f32) (b : FVec Ideal S2048 .f32) :
    FVec Ideal S64x512 .f32 :=
  rHidden (rGates (addf h A) xw W b) c

/-- The reference's next cell state, of the attention sum `A` and the arguments of a step. -/
def stepCell (A h c : FVec Ideal S64x512 .f32) (xw : FVec Ideal S64x2048 .f32) (W : FVec Ideal S2048x512 .f32) (b : FVec Ideal S2048 .f32) :
    FVec Ideal S64x512 .f32 :=
  rCell (rGates (addf h A) xw W b) c

theorem step_hidden (A h c : FVec Ideal S64x512 .f32) (xw : FVec Ideal S64x2048 .f32) (W : FVec Ideal S2048x512 .f32) (b : FVec Ideal S2048 .f32) :
    kHidden (kGates (addf h A) xw (transpose S512x2048 [1, 0] W transposes_S2048x512_S512x2048_1_0)
      (broadcastInDim S1x2048 ![1] bcast_S2048_S1x2048_1 b)) c = stepHidden A h c xw W b := by
  rw [gates_eq, hidden_eq, stepHidden]

theorem step_cell (A h c : FVec Ideal S64x512 .f32) (xw : FVec Ideal S64x2048 .f32) (W : FVec Ideal S2048x512 .f32) (b : FVec Ideal S2048 .f32) :
    kCell (kGates (addf h A) xw (transpose S512x2048 [1, 0] W transposes_S2048x512_S512x2048_1_0)
      (broadcastInDim S1x2048 ![1] bcast_S2048_S1x2048_1 b)) c = stepCell A h c xw W b := by
  rw [gates_eq, cell_eq, stepCell]

/-- The order in which the kernel adds the eight rows of its accumulator. -/
def tree (g : Fin 8 → EReal) : EReal := g 0 + g 4 + (g 2 + g 6) + (g 1 + g 5 + (g 3 + g 7))

theorem tree_eq (g : Fin 8 → EReal) : tree g = ∑ r, g r := by
  unfold tree
  rw [Fin.sum_univ_eight]
  ac_rfl

/-- Chunk by chunk, then over the eight rows: the sum over all `n * 8` rows. -/
theorem sum_chunks (n : ℕ) (f : Fin (n * 8) → EReal) :
    ∑ k, f k = tree fun r => ∑ q : Fin n, f ⟨q * 8 + r, by omega⟩ := by
  rw [tree_eq, Finset.sum_comm]
  exact Fin.sum_univ_tiles n 8 rfl f

end Cert.CellSpec

end
-- ==== Proof.Step64Value.lean ====
module

public import proofs.«01_k».proof.Defs
public import proofs.«01_k».proof.Proof.Gen.Step64Ideal.Frame
public import proofs.«01_k».proof.Proof.Gen.Step64RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Step64Ideal.RefValue

open Cert.Step64Ideal Cert.Step64Ideal.Gen Cert.CellSpec

variable (m : (ℓ : Loc nD τ sig) → Buf (Elt Ideal) ℓ) (ρ : Dev nD → PrngReg)

/-- The reference's attention sum. -/
def attn (w : FVec Ideal S64x64 .f32) (s : FVec Ideal S64x64x512 .f32) : FVec Ideal S64x512 .f32 :=
  Host.reduceAdd (mulf (broadcastInDim S64x64x512 ![0, 1, 2] Cert.Step64RefIdeal.Gen.bcast_S64x64x1_S64x64x512_0_1_2 (broadcastInDim Cert.Step64RefIdeal.S64x64x1 ![0, 1] Cert.Step64RefIdeal.Gen.bcast_S64x64_S64x64x1_0_1 w)) s) (constant Cert.Step64RefIdeal.S_ .f32 0x00000000#32) Cert.Step64RefIdeal.Gen.reducesTo_S64x64x512_S64x512_d0 Cert.Step64RefIdeal.Gen.h_S_

variable (x0 : FVec Ideal S64x64 .f32) (x1 : FVec Ideal S64x64x512 .f32) (x2 x3 : FVec Ideal S64x512 .f32) (x4 : FVec Ideal S64x2048 .f32) (x5 : FVec Ideal S512x2048 .f32) (x6 : FVec Ideal S1x2048 .f32)

/-- The attention sum the body stores is the reference's. -/
theorem out_attn : out0_8 (F := Ideal) x0 x1 x2 x3 x4 x5 x6 = attn x0 x1 := by
  funext j
  idx_vars j
  frame_out [k0_pay9, k0_pay10]
  pointwise [k0_pay4, k0_pay5, k0_pay6, attn]
  rw [sum_chunks 8]
  simp only [tree, Fin.sum_univ_eight]
  rfl

theorem out_new : out0_7 (F := Ideal) x0 x1 x2 x3 x4 x5 x6 = addf x2 (out0_8 (F := Ideal) x0 x1 x2 x3 x4 x5 x6) := by
  frame_out
  rfl

theorem out_hidden : out0_9 (F := Ideal) x0 x1 x2 x3 x4 x5 x6 = kHidden (kGates (out0_7 (F := Ideal) x0 x1 x2 x3 x4 x5 x6) x4 x5 x6) x3 := by
  frame_out [k0_pay11, k0_pay9, k0_pay10]
  rfl

theorem out_cell : out0_10 (F := Ideal) x0 x1 x2 x3 x4 x5 x6 = kCell (kGates (out0_7 (F := Ideal) x0 x1 x2 x3 x4 x5 x6) x4 x5 x6) x3 := by
  frame_out [k0_pay11, k0_pay9, k0_pay10]
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The new hidden state and the gates over it, of the arguments. -/
def hnew (c : Dev nD) : FVec Ideal S64x512 .f32 :=
  addf (m ((c : Thread nD τ).loc main_arg2)) (attn (m ((c : Thread nD τ).loc main_arg0)) (m ((c : Thread nD τ).loc main_arg1)))

def gates (c : Dev nD) : FVec Ideal S64x2048 .f32 :=
  rGates (hnew m c) (m ((c : Thread nD τ).loc main_arg4)) (m ((c : Thread nD τ).loc main_arg5)) (m ((c : Thread nD τ).loc main_arg6))

theorem final8 (c : Dev nD) : (dats m 0 c).arrAt 8 (cfgs 0).N = attn (m ((c : Thread nD τ).loc main_arg0)) (m ((c : Thread nD τ).loc main_arg1)) := by
  refine (dats m 0 c).arrAt_eq_of_after_last 8 t0_0 (by decide +kernel) _ fun j => ?_
  blk_simp
  rw [after0_8, out_attn, (block m c).1, (block m c).2.1]

theorem new_eq (c : Dev nD) : out0_7 (F := Ideal) (iblk m c 0 t0_0) (iblk m c 1 t0_0) (iblk m c 2 t0_0) (iblk m c 3 t0_0) (iblk m c 4 t0_0) (iblk m c 5 t0_0) (iblk m c 6 t0_0)
    = hnew m c := by
  rw [out_new, out_attn, (block m c).1, (block m c).2.1, (block m c).2.2.1, hnew]

theorem gates_val (c : Dev nD) : kGates (hnew m c) (iblk m c 4 t0_0) (iblk m c 5 t0_0) (iblk m c 6 t0_0) = gates m c := by
  rw [(block m c).2.2.2.2.1, (block m c).2.2.2.2.2.1, (block m c).2.2.2.2.2.2, gates]
  exact gates_eq _ _ _ _

theorem final7 (c : Dev nD) : (dats m 0 c).arrAt 7 (cfgs 0).N = hnew m c := by
  refine (dats m 0 c).arrAt_eq_of_after_last 7 t0_0 (by decide +kernel) _ fun j => ?_
  blk_simp
  rw [after0_7, new_eq]

theorem final9 (c : Dev nD) : (dats m 0 c).arrAt 9 (cfgs 0).N = rHidden (gates m c) (m ((c : Thread nD τ).loc main_arg3)) := by
  refine (dats m 0 c).arrAt_eq_of_after_last 9 t0_0 (by decide +kernel) _ fun j => ?_
  blk_simp
  rw [after0_9, out_hidden, new_eq, gates_val, (block m c).2.2.2.1, hidden_eq]

theorem final10 (c : Dev nD) : (dats m 0 c).arrAt 10 (cfgs 0).N = rCell (gates m c) (m ((c : Thread nD τ).loc main_arg3)) := by
  refine (dats m 0 c).arrAt_eq_of_after_last 10 t0_0 (by decide +kernel) _ fun j => ?_
  blk_simp
  rw [after0_10, out_cell, new_eq, gates_val, (block m c).2.2.2.1, cell_eq]

/-- The run: the four results at the reference's values of the arguments, which it leaves unchanged. -/
theorem run : θ_run defs (onTc (τ := τ) (main (F := Ideal))) ⟨m, fun _ => 0, ρ⟩ fun r => ∀ c : Dev nD,
      r.2.mem ((c : Thread nD τ).loc main_v2_0) = hnew m c
      ∧ r.2.mem ((c : Thread nD τ).loc main_v2_1) = attn (m ((c : Thread nD τ).loc main_arg0)) (m ((c : Thread nD τ).loc main_arg1))
      ∧ r.2.mem ((c : Thread nD τ).loc main_v2_2) = rHidden (gates m c) (m ((c : Thread nD τ).loc main_arg3))
      ∧ r.2.mem ((c : Thread nD τ).loc main_v2_3) = rCell (gates m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  run_from Cert.Step64Ideal.Gen.run_main m ρ
  exacts [final7 m _, final8 m _, final9 m _, final10 m _]

theorem algebraic : Cert.algebraic_Step64Ideal_Step64RefIdeal := by
  refine fun m ρ m' ρ' _ hag => ⟨_, _, _, _, run m ρ, (θ_run _ _ _).mono (fun _ h c => ?_) (Cert.Step64RefIdeal.Value.run m' ρ')⟩
  obtain ⟨a0, a1, a2, a3, a4, a5, a6⟩ := hag c
  obtain ⟨h7, h8, h9, h10, hk⟩ := h c
  refine ⟨h7.trans ?_, h8.trans ?_, h9.trans ?_, h10.trans ?_, hk⟩
  · rw [a0, a1, a2]; rfl
  · rw [a0, a1]; rfl
  · rw [a0, a1, a2, a3, a4, a5, a6]; rfl
  · rw [a0, a1, a2, a3, a4, a5, a6]; rfl

/-- The reference declares no semaphore and leaves its arguments unchanged. -/
theorem ref_frame : Cert.quiescent_Step64RefIdeal := fun m ρ _ =>
  (θ_run _ _ _).mono (fun r h => ⟨fun c => (h c).2.2.2.2, sem_eq_zero_of_no_sems (by decide) r.2⟩) (Cert.Step64RefIdeal.Value.run m ρ)

end Cert.Step64Ideal.RefValue

end
-- ==== Proof.LastStep.lean ====
module

public import proofs.«01_k».proof.Proof.Gen.LastIdeal.Frame
public import proofs.«01_k».proof.Proof.Step64Value
public import Idealize.ShloMosaic.Lib.Pipeline.ValueKit

@[expose] public section

set_option maxRecDepth 16384

noncomputable section

open Idealize.ShloMosaic Idealize.ShloMosaic.TcCoe Idealize.SL.Sem

namespace Cert.LastIdeal.Step

open Cert.LastIdeal Cert.LastIdeal.Gen Cert.CellSpec
open Cert.Step64Ideal.RefValue (attn)

variable (x0 : FVec Ideal S64x64 .f32) (x1 : FVec Ideal S64x64x512 .f32) (x2 x3 : FVec Ideal S64x512 .f32) (x4 : FVec Ideal S64x2048 .f32) (x5 : FVec Ideal S512x2048 .f32) (x6 : FVec Ideal S1x2048 .f32)

/-- The attention sum the body stores, over all 64 rows of the history. -/
theorem out_attn : out1_8 (F := Ideal) x0 x1 x2 x3 x4 x5 x6 = attn x0 x1 := by
  funext j
  idx_vars j
  frame_out [k1_pay8, k1_pay9]
  pointwise [k1_pay4, k1_pay5, k1_pay6, attn]
  rw [sum_chunks 8]
  simp only [tree, Fin.sum_univ_eight]
  rfl

theorem out_new : out1_7 (F := Ideal) x0 x1 x2 x3 x4 x5 x6 = addf x2 (out1_8 (F := Ideal) x0 x1 x2 x3 x4 x5 x6) := by
  frame_out [k1_pay10]
  rfl

theorem out_hidden : out1_9 (F := Ideal) x0 x1 x2 x3 x4 x5 x6 = kHidden (kGates (out1_7 (F := Ideal) x0 x1 x2 x3 x4 x5 x6) x4 x5 x6) x3 := by
  frame_out [k1_pay10, k1_pay8, k1_pay9]
  rfl

theorem out_cell : out1_10 (F := Ideal) x0 x1 x2 x3 x4 x5 x6 = kCell (kGates (out1_7 (F := Ideal) x0 x1 x2 x3 x4 x5 x6) x4 x5 x6) x3 := by
  frame_out [k1_pay10, k1_pay8, k1_pay9]
  rfl

end Cert.LastIdeal.Step

end
-- ==== Proof.LastValue.lean ====
module

public import proofs.«01_k».proof.Defs
public import proofs.«01_k».proof.Proof.LastTopk
public import proofs.«01_k».proof.Proof.LastRun
public import proofs.«01_k».proof.Proof.LastStep
public import proofs.«01_k».proof.Proof.Gen.LastRefIdeal.Read
public import Idealize.ShloMosaic.Lib.StableHlo.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LastIdeal.RefValue

open Cert.LastIdeal Cert.LastIdeal.Gen Cert.LastIdeal.Topk Cert.CellSpec Cert.LastRefIdeal.Read

variable (m : (ℓ : Loc nD τ sig) → Buf (Elt Ideal) ℓ) (ρ : Dev nD → PrngReg)

/-! ## The reference's values -/

/-- The scores, the thresholded scores and the attention weights. -/
def score (c : Dev nD) : FVec Ideal S64x64 .f32 :=
  val_main_v6 (F := Ideal) (m ((c : Thread nD τ).loc main_arg0)) (m ((c : Thread nD τ).loc main_arg1)) (m ((c : Thread nD τ).loc main_arg6))
def thr (c : Dev nD) : FVec Ideal S64x64 .f32 :=
  val_main_v15 (F := Ideal) (m ((c : Thread nD τ).loc main_arg0)) (m ((c : Thread nD τ).loc main_arg1)) (m ((c : Thread nD τ).loc main_arg6))
def weight (c : Dev nD) : FVec Ideal S64x64 .f32 :=
  val_main_v21 (F := Ideal) (m ((c : Thread nD τ).loc main_arg0)) (m ((c : Thread nD τ).loc main_arg1)) (m ((c : Thread nD τ).loc main_arg6))

/-! ## Region 0: the thresholded scores -/

theorem entry0 (c : Dev nD) : V1 m ρ c main_v8 = score m c := by
  show StableHlo.after hostOps0 (W0 m ρ c) (Proc.devRef .tc main_v8) = _
  after_results_simp
  rfl

theorem entry0_mask (c : Dev nD) : V1 m ρ c main_c = fun _ => 1#32 := by
  show StableHlo.after hostOps0 (W0 m ρ c) (Proc.devRef .tc main_c) = _
  after_results_simp
  rfl

/-- The kernel's thresholded scores, of the scores `x` under the mask of ones. -/
theorem thr_body (x : FVec Ideal S64x64 .f32) : out0_2 (F := Ideal) x (fun _ => 1#32)
    = maximumf (subf x (broadcastTo S64x64 (shapeCast S64x1 (addf (tenth x)
        (broadcast S64 (Scalar.ofBits (F := Ideal) .f32 0x33D6BF95#32))) shapeCasts_S64_S64x1) broadcasts_S64x1_S64x64)) (broadcast S64x64 (Scalar.ofBits (F := Ideal) .f32 0x00000000#32)) := by
  have h := threshold x (fun _ => 1#32)
  rw [masked] at h
  rw [← h]
  frame_out [k0_pay11, k0_pay12]
  rw [masked]

theorem thr_val (c : Dev nD) : maximumf (subf (score m c) (broadcastTo S64x64 (shapeCast S64x1 (addf (tenth (score m c))
        (broadcast S64 (Scalar.ofBits (F := Ideal) .f32 0x33D6BF95#32))) shapeCasts_S64_S64x1) broadcasts_S64x1_S64x64)) (broadcast S64x64 (Scalar.ofBits (F := Ideal) .f32 0x00000000#32)) = thr m c := by
  funext j
  idx_vars j
  pointwise [thr, val_main_v15, val_main_v14, val_main_v13, val_main_v12, val_main_v11, val_main_v10, val_main_v9, val_main_v8, val_main_v7, val_main_values, val_main_cst, val_main_cst_0]
  rw [tenth_eq _ Cert.LastRefIdeal.Gen.sliceFits_S64x64_S64x10]
  rfl

theorem idx0 : ∀ t : Fin cfg0.N, win0_0.index t = ![0, 0] ∧ win0_1.index t = ![0, 0] :=
  (by decide +kernel : ∀ t : Fin grid0.N, _)

theorem block0 (c : Dev nD) : iblk0 (V1 m ρ) c 0 t0_0 = V1 m ρ c main_v8 ∧ iblk0 (V1 m ρ) c 1 t0_0 = V1 m ρ c main_c := by
  refine ⟨?_, ?_⟩ <;> (funext j; blk_ext! [iblk0, idx0 t0_0])

/-- Region 0 leaves the thresholded scores. -/
theorem thr_final (c : Dev nD) : V2 m ρ c main_v9_0 = thr m c := by
  refine (W2_arr m ρ c 2).trans ?_
  refine (dat0 (V1 m ρ) c).arrAt_eq_of_after_last 2 t0_0 (by decide +kernel) _ fun j => ?_
  blk_simp
  rw [after0_2, (block0 m ρ c).1, (block0 m ρ c).2, entry0, entry0_mask]
  exact congrFun ((thr_body _).trans (thr_val m c)) j

/-! ## Between the regions -/

theorem weight_entry (c : Dev nD) : V3 m ρ c main_v15 = weight m c := by
  show StableHlo.after hostOps1 (W2 m ρ c) (Proc.devRef .tc main_v15) = _
  after_results_simp
  rw [show W2 m ρ c (Proc.devRef .tc main_v9_0) = thr m c from thr_final m ρ c]
  rfl

theorem weightT_entry (c : Dev nD) : V3 m ρ c main_v17 = transpose S64x64 [1, 0] (weight m c) transposes_S64x64_S64x64_1_0 := by
  rw [← weight_entry m ρ c]
  show StableHlo.after hostOps1 (W2 m ρ c) (Proc.devRef .tc main_v17) = transpose S64x64 [1, 0] (StableHlo.after hostOps1 (W2 m ρ c) (Proc.devRef .tc main_v15)) transposes_S64x64_S64x64_1_0
  after_results_simp

theorem history_entry (c : Dev nD) : V3 m ρ c main_v16 = transpose S64x64x512 [1, 0, 2] (m ((c : Thread nD τ).loc main_arg0)) transposes_S64x64x512_S64x64x512_1_0_2 := by
  rw [← W2_args m ρ c main_arg0 (by decide)]
  show StableHlo.after hostOps1 (W2 m ρ c) (Proc.devRef .tc main_v16) = _
  after_results_simp

theorem recurrent_entry (c : Dev nD) : V3 m ρ c main_v0 = transpose S512x2048 [1, 0] (m ((c : Thread nD τ).loc main_arg4)) transposes_S2048x512_S512x2048_1_0 := by
  refine (W3_of m ρ c main_v0 (by decide)).trans ((W2_of m ρ c main_v0 (by decide +kernel)).trans ?_)
  show StableHlo.after hostOps0 (W0 m ρ c) (Proc.devRef .tc main_v0) = _
  after_results_simp

theorem bias_entry (c : Dev nD) : V3 m ρ c main_v1 = broadcastInDim S1x2048 ![1] bcast_S2048_S1x2048_1 (m ((c : Thread nD τ).loc main_arg5)) := by
  refine (W3_of m ρ c main_v1 (by decide)).trans ((W2_of m ρ c main_v1 (by decide +kernel)).trans ?_)
  show StableHlo.after hostOps0 (W0 m ρ c) (Proc.devRef .tc main_v1) = _
  after_results_simp

/-! ## Region 1: the step -/

theorem idx1 : ∀ t : Fin cfg1.N, win1_0.index t = ![0, 0] ∧ win1_1.index t = ![0, 0, 0] ∧ win1_2.index t = ![0, 0] ∧ win1_3.index t = ![0, 0]
    ∧ win1_4.index t = ![0, 0] ∧ win1_5.index t = ![0, 0] ∧ win1_6.index t = ![0, 0] :=
  (by decide +kernel : ∀ t : Fin grid1.N, _)

theorem block1 (c : Dev nD) : iblk1 (V3 m ρ) c 0 t1_0 = V3 m ρ c main_v17 ∧ iblk1 (V3 m ρ) c 1 t1_0 = V3 m ρ c main_v16
    ∧ iblk1 (V3 m ρ) c 2 t1_0 = V3 m ρ c main_arg1 ∧ iblk1 (V3 m ρ) c 3 t1_0 = V3 m ρ c main_arg2
    ∧ iblk1 (V3 m ρ) c 4 t1_0 = V3 m ρ c main_arg3 ∧ iblk1 (V3 m ρ) c 5 t1_0 = V3 m ρ c main_v0 ∧ iblk1 (V3 m ρ) c 6 t1_0 = V3 m ρ c main_v1 := by
  refine ⟨?_, ?_, ?_, ?_, ?_, ?_, ?_⟩ <;> (funext j; blk_ext! [iblk1, idx1 t1_0])

/-- The attention sum, the new hidden state and the gates over it, of the arguments. -/
def attnc (c : Dev nD) : FVec Ideal S64x512 .f32 :=
  val_main_v25 (F := Ideal) (m ((c : Thread nD τ).loc main_arg0)) (m ((c : Thread nD τ).loc main_arg1)) (m ((c : Thread nD τ).loc main_arg6))
def hnew (c : Dev nD) : FVec Ideal S64x512 .f32 := addf (m ((c : Thread nD τ).loc main_arg1)) (attnc m c)
def gates (c : Dev nD) : FVec Ideal S64x2048 .f32 :=
  rGates (hnew m c) (m ((c : Thread nD τ).loc main_arg3)) (m ((c : Thread nD τ).loc main_arg4)) (m ((c : Thread nD τ).loc main_arg5))

/-- The sum over the transposed arrays is the reference's over its own. -/
theorem attn_transposed (c : Dev nD) : Cert.Step64Ideal.RefValue.attn (transpose S64x64 [1, 0] (weight m c) transposes_S64x64_S64x64_1_0)
    (transpose S64x64x512 [1, 0, 2] (m ((c : Thread nD τ).loc main_arg0)) transposes_S64x64x512_S64x64x512_1_0_2) = attnc m c := by
  funext j
  idx_vars j
  pointwise [Cert.Step64Ideal.RefValue.attn, attnc, val_main_v25, val_main_v24, val_main_v23, val_main_v22, val_main_cst_3]
  rfl

theorem attn_val (c : Dev nD) : out1_8 (F := Ideal) (iblk1 (V3 m ρ) c 0 t1_0) (iblk1 (V3 m ρ) c 1 t1_0) (iblk1 (V3 m ρ) c 2 t1_0) (iblk1 (V3 m ρ) c 3 t1_0) (iblk1 (V3 m ρ) c 4 t1_0) (iblk1 (V3 m ρ) c 5 t1_0) (iblk1 (V3 m ρ) c 6 t1_0)
    = attnc m c := by
  rw [Step.out_attn, (block1 m ρ c).1, (block1 m ρ c).2.1, weightT_entry, history_entry, attn_transposed]

theorem new_val (c : Dev nD) : out1_7 (F := Ideal) (iblk1 (V3 m ρ) c 0 t1_0) (iblk1 (V3 m ρ) c 1 t1_0) (iblk1 (V3 m ρ) c 2 t1_0) (iblk1 (V3 m ρ) c 3 t1_0) (iblk1 (V3 m ρ) c 4 t1_0) (iblk1 (V3 m ρ) c 5 t1_0) (iblk1 (V3 m ρ) c 6 t1_0)
    = hnew m c := by
  rw [Step.out_new, attn_val, (block1 m ρ c).2.2.1, show V3 m ρ c main_arg1 = _ from W3_args m ρ c main_arg1 (by decide), hnew]

theorem gates_val (c : Dev nD) : kGates (hnew m c) (iblk1 (V3 m ρ) c 4 t1_0) (iblk1 (V3 m ρ) c 5 t1_0) (iblk1 (V3 m ρ) c 6 t1_0) = gates m c := by
  rw [(block1 m ρ c).2.2.2.2.1, (block1 m ρ c).2.2.2.2.2.1, (block1 m ρ c).2.2.2.2.2.2, recurrent_entry, bias_entry,
    show V3 m ρ c main_arg3 = _ from W3_args m ρ c main_arg3 (by decide), gates]
  exact gates_eq _ _ _ _

theorem cell_in (c : Dev nD) : iblk1 (V3 m ρ) c 3 t1_0 = m ((c : Thread nD τ).loc main_arg2) :=
  (block1 m ρ c).2.2.2.1.trans (W3_args m ρ c main_arg2 (by decide))

theorem final7 (c : Dev nD) : V4 m ρ c main_v18_0 = hnew m c := by
  refine (W4_arr m ρ c 7).trans ((dat1 (V3 m ρ) c).arrAt_eq_of_after_last 7 t1_0 (by decide +kernel) _ fun j => ?_)
  blk_simp
  rw [after1_7, new_val]

theorem final8 (c : Dev nD) : V4 m ρ c main_v18_1 = attnc m c := by
  refine (W4_arr m ρ c 8).trans ((dat1 (V3 m ρ) c).arrAt_eq_of_after_last 8 t1_0 (by decide +kernel) _ fun j => ?_)
  blk_simp
  rw [after1_8, attn_val]

theorem final9 (c : Dev nD) : V4 m ρ c main_v18_2 = rHidden (gates m c) (m ((c : Thread nD τ).loc main_arg2)) := by
  refine (W4_arr m ρ c 9).trans ((dat1 (V3 m ρ) c).arrAt_eq_of_after_last 9 t1_0 (by decide +kernel) _ fun j => ?_)
  blk_simp
  rw [after1_9, Step.out_hidden, new_val, gates_val, cell_in, hidden_eq]

theorem final10 (c : Dev nD) : V4 m ρ c main_v18_3 = rCell (gates m c) (m ((c : Thread nD τ).loc main_arg2)) := by
  refine (W4_arr m ρ c 10).trans ((dat1 (V3 m ρ) c).arrAt_eq_of_after_last 10 t1_0 (by decide +kernel) _ fun j => ?_)
  blk_simp
  rw [after1_10, Step.out_cell, new_val, gates_val, cell_in, cell_eq]

/-- The attention weights with their last axis of one. -/
theorem weights_out (c : Dev nD) : W5 m ρ c (Proc.devRef .tc main_v19)
    = val_main_v22 (F := Ideal) (m ((c : Thread nD τ).loc main_arg0)) (m ((c : Thread nD τ).loc main_arg1)) (m ((c : Thread nD τ).loc main_arg6)) := by
  have h : W4 m ρ c (Proc.devRef .tc main_v15) = weight m c := (W4_of m ρ c main_v15 (by decide +kernel)).trans (weight_entry m ρ c)
  show StableHlo.after hostOps2 (W4 m ρ c) (Proc.devRef .tc main_v19) = _
  after_results_simp
  rw [h]
  rfl

/-! ## The claims -/

/-- The run: the five results at the reference's values of the arguments, which it leaves unchanged. -/
theorem run : θ_run defs (onTc (τ := τ) (main (F := Ideal))) ⟨m, fun _ => 0, ρ⟩ fun r => ∀ c : Dev nD,
      r.2.mem ((c : Thread nD τ).loc main_v18_1) = attnc m c
      ∧ r.2.mem ((c : Thread nD τ).loc main_v19) = val_main_v22 (F := Ideal) (m ((c : Thread nD τ).loc main_arg0)) (m ((c : Thread nD τ).loc main_arg1)) (m ((c : Thread nD τ).loc main_arg6))
      ∧ r.2.mem ((c : Thread nD τ).loc main_v18_0) = hnew m c
      ∧ r.2.mem ((c : Thread nD τ).loc main_v18_2) = rHidden (gates m c) (m ((c : Thread nD τ).loc main_arg2))
      ∧ r.2.mem ((c : Thread nD τ).loc main_v18_3) = rCell (gates m c) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run _ _ _).mono (fun r h c =>
    ⟨(h c _ (mem_uc main_v18_1 (by decide))).trans ((W5_of m ρ c main_v18_1 (by decide)).trans (final8 m ρ c)),
     (h c _ (mem_uc main_v19 (by decide))).trans (weights_out m ρ c),
     (h c _ (mem_uc main_v18_0 (by decide))).trans ((W5_of m ρ c main_v18_0 (by decide)).trans (final7 m ρ c)),
     (h c _ (mem_uc main_v18_2 (by decide))).trans ((W5_of m ρ c main_v18_2 (by decide)).trans (final9 m ρ c)),
     (h c _ (mem_uc main_v18_3 (by decide))).trans ((W5_of m ρ c main_v18_3 (by decide)).trans (final10 m ρ c)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (Held.run m ρ)

theorem algebraic : Cert.algebraic_LastIdeal_LastRefIdeal := by
  refine fun m ρ m' ρ' _ hag => ⟨_, _, _, _, _, run m ρ, (θ_run _ _ _).mono (fun _ h c => ?_) (Cert.LastRefIdeal.Value.run m' ρ')⟩
  obtain ⟨a0, a1, a2, a3, a4, a5, a6⟩ := hag c
  obtain ⟨h25, h22, h26, h60, h58, hk⟩ := h c
  refine ⟨h25.trans ?_, h22.trans ?_, h26.trans ?_, (h60.trans (val_main_v60_eq m' c)).trans ?_, (h58.trans (val_main_v58_eq m' c)).trans ?_, hk⟩
  · rw [a0, a1, a6]; rfl
  · rw [a0, a1, a6]; rfl
  · rw [a0, a1, a6]; rfl
  · rw [a0, a1, a2, a3, a4, a5, a6]; rfl
  · rw [a0, a1, a2, a3, a4, a5, a6]; rfl

/-- The reference declares no semaphore and leaves its arguments unchanged. -/
theorem ref_frame : Cert.quiescent_LastRefIdeal := fun m ρ _ =>
  (θ_run _ _ _).mono (fun r h => ⟨fun c => (h c).2.2.2.2.2, sem_eq_zero_of_no_sems (by decide) r.2⟩) (Cert.LastRefIdeal.Value.run m ρ)

/-- The two masks' constants are named and denote −∞. -/
theorem preserves : Cert.preserves_Last_LastIdeal :=
  ⟨IdealRules.named_const.statement Cert.LastIdeal.κ "neg" .f32 0xF149F2CA#32 ⊥ rfl,
   IdealRules.named_const.statement Cert.LastIdeal.κ "low" .f32 0xFF61B1E6#32 ⊥ rfl⟩

end Cert.LastIdeal.RefValue

end
-- ==== Proof.TopkValue.lean ====
module

public import proofs.«01_k».proof.Defs
public import proofs.«01_k».proof.Proof.LastTopk
public import proofs.«01_k».proof.Proof.Gen.TopkIdeal.Frame
public import proofs.«01_k».proof.Proof.Gen.TopkRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TopkIdeal.RefValue

open Cert.TopkIdeal Cert.TopkIdeal.Gen Cert.LastIdeal.Topk

variable (m : (ℓ : Loc nD τ sig) → Buf (Elt Ideal) ℓ) (ρ : Dev nD → PrngReg)

/-! ## The reference's values, of the scores `x` and the mask `y` -/

/-- The valid scores, the others at `b`. -/
def valid (b : BitVec 32) (x : FVec Ideal S64x64 .f32) (y : IVec S1x64 32) : FVec Ideal S64x64 .f32 :=
  select (broadcastInDim Cert.TopkRefIdeal.S64x64 ![0, 1] Cert.TopkRefIdeal.Gen.bcast_S1x64_S64x64_0_1
      (cmpi .sgt y (broadcastInDim Cert.TopkRefIdeal.S1x64 ![] Cert.TopkRefIdeal.Gen.bcast_S_S1x64 (constantI Cert.TopkRefIdeal.S_ 32 0#32)))) x
    (broadcastInDim Cert.TopkRefIdeal.S64x64 ![] Cert.TopkRefIdeal.Gen.bcast_S_S64x64 (id (constant (F := Ideal) Cert.TopkRefIdeal.S_ .f32 b)))

/-- The scores above their row's tenth largest. -/
def above (x : FVec Ideal S64x64 .f32) : FVec Ideal S64x64 .f32 :=
  maximumf (subf x (broadcastInDim Cert.TopkRefIdeal.S64x64 ![0, 1] Cert.TopkRefIdeal.Gen.bcast_S64x1_S64x64_0_1
      (broadcastInDim Cert.TopkRefIdeal.S64x1 ![0] Cert.TopkRefIdeal.Gen.bcast_S64_S64x1_0
        (addf (shapeCast _ (extractStridedSlice Cert.TopkRefIdeal.S64x1 ![0, 9]
            ((Host.topK Cert.TopkRefIdeal.S64x10 1 (FloatOps.cmpfTotal (F := Ideal) (φ := .f32) .gt) x Cert.TopkRefIdeal.Gen.sliceFits_S64x64_S64x10).1)
            Cert.TopkRefIdeal.Gen.slices_S64x10_S64x1_0_9) Cert.TopkRefIdeal.Gen.shapeCasts_S64x1_S64)
          (broadcastInDim Cert.TopkRefIdeal.S64 ![] Cert.TopkRefIdeal.Gen.bcast_S_S64 (constant (F := Ideal) Cert.TopkRefIdeal.S_ .f32 0x33D6BF95#32))))))
    (broadcastInDim Cert.TopkRefIdeal.S64x64 ![] Cert.TopkRefIdeal.Gen.bcast_S_S64x64 (constant (F := Ideal) Cert.TopkRefIdeal.S_ .f32 0x00000000#32))

/-! ## The kernel's values -/

theorem zero : Ideal.ofBits .f32 0x00000000#32 = 0 := by
  simp [Ideal.ofBits, Ideal.ieee]

/-- The kernel's masked scores. -/
theorem masked_val (x : FVec Ideal S64x64 .f32) (y : IVec S1x64 32) : k0_pay2 (F := Ideal) x y = valid 0xFF800000#32 x y := by
  funext j
  idx_vars j
  pointwise [k0_pay2, k0_pay1, valid]
  exact congrArg _ (neg_eq.trans minus_inf.symm)

/-- The kernel's nine rounds and its threshold, of the masked scores. -/
theorem rounds (x : FVec Ideal S64x64 .f32) (y : IVec S1x64 32) :
    k0_pay7 (F := Ideal) (k0_pay2 x y) (iota .tc S64x64 32 [1] iota_S64x64_d1_w32)
      (k0_pay5 (F := Ideal) (iota .tc S64x64 32 [1] iota_S64x64_d1_w32) (k0_pay3 x y) (k0_pay4 (F := Ideal) x y))
      (k0_pay6 (F := Ideal) (iota .tc S64x64 32 [1] iota_S64x64_d1_w32) (k0_pay3 x y) (k0_pay4 (F := Ideal) x y))
    = maximumf (subf (k0_pay2 (F := Ideal) x y) (broadcastTo S64x64 (shapeCast S64x1 (addf (tenth (k0_pay2 (F := Ideal) x y))
        (broadcast S64 (Scalar.ofBits (F := Ideal) .f32 0x33D6BF95#32))) shapeCasts_S64_S64x1) broadcasts_S64x1_S64x64)) (broadcast S64x64 (Scalar.ofBits (F := Ideal) .f32 0x00000000#32)) := rfl

theorem above_val (x : FVec Ideal S64x64 .f32) : maximumf (subf x (broadcastTo S64x64 (shapeCast S64x1 (addf (tenth x)
        (broadcast S64 (Scalar.ofBits (F := Ideal) .f32 0x33D6BF95#32))) shapeCasts_S64_S64x1) broadcasts_S64x1_S64x64)) (broadcast S64x64 (Scalar.ofBits (F := Ideal) .f32 0x00000000#32)) = above x := by
  funext j
  idx_vars j
  pointwise [above]
  rw [tenth_eq _ Cert.LastRefIdeal.Gen.sliceFits_S64x64_S64x10]

theorem out_above (x : FVec Ideal S64x64 .f32) (y : IVec S1x64 32) : out0_2 (F := Ideal) x y = above (valid 0xFF800000#32 x y) := by
  rw [← above_val, ← masked_val, ← rounds]
  frame_out [k0_pay9, k0_pay10, k0_pay11]

theorem out_valid (x : FVec Ideal S64x64 .f32) (y : IVec S1x64 32) : out0_3 (F := Ideal) x y = valid 0x00000000#32 x y := by
  frame_out [k0_pay8]
  funext j
  idx_vars j
  pointwise [k0_pay8, k0_pay1, valid]
  exact congrArg _ zero.symm

/-! ## The run -/

theorem idx : ∀ t : Fin cfg0.N, win0_0.index t = ![0, 0] ∧ win0_1.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1) := by
  refine ⟨?_, ?_⟩ <;> (funext j; blk_ext! [iblk, V, idx t0_0])

/-- The two results, of the arguments. -/
def thresholded (c : Dev nD) : FVec Ideal S64x64 .f32 :=
  above (valid 0xFF800000#32 (m ((c : Thread nD τ).loc main_arg0)) (m ((c : Thread nD τ).loc main_arg1)))
def raw (c : Dev nD) : FVec Ideal S64x64 .f32 :=
  valid 0x00000000#32 (m ((c : Thread nD τ).loc main_arg0)) (m ((c : Thread nD τ).loc main_arg1))

/-- The arrays the run leaves are the reference's values. -/
theorem finals (c : Dev nD) : (dats m 0 c).arrAt 2 (cfgs 0).N = thresholded m c ∧ (dats m 0 c).arrAt 3 (cfgs 0).N = raw m c := by
  refine ⟨(dats m 0 c).arrAt_eq_of_after_last 2 t0_0 (by decide +kernel) _ fun j => ?_, (dats m 0 c).arrAt_eq_of_after_last 3 t0_0 (by decide +kernel) _ fun j => ?_⟩
  all_goals blk_simp
  · rw [after0_2, out_above, (block m c).1, (block m c).2, thresholded]
  · rw [after0_3, out_valid, (block m c).1, (block m c).2, raw]

theorem algebraic : Cert.algebraic_TopkIdeal_TopkRefIdeal := by
  refine fun m ρ m' ρ' _ hag => ⟨thresholded m, raw m, ?_, (θ_run _ _ _).mono (fun _ h c => ?_) (Cert.TopkRefIdeal.Value.run m' ρ')⟩
  · run_from Cert.TopkIdeal.Gen.run_main m ρ
    exacts [(finals m _).1, (finals m _).2]
  · obtain ⟨a0, a1⟩ := hag c
    obtain ⟨h11, h12, hk⟩ := h c
    refine ⟨h11.trans ?_, h12.trans ?_, hk⟩ <;> (rw [a0, a1]; rfl)

/-- The reference declares no semaphore and leaves its arguments unchanged. -/
theorem ref_frame : Cert.quiescent_TopkRefIdeal := fun m ρ _ =>
  (θ_run _ _ _).mono (fun r h => ⟨fun c => (h c).2.2, sem_eq_zero_of_no_sems (by decide) r.2⟩) (Cert.TopkRefIdeal.Value.run m ρ)

/-- The two masks' constants are named and denote −∞. -/
theorem preserves : Cert.preserves_Topk_TopkIdeal :=
  ⟨IdealRules.named_const.statement Cert.TopkIdeal.κ "neg" .f32 0xF149F2CA#32 ⊥ rfl,
   IdealRules.named_const.statement Cert.TopkIdeal.κ "low" .f32 0xFF61B1E6#32 ⊥ rfl⟩

end Cert.TopkIdeal.RefValue

end
-- ==== Proof.XwValue.lean ====
/-
  The input products at every time step: `x · W_ihᵀ + b_ih`, eight time steps a block.
  The result array of the kernel is the reference's term, index by index.
-/
module

public import proofs.«01_k».proof.Defs
public import proofs.«01_k».proof.Proof.Gen.XwIdeal.Value
public import proofs.«01_k».proof.Proof.Gen.XwRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XwIdeal.RefValue

open Cert.XwIdeal Cert.XwIdeal.Gen

variable (m : (ℓ : Loc nD τ sig) → Buf (Elt Ideal) ℓ) (ρ : Dev nD → PrngReg)

/-- The reference's term over its three arguments. -/
def REF (X : FVec Ideal S64x64x256 .f32) (Wt : FVec Ideal S2048x256 .f32) (b : FVec Ideal S2048 .f32) : FVec Ideal S64x64x2048 .f32 :=
  addf (transpose Cert.XwRefIdeal.S64x64x2048 [2, 1, 0] (Host.dotGeneral Cert.XwRefIdeal.dot_S2048x256_S64x64x256_S2048x64x64_1_2_0_01_n_n none Wt X) Cert.XwRefIdeal.Gen.transposes_S2048x64x64_S64x64x2048_2_1_0) (broadcastInDim Cert.XwRefIdeal.S64x64x2048 ![0, 1, 2] Cert.XwRefIdeal.Gen.bcast_S1x1x2048_S64x64x2048_0_1_2 (broadcastInDim Cert.XwRefIdeal.S1x1x2048 ![2] Cert.XwRefIdeal.Gen.bcast_S2048_S1x1x2048_2 b))

/-- Where each window's block of grid point `t` starts. -/
theorem idx : ∀ t : Fin cfg0.N, win0_0.index t = ![t.val, 0, 0] ∧ win0_1.index t = ![0, 0] ∧ win0_2.index t = ![0, 0] ∧ win0_3.index t = ![t.val, 0, 0] :=
  (by decide +kernel : ∀ t : Fin grid0.N, _)

/-- The result read at an index, each factor of the product in the kernel's place. -/
def PROD (X : FVec Ideal S64x64x256 .f32) (Wt : FVec Ideal S2048x256 .f32) (b : FVec Ideal S2048 .f32) : FVec Ideal S64x64x2048 .f32 :=
  fun i => ∑ k : Fin 256, X (ix3 (i 1 : Fin 64) (i 0 : Fin 64) k) * Wt (ix2 (i 2 : Fin 2048) k) + b (ix1 (i 2 : Fin 2048))

theorem prod_eq (X : FVec Ideal S64x64x256 .f32) (Wt : FVec Ideal S2048x256 .f32) (b : FVec Ideal S2048 .f32) : PROD X Wt b = REF X Wt b := by
  funext i
  idx_vars i
  pointwise! [PROD, REF]

/-- What a grid point stores is that value there. -/
theorem point (c : Dev nD) (t : Fin cfg0.N) (y : S8x64x2048.Idx) : k0_pay1 (iblk m c 0 t) (iblk m c 1 t) (iblk m c 2 t) y
    = PROD (m ((c : Thread nD τ).loc main_arg0)) (m ((c : Thread nD τ).loc main_arg1)) (m ((c : Thread nD τ).loc main_arg2)) (((cfg0.win 3).blk t).view.emb y) := by
  pointwise [k0_pay1, PROD]
  blk_point [iblk, V, idx t]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  rw [← prod_eq]
  exact point m c t y

/-- The run: the result array at the reference's term. -/
theorem run : θ_run defs (onTc (τ := τ) (main (F := Ideal))) ⟨m, fun _ => 0, ρ⟩ fun r => ∀ c : Dev nD,
      r.2.mem ((c : Thread nD τ).loc main_v3)
        = REF (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.XwIdeal.Value.run_blocks m ρ)

theorem algebraic : Cert.algebraic_XwIdeal_XwRefIdeal := by
  refine fun m ρ m' ρ' _ hag => ⟨_, run m ρ, (θ_run _ _ _).mono (fun _ h c => ?_) (Cert.XwRefIdeal.Value.run m' ρ')⟩
  obtain ⟨a0, a1, a2⟩ := hag c
  refine ⟨(h c).1.trans ?_, (h c).2⟩
  rw [a0, a1, a2]; rfl

/-- The reference declares no semaphore and leaves its arguments unchanged. -/
theorem ref_frame : Cert.quiescent_XwRefIdeal := fun m ρ _ =>
  (θ_run _ _ _).mono (fun r h => ⟨fun c => (h c).2, sem_eq_zero_of_no_sems (by decide) r.2⟩) (Cert.XwRefIdeal.Value.run m ρ)

end Cert.XwIdeal.RefValue

end
-- ==== Proof.Step1Value.lean ====
module

public import proofs.«01_k».proof.Defs
public import proofs.«01_k».proof.Proof.Gen.Step1Ideal.Frame
public import proofs.«01_k».proof.Proof.Gen.Step1RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step1Ideal.RefValue

open Cert.Step1Ideal Cert.Step1Ideal.Gen Cert.CellSpec

variable (m : (ℓ : Loc nD τ sig) → Buf (Elt Ideal) ℓ)

/-- The reference's attention sum over the first row. -/
def attn (w : FVec Ideal S8x64 .f32) (s : FVec Ideal S8x64x512 .f32) : FVec Ideal S64x512 .f32 :=
  Host.reduceAdd (mulf (broadcastInDim Cert.Step1RefIdeal.S1x64x512 ![0, 1, 2] Cert.Step1RefIdeal.Gen.bcast_S1x64x1_S1x64x512_0_1_2 (broadcastInDim Cert.Step1RefIdeal.S1x64x1 ![0, 1] Cert.Step1RefIdeal.Gen.bcast_S1x64_S1x64x1_0_1
      (extractStridedSlice Cert.Step1RefIdeal.S1x64 ![0, 0] w Cert.Step1RefIdeal.Gen.slices_S8x64_S1x64_0_0))) (extractStridedSlice Cert.Step1RefIdeal.S1x64x512 ![0, 0, 0] s Cert.Step1RefIdeal.Gen.slices_S8x64x512_S1x64x512_0_0_0))
    (constant Cert.Step1RefIdeal.S_ .f32 0x00000000#32) Cert.Step1RefIdeal.Gen.reducesTo_S1x64x512_S64x512_d0 Cert.Step1RefIdeal.Gen.h_S_

variable (x0 : FVec Ideal S8x64 .f32) (x1 : FVec Ideal S8x64x512 .f32) (x2 x3 : FVec Ideal S64x512 .f32) (x4 : FVec Ideal S64x2048 .f32) (x5 : FVec Ideal S512x2048 .f32) (x6 : FVec Ideal S1x2048 .f32)

/-- The attention sum the body stores is the reference's: one row. -/
theorem out_attn : out0_8 (F := Ideal) x0 x1 x2 x3 x4 x5 x6 = attn x0 x1 := by
  funext j
  idx_vars j
  frame_out
  pointwise [k0_pay1, attn]
  rw [Fin.sum_univ_one]

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out
  rfl

theorem out_cell : out0_10 (F := Ideal) x0 x1 x2 x3 x4 x5 x6 = kCell (kGates (addf x2 (attn x0 x1)) x4 x5 x6) x3 := by
  rw [← out_new x0 x1 x2 x3 x4 x5 x6]
  frame_out
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step1Ideal_Step1RefIdeal := by
  refine fun m ρ m' ρ' _ hag => ⟨fun c => addf (m ((c : Thread nD τ).loc main_arg2)) (A m c), A m, hidden m, cell m, ?_, (θ_run _ _ _).mono (fun _ h c => ?_) (Cert.Step1RefIdeal.Value.run m' ρ')⟩
  · run_from Cert.Step1Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, (h9.trans (by unfold Cert.Step1RefIdeal.Value.res_main_v40; rfl)).trans ?_, h10.trans ?_, hk⟩ <;> (rw [a0, a1]; try rw [a2]; try rw [a3, a4, a5, a6]) <;> rfl

/-- The reference declares no semaphore and leaves its arguments unchanged. -/
theorem ref_frame : Cert.quiescent_Step1RefIdeal := fun m ρ _ =>
  (θ_run _ _ _).mono (fun r h => ⟨fun c => (h c).2.2.2.2, sem_eq_zero_of_no_sems (by decide) r.2⟩) (Cert.Step1RefIdeal.Value.run m ρ)

end Cert.Step1Ideal.RefValue

end
-- ==== Proof.Step2Value.lean ====
module

public import proofs.«01_k».proof.Defs
public import proofs.«01_k».proof.Proof.Gen.Step2Ideal.Frame
public import proofs.«01_k».proof.Proof.Gen.Step2RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step2Ideal.RefValue

open Cert.Step2Ideal Cert.Step2Ideal.Gen Cert.CellSpec

variable (m : (ℓ : Loc nD τ sig) → Buf (Elt Ideal) ℓ)

/-- The reference's attention sum over the first two rows. -/
def attn (w : FVec Ideal S8x64 .f32) (s : FVec Ideal S8x64x512 .f32) : FVec Ideal S64x512 .f32 :=
  Host.reduceAdd (mulf (broadcastInDim Cert.Step2RefIdeal.S2x64x512 ![0, 1, 2] Cert.Step2RefIdeal.Gen.bcast_S2x64x1_S2x64x512_0_1_2 (broadcastInDim Cert.Step2RefIdeal.S2x64x1 ![0, 1] Cert.Step2RefIdeal.Gen.bcast_S2x64_S2x64x1_0_1
      (extractStridedSlice Cert.Step2RefIdeal.S2x64 ![0, 0] w Cert.Step2RefIdeal.Gen.slices_S8x64_S2x64_0_0))) (extractStridedSlice Cert.Step2RefIdeal.S2x64x512 ![0, 0, 0] s Cert.Step2RefIdeal.Gen.slices_S8x64x512_S2x64x512_0_0_0))
    (constant Cert.Step2RefIdeal.S_ .f32 0x00000000#32) Cert.Step2RefIdeal.Gen.reducesTo_S2x64x512_S64x512_d0 Cert.Step2RefIdeal.Gen.h_S_

variable (x0 : FVec Ideal S8x64 .f32) (x1 : FVec Ideal S8x64x512 .f32) (x2 x3 : FVec Ideal S64x512 .f32) (x4 : FVec Ideal S64x2048 .f32) (x5 : FVec Ideal S512x2048 .f32) (x6 : FVec Ideal S1x2048 .f32)

/-- The attention sum the body stores is the reference's: two rows. -/
theorem out_attn : out0_8 (F := Ideal) x0 x1 x2 x3 x4 x5 x6 = attn x0 x1 := by
  funext j
  idx_vars j
  frame_out
  pointwise [k0_pay3, attn]
  rw [Fin.sum_univ_two]
  rfl

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out [k0_pay10, k0_pay11, k0_pay12]
  rfl

theorem out_cell : out0_10 (F := Ideal) x0 x1 x2 x3 x4 x5 x6 = kCell (kGates (addf x2 (attn x0 x1)) x4 x5 x6) x3 := by
  rw [← out_new x0 x1 x2 x3 x4 x5 x6]
  frame_out [k0_pay10, k0_pay11, k0_pay12]
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step2Ideal_Step2RefIdeal := by
  refine fun m ρ m' ρ' _ hag => ⟨fun c => addf (m ((c : Thread nD τ).loc main_arg2)) (A m c), A m, hidden m, cell m, ?_, (θ_run _ _ _).mono (fun _ h c => ?_) (Cert.Step2RefIdeal.Value.run m' ρ')⟩
  · run_from Cert.Step2Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, (h9.trans (by unfold Cert.Step2RefIdeal.Value.res_main_v40; rfl)).trans ?_, h10.trans ?_, hk⟩ <;> (rw [a0, a1]; try rw [a2]; try rw [a3, a4, a5, a6]) <;> rfl

/-- The reference declares no semaphore and leaves its arguments unchanged. -/
theorem ref_frame : Cert.quiescent_Step2RefIdeal := fun m ρ _ =>
  (θ_run _ _ _).mono (fun r h => ⟨fun c => (h c).2.2.2.2, sem_eq_zero_of_no_sems (by decide) r.2⟩) (Cert.Step2RefIdeal.Value.run m ρ)

end Cert.Step2Ideal.RefValue

end
-- ==== Proof.Step3Value.lean ====
module

public import proofs.«01_k».proof.Defs
public import proofs.«01_k».proof.Proof.Gen.Step3Ideal.Frame
public import proofs.«01_k».proof.Proof.Gen.Step3RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Step3Ideal.RefValue

open Cert.Step3Ideal Cert.Step3Ideal.Gen Cert.CellSpec

variable (m : (ℓ : Loc nD τ sig) → Buf (Elt Ideal) ℓ) (ρ : Dev nD → PrngReg)

/-- The reference's attention sum. -/
def attn (w : FVec Ideal S8x64 .f32) (s : FVec Ideal S8x64x512 .f32) : FVec Ideal S64x512 .f32 :=
  Host.reduceAdd (mulf (broadcastInDim Cert.Step3RefIdeal.S3x64x512 ![0, 1, 2] Cert.Step3RefIdeal.Gen.bcast_S3x64x1_S3x64x512_0_1_2 (broadcastInDim Cert.Step3RefIdeal.S3x64x1 ![0, 1] Cert.Step3RefIdeal.Gen.bcast_S3x64_S3x64x1_0_1 (extractStridedSlice Cert.Step3RefIdeal.S3x64 ![0, 0] w Cert.Step3RefIdeal.Gen.slices_S8x64_S3x64_0_0))) (extractStridedSlice Cert.Step3RefIdeal.S3x64x512 ![0, 0, 0] s Cert.Step3RefIdeal.Gen.slices_S8x64x512_S3x64x512_0_0_0)) (constant Cert.Step3RefIdeal.S_ .f32 0x00000000#32) Cert.Step3RefIdeal.Gen.reducesTo_S3x64x512_S64x512_d0 Cert.Step3RefIdeal.Gen.h_S_

variable (x0 : FVec Ideal S8x64 .f32) (x1 : FVec Ideal S8x64x512 .f32) (x2 x3 : FVec Ideal S64x512 .f32) (x4 : FVec Ideal S64x2048 .f32) (x5 : FVec Ideal S512x2048 .f32) (x6 : FVec Ideal S1x2048 .f32)

/-- The attention sum the body stores is the reference's. -/
theorem out_attn : out0_8 (F := Ideal) x0 x1 x2 x3 x4 x5 x6 = attn x0 x1 := by
  funext j
  idx_vars j
  frame_out
  pointwise [k0_pay4, attn]
  rw [Fin.sum_univ_three]
  rfl

theorem out_new : out0_7 (F := Ideal) x0 x1 x2 x3 x4 x5 x6 = addf x2 (out0_8 (F := Ideal) x0 x1 x2 x3 x4 x5 x6) := by
  frame_out
  rfl

theorem out_hidden : out0_9 (F := Ideal) x0 x1 x2 x3 x4 x5 x6 = kHidden (kGates (out0_7 (F := Ideal) x0 x1 x2 x3 x4 x5 x6) x4 x5 x6) x3 := by
  frame_out [k0_pay7]
  rfl

theorem out_cell : out0_10 (F := Ideal) x0 x1 x2 x3 x4 x5 x6 = kCell (kGates (out0_7 (F := Ideal) x0 x1 x2 x3 x4 x5 x6) x4 x5 x6) x3 := by
  frame_out [k0_pay7]
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The new hidden state and the gates over it, of the arguments. -/
def hnew (c : Dev nD) : FVec Ideal S64x512 .f32 :=
  addf (m ((c : Thread nD τ).loc main_arg2)) (attn (m ((c : Thread nD τ).loc main_arg0)) (m ((c : Thread nD τ).loc main_arg1)))

def gates (c : Dev nD) : FVec Ideal S64x2048 .f32 :=
  rGates (hnew m c) (m ((c : Thread nD τ).loc main_arg4)) (m ((c : Thread nD τ).loc main_arg5)) (m ((c : Thread nD τ).loc main_arg6))

theorem final8 (c : Dev nD) : (dats m 0 c).arrAt 8 (cfgs 0).N = attn (m ((c : Thread nD τ).loc main_arg0)) (m ((c : Thread nD τ).loc main_arg1)) := by
  refine (dats m 0 c).arrAt_eq_of_after_last 8 t0_0 (by decide +kernel) _ fun j => ?_
  blk_simp
  rw [after0_8, out_attn, (block m c).1, (block m c).2.1]

theorem new_eq (c : Dev nD) : out0_7 (F := Ideal) (iblk m c 0 t0_0) (iblk m c 1 t0_0) (iblk m c 2 t0_0) (iblk m c 3 t0_0) (iblk m c 4 t0_0) (iblk m c 5 t0_0) (iblk m c 6 t0_0)
    = hnew m c := by
  rw [out_new, out_attn, (block m c).1, (block m c).2.1, (block m c).2.2.1, hnew]

theorem gates_val (c : Dev nD) : kGates (hnew m c) (iblk m c 4 t0_0) (iblk m c 5 t0_0) (iblk m c 6 t0_0) = gates m c := by
  rw [(block m c).2.2.2.2.1, (block m c).2.2.2.2.2.1, (block m c).2.2.2.2.2.2, gates]
  exact gates_eq _ _ _ _

theorem final7 (c : Dev nD) : (dats m 0 c).arrAt 7 (cfgs 0).N = hnew m c := by
  refine (dats m 0 c).arrAt_eq_of_after_last 7 t0_0 (by decide +kernel) _ fun j => ?_
  blk_simp
  rw [after0_7, new_eq]

theorem final9 (c : Dev nD) : (dats m 0 c).arrAt 9 (cfgs 0).N = rHidden (gates m c) (m ((c : Thread nD τ).loc main_arg3)) := by
  refine (dats m 0 c).arrAt_eq_of_after_last 9 t0_0 (by decide +kernel) _ fun j => ?_
  blk_simp
  rw [after0_9, out_hidden, new_eq, gates_val, (block m c).2.2.2.1, hidden_eq]

theorem final10 (c : Dev nD) : (dats m 0 c).arrAt 10 (cfgs 0).N = rCell (gates m c) (m ((c : Thread nD τ).loc main_arg3)) := by
  refine (dats m 0 c).arrAt_eq_of_after_last 10 t0_0 (by decide +kernel) _ fun j => ?_
  blk_simp
  rw [after0_10, out_cell, new_eq, gates_val, (block m c).2.2.2.1, cell_eq]

/-- The run: the four results at the reference's values of the arguments, which it leaves unchanged. -/
theorem run : θ_run defs (onTc (τ := τ) (main (F := Ideal))) ⟨m, fun _ => 0, ρ⟩ fun r => ∀ c : Dev nD,
      r.2.mem ((c : Thread nD τ).loc main_v2_0) = hnew m c
      ∧ r.2.mem ((c : Thread nD τ).loc main_v2_1) = attn (m ((c : Thread nD τ).loc main_arg0)) (m ((c : Thread nD τ).loc main_arg1))
      ∧ r.2.mem ((c : Thread nD τ).loc main_v2_2) = rHidden (gates m c) (m ((c : Thread nD τ).loc main_arg3))
      ∧ r.2.mem ((c : Thread nD τ).loc main_v2_3) = rCell (gates m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  run_from Cert.Step3Ideal.Gen.run_main m ρ
  exacts [final7 m _, final8 m _, final9 m _, final10 m _]

theorem algebraic : Cert.algebraic_Step3Ideal_Step3RefIdeal := by
  refine fun m ρ m' ρ' _ hag => ⟨_, _, _, _, run m ρ, (θ_run _ _ _).mono (fun _ h c => ?_) (Cert.Step3RefIdeal.Value.run m' ρ')⟩
  obtain ⟨a0, a1, a2, a3, a4, a5, a6⟩ := hag c
  obtain ⟨h7, h8, h9, h10, hk⟩ := h c
  refine ⟨h7.trans ?_, h8.trans ?_, h9.trans ?_, h10.trans ?_, hk⟩
  · rw [a0, a1, a2]; rfl
  · rw [a0, a1]; rfl
  · unfold Cert.Step3RefIdeal.Value.res_main_v40; rw [a0, a1, a2, a3, a4, a5, a6]; rfl
  · rw [a0, a1, a2, a3, a4, a5, a6]; rfl

/-- The reference declares no semaphore and leaves its arguments unchanged. -/
theorem ref_frame : Cert.quiescent_Step3RefIdeal := fun m ρ _ =>
  (θ_run _ _ _).mono (fun r h => ⟨fun c => (h c).2.2.2.2, sem_eq_zero_of_no_sems (by decide) r.2⟩) (Cert.Step3RefIdeal.Value.run m ρ)

end Cert.Step3Ideal.RefValue

end
-- ==== Proof.Step4Value.lean ====
module

public import proofs.«01_k».proof.Defs
public import proofs.«01_k».proof.Proof.Gen.Step4Ideal.Frame
public import proofs.«01_k».proof.Proof.Gen.Step4RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step4Ideal.RefValue

open Cert.Step4Ideal Cert.Step4Ideal.Gen Cert.CellSpec

variable (m : (ℓ : Loc nD τ sig) → Buf (Elt Ideal) ℓ)

/-- The reference's attention sum over the first four rows. -/
def attn (w : FVec Ideal S8x64 .f32) (s : FVec Ideal S8x64x512 .f32) : FVec Ideal S64x512 .f32 :=
  Host.reduceAdd (mulf (broadcastInDim Cert.Step4RefIdeal.S4x64x512 ![0, 1, 2] Cert.Step4RefIdeal.Gen.bcast_S4x64x1_S4x64x512_0_1_2 (broadcastInDim Cert.Step4RefIdeal.S4x64x1 ![0, 1] Cert.Step4RefIdeal.Gen.bcast_S4x64_S4x64x1_0_1
      (extractStridedSlice Cert.Step4RefIdeal.S4x64 ![0, 0] w Cert.Step4RefIdeal.Gen.slices_S8x64_S4x64_0_0))) (extractStridedSlice Cert.Step4RefIdeal.S4x64x512 ![0, 0, 0] s Cert.Step4RefIdeal.Gen.slices_S8x64x512_S4x64x512_0_0_0))
    (constant Cert.Step4RefIdeal.S_ .f32 0x00000000#32) Cert.Step4RefIdeal.Gen.reducesTo_S4x64x512_S64x512_d0 Cert.Step4RefIdeal.Gen.h_S_

variable (x0 : FVec Ideal S8x64 .f32) (x1 : FVec Ideal S8x64x512 .f32) (x2 x3 : FVec Ideal S64x512 .f32) (x4 : FVec Ideal S64x2048 .f32) (x5 : FVec Ideal S512x2048 .f32) (x6 : FVec Ideal S1x2048 .f32)

/-- The attention sum the body stores is the reference's: four rows, one after the other. -/
theorem out_attn : out0_8 (F := Ideal) x0 x1 x2 x3 x4 x5 x6 = attn x0 x1 := by
  funext j
  idx_vars j
  frame_out
  pointwise [k0_pay4, attn]
  rw [Fin.sum_univ_four]
  rfl

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out [k0_pay6]
  rfl

theorem out_cell : out0_10 (F := Ideal) x0 x1 x2 x3 x4 x5 x6 = kCell (kGates (addf x2 (attn x0 x1)) x4 x5 x6) x3 := by
  rw [← out_new x0 x1 x2 x3 x4 x5 x6]
  frame_out [k0_pay6]
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step4Ideal_Step4RefIdeal := by
  refine fun m ρ m' ρ' _ hag => ⟨fun c => addf (m ((c : Thread nD τ).loc main_arg2)) (A m c), A m, hidden m, cell m, ?_, (θ_run _ _ _).mono (fun _ h c => ?_) (Cert.Step4RefIdeal.Value.run m' ρ')⟩
  · run_from Cert.Step4Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, (h9.trans (by unfold Cert.Step4RefIdeal.Value.res_main_v40; rfl)).trans ?_, h10.trans ?_, hk⟩ <;> (rw [a0, a1]; try rw [a2]; try rw [a3, a4, a5, a6]) <;> rfl

/-- The reference declares no semaphore and leaves its arguments unchanged. -/
theorem ref_frame : Cert.quiescent_Step4RefIdeal := fun m ρ _ =>
  (θ_run _ _ _).mono (fun r h => ⟨fun c => (h c).2.2.2.2, sem_eq_zero_of_no_sems (by decide) r.2⟩) (Cert.Step4RefIdeal.Value.run m ρ)

end Cert.Step4Ideal.RefValue

end
-- ==== Proof.Step5Value.lean ====
module

public import proofs.«01_k».proof.Defs
public import proofs.«01_k».proof.Proof.Gen.Step5Ideal.Frame
public import proofs.«01_k».proof.Proof.Gen.Step5RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step5Ideal.RefValue

open Cert.Step5Ideal Cert.Step5Ideal.Gen Cert.CellSpec

variable (m : (ℓ : Loc nD τ sig) → Buf (Elt Ideal) ℓ)

/-- The reference's attention sum over the first five rows. -/
def attn (w : FVec Ideal S8x64 .f32) (s : FVec Ideal S8x64x512 .f32) : FVec Ideal S64x512 .f32 :=
  Host.reduceAdd (mulf (broadcastInDim Cert.Step5RefIdeal.S5x64x512 ![0, 1, 2] Cert.Step5RefIdeal.Gen.bcast_S5x64x1_S5x64x512_0_1_2 (broadcastInDim Cert.Step5RefIdeal.S5x64x1 ![0, 1] Cert.Step5RefIdeal.Gen.bcast_S5x64_S5x64x1_0_1
      (extractStridedSlice Cert.Step5RefIdeal.S5x64 ![0, 0] w Cert.Step5RefIdeal.Gen.slices_S8x64_S5x64_0_0))) (extractStridedSlice Cert.Step5RefIdeal.S5x64x512 ![0, 0, 0] s Cert.Step5RefIdeal.Gen.slices_S8x64x512_S5x64x512_0_0_0))
    (constant Cert.Step5RefIdeal.S_ .f32 0x00000000#32) Cert.Step5RefIdeal.Gen.reducesTo_S5x64x512_S64x512_d0 Cert.Step5RefIdeal.Gen.h_S_

variable (x0 : FVec Ideal S8x64 .f32) (x1 : FVec Ideal S8x64x512 .f32) (x2 x3 : FVec Ideal S64x512 .f32) (x4 : FVec Ideal S64x2048 .f32) (x5 : FVec Ideal S512x2048 .f32) (x6 : FVec Ideal S1x2048 .f32)

/-- The attention sum the body stores is the reference's: five rows, one after the other. -/
theorem out_attn : out0_8 (F := Ideal) x0 x1 x2 x3 x4 x5 x6 = attn x0 x1 := by
  funext j
  idx_vars j
  frame_out [k0_pay8, k0_pay9]
  pointwise [k0_pay1, k0_pay6, k0_pay7, attn]
  rw [Fin.sum_univ_five]
  rfl

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out
  rfl

theorem out_cell : out0_10 (F := Ideal) x0 x1 x2 x3 x4 x5 x6 = kCell (kGates (addf x2 (attn x0 x1)) x4 x5 x6) x3 := by
  rw [← out_new x0 x1 x2 x3 x4 x5 x6]
  frame_out
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step5Ideal_Step5RefIdeal := by
  refine fun m ρ m' ρ' _ hag => ⟨fun c => addf (m ((c : Thread nD τ).loc main_arg2)) (A m c), A m, hidden m, cell m, ?_, (θ_run _ _ _).mono (fun _ h c => ?_) (Cert.Step5RefIdeal.Value.run m' ρ')⟩
  · run_from Cert.Step5Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, (h9.trans (by unfold Cert.Step5RefIdeal.Value.res_main_v40; rfl)).trans ?_, h10.trans ?_, hk⟩ <;> (rw [a0, a1]; try rw [a2]; try rw [a3, a4, a5, a6]) <;> rfl

/-- The reference declares no semaphore and leaves its arguments unchanged. -/
theorem ref_frame : Cert.quiescent_Step5RefIdeal := fun m ρ _ =>
  (θ_run _ _ _).mono (fun r h => ⟨fun c => (h c).2.2.2.2, sem_eq_zero_of_no_sems (by decide) r.2⟩) (Cert.Step5RefIdeal.Value.run m ρ)

end Cert.Step5Ideal.RefValue

end
-- ==== Proof.Step6Value.lean ====
module

public import proofs.«01_k».proof.Defs
public import proofs.«01_k».proof.Proof.Gen.Step6Ideal.Frame
public import proofs.«01_k».proof.Proof.Gen.Step6RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step6Ideal.RefValue

open Cert.Step6Ideal Cert.Step6Ideal.Gen Cert.CellSpec

variable (m : (ℓ : Loc nD τ sig) → Buf (Elt Ideal) ℓ)

/-- The reference's attention sum over the first six rows. -/
def attn (w : FVec Ideal S8x64 .f32) (s : FVec Ideal S8x64x512 .f32) : FVec Ideal S64x512 .f32 :=
  Host.reduceAdd (mulf (broadcastInDim Cert.Step6RefIdeal.S6x64x512 ![0, 1, 2] Cert.Step6RefIdeal.Gen.bcast_S6x64x1_S6x64x512_0_1_2 (broadcastInDim Cert.Step6RefIdeal.S6x64x1 ![0, 1] Cert.Step6RefIdeal.Gen.bcast_S6x64_S6x64x1_0_1
      (extractStridedSlice Cert.Step6RefIdeal.S6x64 ![0, 0] w Cert.Step6RefIdeal.Gen.slices_S8x64_S6x64_0_0))) (extractStridedSlice Cert.Step6RefIdeal.S6x64x512 ![0, 0, 0] s Cert.Step6RefIdeal.Gen.slices_S8x64x512_S6x64x512_0_0_0))
    (constant Cert.Step6RefIdeal.S_ .f32 0x00000000#32) Cert.Step6RefIdeal.Gen.reducesTo_S6x64x512_S64x512_d0 Cert.Step6RefIdeal.Gen.h_S_

variable (x0 : FVec Ideal S8x64 .f32) (x1 : FVec Ideal S8x64x512 .f32) (x2 x3 : FVec Ideal S64x512 .f32) (x4 : FVec Ideal S64x2048 .f32) (x5 : FVec Ideal S512x2048 .f32) (x6 : FVec Ideal S1x2048 .f32)

/-- The attention sum the body stores is the reference's: six rows, one after the other. -/
theorem out_attn : out0_8 (F := Ideal) x0 x1 x2 x3 x4 x5 x6 = attn x0 x1 := by
  funext j
  idx_vars j
  frame_out [k0_pay10, k0_pay11]
  pointwise [k0_pay2, k0_pay3, k0_pay4, attn]
  rw [Fin.sum_univ_six]
  rfl

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out
  rfl

theorem out_cell : out0_10 (F := Ideal) x0 x1 x2 x3 x4 x5 x6 = kCell (kGates (addf x2 (attn x0 x1)) x4 x5 x6) x3 := by
  rw [← out_new x0 x1 x2 x3 x4 x5 x6]
  frame_out
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step6Ideal_Step6RefIdeal := by
  refine fun m ρ m' ρ' _ hag => ⟨fun c => addf (m ((c : Thread nD τ).loc main_arg2)) (A m c), A m, hidden m, cell m, ?_, (θ_run _ _ _).mono (fun _ h c => ?_) (Cert.Step6RefIdeal.Value.run m' ρ')⟩
  · run_from Cert.Step6Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, (h9.trans (by unfold Cert.Step6RefIdeal.Value.res_main_v40; rfl)).trans ?_, h10.trans ?_, hk⟩ <;> (rw [a0, a1]; try rw [a2]; try rw [a3, a4, a5, a6]) <;> rfl

/-- The reference declares no semaphore and leaves its arguments unchanged. -/
theorem ref_frame : Cert.quiescent_Step6RefIdeal := fun m ρ _ =>
  (θ_run _ _ _).mono (fun r h => ⟨fun c => (h c).2.2.2.2, sem_eq_zero_of_no_sems (by decide) r.2⟩) (Cert.Step6RefIdeal.Value.run m ρ)

end Cert.Step6Ideal.RefValue

end
-- ==== Proof.Step7Value.lean ====
module

public import proofs.«01_k».proof.Defs
public import proofs.«01_k».proof.Proof.Gen.Step7Ideal.Frame
public import proofs.«01_k».proof.Proof.Gen.Step7RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step7Ideal.RefValue

open Cert.Step7Ideal Cert.Step7Ideal.Gen Cert.CellSpec

variable (m : (ℓ : Loc nD τ sig) → Buf (Elt Ideal) ℓ)

/-- The reference's attention sum over the first seven rows. -/
def attn (w : FVec Ideal S8x64 .f32) (s : FVec Ideal S8x64x512 .f32) : FVec Ideal S64x512 .f32 :=
  Host.reduceAdd (mulf (broadcastInDim Cert.Step7RefIdeal.S7x64x512 ![0, 1, 2] Cert.Step7RefIdeal.Gen.bcast_S7x64x1_S7x64x512_0_1_2 (broadcastInDim Cert.Step7RefIdeal.S7x64x1 ![0, 1] Cert.Step7RefIdeal.Gen.bcast_S7x64_S7x64x1_0_1
      (extractStridedSlice Cert.Step7RefIdeal.S7x64 ![0, 0] w Cert.Step7RefIdeal.Gen.slices_S8x64_S7x64_0_0))) (extractStridedSlice Cert.Step7RefIdeal.S7x64x512 ![0, 0, 0] s Cert.Step7RefIdeal.Gen.slices_S8x64x512_S7x64x512_0_0_0))
    (constant Cert.Step7RefIdeal.S_ .f32 0x00000000#32) Cert.Step7RefIdeal.Gen.reducesTo_S7x64x512_S64x512_d0 Cert.Step7RefIdeal.Gen.h_S_

variable (x0 : FVec Ideal S8x64 .f32) (x1 : FVec Ideal S8x64x512 .f32) (x2 x3 : FVec Ideal S64x512 .f32) (x4 : FVec Ideal S64x2048 .f32) (x5 : FVec Ideal S512x2048 .f32) (x6 : FVec Ideal S1x2048 .f32)

/-- The attention sum the body stores is the reference's: seven rows, one after the other. -/
theorem out_attn : out0_8 (F := Ideal) x0 x1 x2 x3 x4 x5 x6 = attn x0 x1 := by
  funext j
  idx_vars j
  frame_out [k0_pay9, k0_pay10]
  pointwise [k0_pay3, k0_pay4, k0_pay5, attn]
  rw [Fin.sum_univ_seven]
  rfl

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out [k0_pay11, k0_pay12]
  rfl

theorem out_cell : out0_10 (F := Ideal) x0 x1 x2 x3 x4 x5 x6 = kCell (kGates (addf x2 (attn x0 x1)) x4 x5 x6) x3 := by
  rw [← out_new x0 x1 x2 x3 x4 x5 x6]
  frame_out [k0_pay11, k0_pay12]
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step7Ideal_Step7RefIdeal := by
  refine fun m ρ m' ρ' _ hag => ⟨fun c => addf (m ((c : Thread nD τ).loc main_arg2)) (A m c), A m, hidden m, cell m, ?_, (θ_run _ _ _).mono (fun _ h c => ?_) (Cert.Step7RefIdeal.Value.run m' ρ')⟩
  · run_from Cert.Step7Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, (h9.trans (by unfold Cert.Step7RefIdeal.Value.res_main_v40; rfl)).trans ?_, h10.trans ?_, hk⟩ <;> (rw [a0, a1]; try rw [a2]; try rw [a3, a4, a5, a6]) <;> rfl

/-- The reference declares no semaphore and leaves its arguments unchanged. -/
theorem ref_frame : Cert.quiescent_Step7RefIdeal := fun m ρ _ =>
  (θ_run _ _ _).mono (fun r h => ⟨fun c => (h c).2.2.2.2, sem_eq_zero_of_no_sems (by decide) r.2⟩) (Cert.Step7RefIdeal.Value.run m ρ)

end Cert.Step7Ideal.RefValue

end
-- ==== Proof.Step8Value.lean ====
module

public import proofs.«01_k».proof.Defs
public import proofs.«01_k».proof.Proof.Gen.Step8Ideal.Frame
public import proofs.«01_k».proof.Proof.Gen.Step8RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step8Ideal.RefValue

open Cert.Step8Ideal Cert.Step8Ideal.Gen Cert.CellSpec

variable (m : (ℓ : Loc nD τ sig) → Buf (Elt Ideal) ℓ)

/-- The reference's attention sum. -/
def attn (w : FVec Ideal S8x64 .f32) (s : FVec Ideal S8x64x512 .f32) : FVec Ideal S64x512 .f32 :=
  Host.reduceAdd (mulf (broadcastInDim S8x64x512 ![0, 1, 2] Cert.Step8RefIdeal.Gen.bcast_S8x64x1_S8x64x512_0_1_2 (broadcastInDim Cert.Step8RefIdeal.S8x64x1 ![0, 1] Cert.Step8RefIdeal.Gen.bcast_S8x64_S8x64x1_0_1 w)) s)
    (constant Cert.Step8RefIdeal.S_ .f32 0x00000000#32) Cert.Step8RefIdeal.Gen.reducesTo_S8x64x512_S64x512_d0 Cert.Step8RefIdeal.Gen.h_S_

variable (x0 : FVec Ideal S8x64 .f32) (x1 : FVec Ideal S8x64x512 .f32) (x2 x3 : FVec Ideal S64x512 .f32) (x4 : FVec Ideal S64x2048 .f32) (x5 : FVec Ideal S512x2048 .f32) (x6 : FVec Ideal S1x2048 .f32)

/-- The attention sum the body stores is the reference's: one chunk of eight rows. -/
theorem out_attn : out0_8 (F := Ideal) x0 x1 x2 x3 x4 x5 x6 = attn x0 x1 := by
  funext j
  idx_vars j
  frame_out
  pointwise [k0_pay3, attn]
  rw [sum_chunks 1]
  simp only [tree, Fin.sum_univ_one]
  rfl

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out [k0_pay10, k0_pay11, k0_pay12]
  rfl

theorem out_cell : out0_10 (F := Ideal) x0 x1 x2 x3 x4 x5 x6 = kCell (kGates (addf x2 (attn x0 x1)) x4 x5 x6) x3 := by
  rw [← out_new x0 x1 x2 x3 x4 x5 x6]
  frame_out [k0_pay10, k0_pay11, k0_pay12]
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step8Ideal_Step8RefIdeal := by
  refine fun m ρ m' ρ' _ hag => ⟨fun c => addf (m ((c : Thread nD τ).loc main_arg2)) (A m c), A m, hidden m, cell m, ?_, (θ_run _ _ _).mono (fun _ h c => ?_) (Cert.Step8RefIdeal.Value.run m' ρ')⟩
  · run_from Cert.Step8Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, h9.trans ?_, h10.trans ?_, hk⟩ <;> (rw [a0, a1]; try rw [a2]; try rw [a3, a4, a5, a6]) <;> rfl

/-- The reference declares no semaphore and leaves its arguments unchanged. -/
theorem ref_frame : Cert.quiescent_Step8RefIdeal := fun m ρ _ =>
  (θ_run _ _ _).mono (fun r h => ⟨fun c => (h c).2.2.2.2, sem_eq_zero_of_no_sems (by decide) r.2⟩) (Cert.Step8RefIdeal.Value.run m ρ)

end Cert.Step8Ideal.RefValue

end
-- ==== Proof.Step16Value.lean ====
module

public import proofs.«01_k».proof.Defs
public import proofs.«01_k».proof.Proof.Gen.Step16Ideal.Frame
public import proofs.«01_k».proof.Proof.Gen.Step16RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step16Ideal.RefValue

open Cert.Step16Ideal Cert.Step16Ideal.Gen Cert.CellSpec

variable (m : (ℓ : Loc nD τ sig) → Buf (Elt Ideal) ℓ)

/-- The reference's attention sum. -/
def attn (w : FVec Ideal S16x64 .f32) (s : FVec Ideal S16x64x512 .f32) : FVec Ideal S64x512 .f32 :=
  Host.reduceAdd (mulf (broadcastInDim S16x64x512 ![0, 1, 2] Cert.Step16RefIdeal.Gen.bcast_S16x64x1_S16x64x512_0_1_2 (broadcastInDim Cert.Step16RefIdeal.S16x64x1 ![0, 1] Cert.Step16RefIdeal.Gen.bcast_S16x64_S16x64x1_0_1 w)) s)
    (constant Cert.Step16RefIdeal.S_ .f32 0x00000000#32) Cert.Step16RefIdeal.Gen.reducesTo_S16x64x512_S64x512_d0 Cert.Step16RefIdeal.Gen.h_S_

variable (x0 : FVec Ideal S16x64 .f32) (x1 : FVec Ideal S16x64x512 .f32) (x2 x3 : FVec Ideal S64x512 .f32) (x4 : FVec Ideal S64x2048 .f32) (x5 : FVec Ideal S512x2048 .f32) (x6 : FVec Ideal S1x2048 .f32)

/-- The attention sum the body stores is the reference's: two chunks of eight rows. -/
theorem out_attn : out0_8 (F := Ideal) x0 x1 x2 x3 x4 x5 x6 = attn x0 x1 := by
  funext j
  idx_vars j
  frame_out
  pointwise [k0_pay3, attn]
  rw [sum_chunks 2]
  simp only [tree, Fin.sum_univ_two]
  rfl

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out [k0_pay6]
  rfl

theorem out_cell : out0_10 (F := Ideal) x0 x1 x2 x3 x4 x5 x6 = kCell (kGates (addf x2 (attn x0 x1)) x4 x5 x6) x3 := by
  rw [← out_new x0 x1 x2 x3 x4 x5 x6]
  frame_out [k0_pay6]
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum of the arguments, and a function of it and the remaining arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step16Ideal_Step16RefIdeal := by
  refine fun m ρ m' ρ' _ hag => ⟨fun c => addf (m ((c : Thread nD τ).loc main_arg2)) (A m c), A m, hidden m, cell m, ?_, (θ_run _ _ _).mono (fun _ h c => ?_) (Cert.Step16RefIdeal.Value.run m' ρ')⟩
  · run_from Cert.Step16Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, h9.trans ?_, h10.trans ?_, hk⟩ <;> (rw [a0, a1]; try rw [a2]; try rw [a3, a4, a5, a6]) <;> rfl

/-- The reference declares no semaphore and leaves its arguments unchanged. -/
theorem ref_frame : Cert.quiescent_Step16RefIdeal := fun m ρ _ =>
  (θ_run _ _ _).mono (fun r h => ⟨fun c => (h c).2.2.2.2, sem_eq_zero_of_no_sems (by decide) r.2⟩) (Cert.Step16RefIdeal.Value.run m ρ)

end Cert.Step16Ideal.RefValue

end
-- ==== Proof.Step24Value.lean ====
module

public import proofs.«01_k».proof.Defs
public import proofs.«01_k».proof.Proof.Gen.Step24Ideal.Frame
public import proofs.«01_k».proof.Proof.Gen.Step24RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step24Ideal.RefValue

open Cert.Step24Ideal Cert.Step24Ideal.Gen Cert.CellSpec

variable (m : (ℓ : Loc nD τ sig) → Buf (Elt Ideal) ℓ)

/-- The reference's attention sum. -/
def attn (w : FVec Ideal S24x64 .f32) (s : FVec Ideal S24x64x512 .f32) : FVec Ideal S64x512 .f32 :=
  Host.reduceAdd (mulf (broadcastInDim S24x64x512 ![0, 1, 2] Cert.Step24RefIdeal.Gen.bcast_S24x64x1_S24x64x512_0_1_2 (broadcastInDim Cert.Step24RefIdeal.S24x64x1 ![0, 1] Cert.Step24RefIdeal.Gen.bcast_S24x64_S24x64x1_0_1 w)) s)
    (constant Cert.Step24RefIdeal.S_ .f32 0x00000000#32) Cert.Step24RefIdeal.Gen.reducesTo_S24x64x512_S64x512_d0 Cert.Step24RefIdeal.Gen.h_S_

variable (x0 : FVec Ideal S24x64 .f32) (x1 : FVec Ideal S24x64x512 .f32) (x2 x3 : FVec Ideal S64x512 .f32) (x4 : FVec Ideal S64x2048 .f32) (x5 : FVec Ideal S512x2048 .f32) (x6 : FVec Ideal S1x2048 .f32)

/-- The attention sum the body stores is the reference's: three chunks of eight rows. -/
theorem out_attn : out0_8 (F := Ideal) x0 x1 x2 x3 x4 x5 x6 = attn x0 x1 := by
  funext j
  idx_vars j
  frame_out
  pointwise [k0_pay4, attn]
  rw [sum_chunks 3]
  simp only [tree, Fin.sum_univ_three]
  rfl

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out [k0_pay6]
  rfl

theorem out_cell : out0_10 (F := Ideal) x0 x1 x2 x3 x4 x5 x6 = kCell (kGates (addf x2 (attn x0 x1)) x4 x5 x6) x3 := by
  rw [← out_new x0 x1 x2 x3 x4 x5 x6]
  frame_out [k0_pay6]
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step24Ideal_Step24RefIdeal := by
  refine fun m ρ m' ρ' _ hag => ⟨fun c => addf (m ((c : Thread nD τ).loc main_arg2)) (A m c), A m, hidden m, cell m, ?_, (θ_run _ _ _).mono (fun _ h c => ?_) (Cert.Step24RefIdeal.Value.run m' ρ')⟩
  · run_from Cert.Step24Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, h9.trans ?_, h10.trans ?_, hk⟩ <;> (rw [a0, a1]; try rw [a2]; try rw [a3, a4, a5, a6]) <;> rfl

/-- The reference declares no semaphore and leaves its arguments unchanged. -/
theorem ref_frame : Cert.quiescent_Step24RefIdeal := fun m ρ _ =>
  (θ_run _ _ _).mono (fun r h => ⟨fun c => (h c).2.2.2.2, sem_eq_zero_of_no_sems (by decide) r.2⟩) (Cert.Step24RefIdeal.Value.run m ρ)

end Cert.Step24Ideal.RefValue

end
-- ==== Proof.Step32Value.lean ====
module

public import proofs.«01_k».proof.Defs
public import proofs.«01_k».proof.Proof.Gen.Step32Ideal.Frame
public import proofs.«01_k».proof.Proof.Gen.Step32RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step32Ideal.RefValue

open Cert.Step32Ideal Cert.Step32Ideal.Gen Cert.CellSpec

variable (m : (ℓ : Loc nD τ sig) → Buf (Elt Ideal) ℓ)

/-- The reference's attention sum. -/
def attn (w : FVec Ideal S32x64 .f32) (s : FVec Ideal S32x64x512 .f32) : FVec Ideal S64x512 .f32 :=
  Host.reduceAdd (mulf (broadcastInDim S32x64x512 ![0, 1, 2] Cert.Step32RefIdeal.Gen.bcast_S32x64x1_S32x64x512_0_1_2 (broadcastInDim Cert.Step32RefIdeal.S32x64x1 ![0, 1] Cert.Step32RefIdeal.Gen.bcast_S32x64_S32x64x1_0_1 w)) s)
    (constant Cert.Step32RefIdeal.S_ .f32 0x00000000#32) Cert.Step32RefIdeal.Gen.reducesTo_S32x64x512_S64x512_d0 Cert.Step32RefIdeal.Gen.h_S_

variable (x0 : FVec Ideal S32x64 .f32) (x1 : FVec Ideal S32x64x512 .f32) (x2 x3 : FVec Ideal S64x512 .f32) (x4 : FVec Ideal S64x2048 .f32) (x5 : FVec Ideal S512x2048 .f32) (x6 : FVec Ideal S1x2048 .f32)

/-- The attention sum the body stores is the reference's: four chunks of eight rows. -/
theorem out_attn : out0_8 (F := Ideal) x0 x1 x2 x3 x4 x5 x6 = attn x0 x1 := by
  funext j
  idx_vars j
  frame_out
  pointwise [k0_pay4, attn]
  rw [sum_chunks 4]
  simp only [tree, Fin.sum_univ_four]
  rfl

theorem out_new : out0_7 (F := Ideal) x0 x1 x2 x3 x4 x5 x6 = addf x2 (attn x0 x1) := by
  rw [← out_attn x0 x1 x2 x3 x4 x5 x6]
  frame_out [k0_pay6]
  rfl

theorem out_hidden : out0_9 (F := Ideal) x0 x1 x2 x3 x4 x5 x6 = kHidden (kGates (addf x2 (attn x0 x1)) x4 x5 x6) x3 := by
  rw [← out_new x0 x1 x2 x3 x4 x5 x6]
  frame_out
  rfl

theorem out_cell : out0_10 (F := Ideal) x0 x1 x2 x3 x4 x5 x6 = kCell (kGates (addf x2 (attn x0 x1)) x4 x5 x6) x3 := by
  rw [← out_new x0 x1 x2 x3 x4 x5 x6]
  frame_out
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step32Ideal_Step32RefIdeal := by
  refine fun m ρ m' ρ' _ hag => ⟨fun c => addf (m ((c : Thread nD τ).loc main_arg2)) (A m c), A m, hidden m, cell m, ?_, (θ_run _ _ _).mono (fun _ h c => ?_) (Cert.Step32RefIdeal.Value.run m' ρ')⟩
  · run_from Cert.Step32Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, h9.trans ?_, h10.trans ?_, hk⟩ <;> (rw [a0, a1]; try rw [a2]; try rw [a3, a4, a5, a6]) <;> rfl

/-- The reference declares no semaphore and leaves its arguments unchanged. -/
theorem ref_frame : Cert.quiescent_Step32RefIdeal := fun m ρ _ =>
  (θ_run _ _ _).mono (fun r h => ⟨fun c => (h c).2.2.2.2, sem_eq_zero_of_no_sems (by decide) r.2⟩) (Cert.Step32RefIdeal.Value.run m ρ)

end Cert.Step32Ideal.RefValue

end
-- ==== Proof.Step40Value.lean ====
module

public import proofs.«01_k».proof.Defs
public import proofs.«01_k».proof.Proof.Gen.Step40Ideal.Frame
public import proofs.«01_k».proof.Proof.Gen.Step40RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step40Ideal.RefValue

open Cert.Step40Ideal Cert.Step40Ideal.Gen Cert.CellSpec

variable (m : (ℓ : Loc nD τ sig) → Buf (Elt Ideal) ℓ)

/-- The reference's attention sum. -/
def attn (w : FVec Ideal S40x64 .f32) (s : FVec Ideal S40x64x512 .f32) : FVec Ideal S64x512 .f32 :=
  Host.reduceAdd (mulf (broadcastInDim S40x64x512 ![0, 1, 2] Cert.Step40RefIdeal.Gen.bcast_S40x64x1_S40x64x512_0_1_2 (broadcastInDim Cert.Step40RefIdeal.S40x64x1 ![0, 1] Cert.Step40RefIdeal.Gen.bcast_S40x64_S40x64x1_0_1 w)) s)
    (constant Cert.Step40RefIdeal.S_ .f32 0x00000000#32) Cert.Step40RefIdeal.Gen.reducesTo_S40x64x512_S64x512_d0 Cert.Step40RefIdeal.Gen.h_S_

variable (x0 : FVec Ideal S40x64 .f32) (x1 : FVec Ideal S40x64x512 .f32) (x2 x3 : FVec Ideal S64x512 .f32) (x4 : FVec Ideal S64x2048 .f32) (x5 : FVec Ideal S512x2048 .f32) (x6 : FVec Ideal S1x2048 .f32)

/-- The attention sum the body stores is the reference's: five chunks of eight rows. -/
theorem out_attn : out0_8 (F := Ideal) x0 x1 x2 x3 x4 x5 x6 = attn x0 x1 := by
  funext j
  idx_vars j
  frame_out [k0_pay7]
  pointwise [k0_pay1, k0_pay6, attn]
  rw [sum_chunks 5]
  simp only [tree, Fin.sum_univ_five]
  rfl

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out
  rfl

theorem out_cell : out0_10 (F := Ideal) x0 x1 x2 x3 x4 x5 x6 = kCell (kGates (addf x2 (attn x0 x1)) x4 x5 x6) x3 := by
  rw [← out_new x0 x1 x2 x3 x4 x5 x6]
  frame_out
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step40Ideal_Step40RefIdeal := by
  refine fun m ρ m' ρ' _ hag => ⟨fun c => addf (m ((c : Thread nD τ).loc main_arg2)) (A m c), A m, hidden m, cell m, ?_, (θ_run _ _ _).mono (fun _ h c => ?_) (Cert.Step40RefIdeal.Value.run m' ρ')⟩
  · run_from Cert.Step40Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, h9.trans ?_, h10.trans ?_, hk⟩ <;> (rw [a0, a1]; try rw [a2]; try rw [a3, a4, a5, a6]) <;> rfl

/-- The reference declares no semaphore and leaves its arguments unchanged. -/
theorem ref_frame : Cert.quiescent_Step40RefIdeal := fun m ρ _ =>
  (θ_run _ _ _).mono (fun r h => ⟨fun c => (h c).2.2.2.2, sem_eq_zero_of_no_sems (by decide) r.2⟩) (Cert.Step40RefIdeal.Value.run m ρ)

end Cert.Step40Ideal.RefValue

end
-- ==== Proof.Step48Value.lean ====
module

public import proofs.«01_k».proof.Defs
public import proofs.«01_k».proof.Proof.Gen.Step48Ideal.Frame
public import proofs.«01_k».proof.Proof.Gen.Step48RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step48Ideal.RefValue

open Cert.Step48Ideal Cert.Step48Ideal.Gen Cert.CellSpec

variable (m : (ℓ : Loc nD τ sig) → Buf (Elt Ideal) ℓ)

/-- The reference's attention sum. -/
def attn (w : FVec Ideal S48x64 .f32) (s : FVec Ideal S48x64x512 .f32) : FVec Ideal S64x512 .f32 :=
  Host.reduceAdd (mulf (broadcastInDim S48x64x512 ![0, 1, 2] Cert.Step48RefIdeal.Gen.bcast_S48x64x1_S48x64x512_0_1_2 (broadcastInDim Cert.Step48RefIdeal.S48x64x1 ![0, 1] Cert.Step48RefIdeal.Gen.bcast_S48x64_S48x64x1_0_1 w)) s)
    (constant Cert.Step48RefIdeal.S_ .f32 0x00000000#32) Cert.Step48RefIdeal.Gen.reducesTo_S48x64x512_S64x512_d0 Cert.Step48RefIdeal.Gen.h_S_

variable (x0 : FVec Ideal S48x64 .f32) (x1 : FVec Ideal S48x64x512 .f32) (x2 x3 : FVec Ideal S64x512 .f32) (x4 : FVec Ideal S64x2048 .f32) (x5 : FVec Ideal S512x2048 .f32) (x6 : FVec Ideal S1x2048 .f32)

/-- The attention sum the body stores is the reference's: six chunks of eight rows. -/
theorem out_attn : out0_8 (F := Ideal) x0 x1 x2 x3 x4 x5 x6 = attn x0 x1 := by
  funext j
  idx_vars j
  frame_out [k0_pay8, k0_pay9]
  pointwise [k0_pay1, k0_pay2, k0_pay3, attn]
  rw [sum_chunks 6]
  simp only [tree, Fin.sum_univ_six]
  rfl

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out
  rfl

theorem out_cell : out0_10 (F := Ideal) x0 x1 x2 x3 x4 x5 x6 = kCell (kGates (addf x2 (attn x0 x1)) x4 x5 x6) x3 := by
  rw [← out_new x0 x1 x2 x3 x4 x5 x6]
  frame_out
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step48Ideal_Step48RefIdeal := by
  refine fun m ρ m' ρ' _ hag => ⟨fun c => addf (m ((c : Thread nD τ).loc main_arg2)) (A m c), A m, hidden m, cell m, ?_, (θ_run _ _ _).mono (fun _ h c => ?_) (Cert.Step48RefIdeal.Value.run m' ρ')⟩
  · run_from Cert.Step48Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, h9.trans ?_, h10.trans ?_, hk⟩ <;> (rw [a0, a1]; try rw [a2]; try rw [a3, a4, a5, a6]) <;> rfl

/-- The reference declares no semaphore and leaves its arguments unchanged. -/
theorem ref_frame : Cert.quiescent_Step48RefIdeal := fun m ρ _ =>
  (θ_run _ _ _).mono (fun r h => ⟨fun c => (h c).2.2.2.2, sem_eq_zero_of_no_sems (by decide) r.2⟩) (Cert.Step48RefIdeal.Value.run m ρ)

end Cert.Step48Ideal.RefValue

end
-- ==== Proof.Step56Value.lean ====
module

public import proofs.«01_k».proof.Defs
public import proofs.«01_k».proof.Proof.Gen.Step56Ideal.Frame
public import proofs.«01_k».proof.Proof.Gen.Step56RefIdeal.Run
public import proofs.«01_k».proof.Proof.CellSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Step56Ideal.RefValue

open Cert.Step56Ideal Cert.Step56Ideal.Gen Cert.CellSpec

variable (m : (ℓ : Loc nD τ sig) → Buf (Elt Ideal) ℓ)

/-- The reference's attention sum. -/
def attn (w : FVec Ideal S56x64 .f32) (s : FVec Ideal S56x64x512 .f32) : FVec Ideal S64x512 .f32 :=
  Host.reduceAdd (mulf (broadcastInDim S56x64x512 ![0, 1, 2] Cert.Step56RefIdeal.Gen.bcast_S56x64x1_S56x64x512_0_1_2 (broadcastInDim Cert.Step56RefIdeal.S56x64x1 ![0, 1] Cert.Step56RefIdeal.Gen.bcast_S56x64_S56x64x1_0_1 w)) s)
    (constant Cert.Step56RefIdeal.S_ .f32 0x00000000#32) Cert.Step56RefIdeal.Gen.reducesTo_S56x64x512_S64x512_d0 Cert.Step56RefIdeal.Gen.h_S_

variable (x0 : FVec Ideal S56x64 .f32) (x1 : FVec Ideal S56x64x512 .f32) (x2 x3 : FVec Ideal S64x512 .f32) (x4 : FVec Ideal S64x2048 .f32) (x5 : FVec Ideal S512x2048 .f32) (x6 : FVec Ideal S1x2048 .f32)

/-- The attention sum the body stores is the reference's: seven chunks of eight rows. -/
theorem out_attn : out0_8 (F := Ideal) x0 x1 x2 x3 x4 x5 x6 = attn x0 x1 := by
  funext j
  idx_vars j
  frame_out [k0_pay11, k0_pay12]
  pointwise [k0_pay3, k0_pay4, k0_pay5, attn]
  rw [sum_chunks 7]
  simp only [tree, Fin.sum_univ_seven]
  rfl

theorem out_new : out0_7 (F := Ideal) x0 x1 x2 x3 x4 x5 x6 = addf x2 (attn x0 x1) := by
  rw [← out_attn x0 x1 x2 x3 x4 x5 x6]
  frame_out
  rfl

theorem out_hidden : out0_9 (F := Ideal) x0 x1 x2 x3 x4 x5 x6 = kHidden (kGates (addf x2 (attn x0 x1)) x4 x5 x6) x3 := by
  rw [← out_new x0 x1 x2 x3 x4 x5 x6]
  frame_out [k0_pay13, k0_pay14, k0_pay15]
  rfl

theorem out_cell : out0_10 (F := Ideal) x0 x1 x2 x3 x4 x5 x6 = kCell (kGates (addf x2 (attn x0 x1)) x4 x5 x6) x3 := by
  rw [← out_new x0 x1 x2 x3 x4 x5 x6]
  frame_out [k0_pay13, k0_pay14, k0_pay15]
  rfl

/-- Every window starts at the origin: a block is its whole array. -/
theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4)
    ∧ iblk m c 5 t0_0 = transpose S512x2048 [1, 0] (m ((c : Thread nD τ).loc main_arg5)) transposes_S2048x512_S512x2048_1_0
    ∧ iblk m c 6 t0_0 = broadcastInDim S1x2048 ![1] bcast_S2048_S1x2048_1 (m ((c : Thread nD τ).loc main_arg6)) := by
  refine ⟨?_, ?_, ?_, ?_, ?_, ?_, ?_⟩ <;> (funext j; blk_ext! [iblk, V, idx t0_0])

/-- The attention sum and the next states, of the arguments. -/
def A (c : Dev nD) : FVec Ideal S64x512 .f32 := attn (m ((c : Thread nD τ).loc main_arg0)) (m ((c : Thread nD τ).loc main_arg1))
def hidden (c : Dev nD) : FVec Ideal S64x512 .f32 :=
  stepHidden (A m c) (m ((c : Thread nD τ).loc main_arg2)) (m ((c : Thread nD τ).loc main_arg3)) (m ((c : Thread nD τ).loc main_arg4)) (m ((c : Thread nD τ).loc main_arg5)) (m ((c : Thread nD τ).loc main_arg6))
def cell (c : Dev nD) : FVec Ideal S64x512 .f32 :=
  stepCell (A m c) (m ((c : Thread nD τ).loc main_arg2)) (m ((c : Thread nD τ).loc main_arg3)) (m ((c : Thread nD τ).loc main_arg4)) (m ((c : Thread nD τ).loc main_arg5)) (m ((c : Thread nD τ).loc main_arg6))

/-- The arrays the run leaves are the reference's values. -/
theorem finals (c : Dev nD) : (dats m 0 c).arrAt 7 (cfgs 0).N = addf (m ((c : Thread nD τ).loc main_arg2)) (A m c)
    ∧ (dats m 0 c).arrAt 8 (cfgs 0).N = A m c ∧ (dats m 0 c).arrAt 9 (cfgs 0).N = hidden m c ∧ (dats m 0 c).arrAt 10 (cfgs 0).N = cell m c := by
  refine ⟨(dats m 0 c).arrAt_eq_of_after_last 7 t0_0 (by decide +kernel) _ fun j => ?_, (dats m 0 c).arrAt_eq_of_after_last 8 t0_0 (by decide +kernel) _ fun j => ?_,
    (dats m 0 c).arrAt_eq_of_after_last 9 t0_0 (by decide +kernel) _ fun j => ?_, (dats m 0 c).arrAt_eq_of_after_last 10 t0_0 (by decide +kernel) _ fun j => ?_⟩
  all_goals blk_simp
  · rw [after0_7, out_new, (block m c).1, (block m c).2.1, (block m c).2.2.1, A]
  · rw [after0_8, out_attn, (block m c).1, (block m c).2.1, A]
  · rw [after0_9, out_hidden]; simp only [block m c]; rw [step_hidden]; rfl
  · rw [after0_10, out_cell]; simp only [block m c]; rw [step_cell]; rfl

theorem algebraic : Cert.algebraic_Step56Ideal_Step56RefIdeal := by
  refine fun m ρ m' ρ' _ hag => ⟨fun c => addf (m ((c : Thread nD τ).loc main_arg2)) (A m c), A m, hidden m, cell m, ?_, (θ_run _ _ _).mono (fun _ h c => ?_) (Cert.Step56RefIdeal.Value.run m' ρ')⟩
  · run_from Cert.Step56Ideal.Gen.run_main m ρ
    exacts [(finals m _).1, (finals m _).2.1, (finals m _).2.2.1, (finals m _).2.2.2]
  · obtain ⟨a0, a1, a2, a3, a4, a5, a6⟩ := hag c
    obtain ⟨h7, h8, h9, h10, hk⟩ := h c
    refine ⟨h7.trans ?_, h8.trans ?_, h9.trans ?_, h10.trans ?_, hk⟩ <;> (rw [a0, a1]; try rw [a2]; try rw [a3, a4, a5, a6]) <;> rfl

/-- The reference declares no semaphore and leaves its arguments unchanged. -/
theorem ref_frame : Cert.quiescent_Step56RefIdeal := fun m ρ _ =>
  (θ_run _ _ _).mono (fun r h => ⟨fun c => (h c).2.2.2.2, sem_eq_zero_of_no_sems (by decide) r.2⟩) (Cert.Step56RefIdeal.Value.run m ρ)

end Cert.Step56Ideal.RefValue

end
-- ==== Proof.lean ====
/-
  The certificate: every program's frame and value claims, each proved in the module of its program.
-/
module

public import proofs.«01_k».proof.Defs
public import proofs.«01_k».proof.Proof.Gen.Last.Frame
public import proofs.«01_k».proof.Proof.Gen.Topk.Frame
public import proofs.«01_k».proof.Proof.Gen.Xw.Frame
public import proofs.«01_k».proof.Proof.Gen.Step1.Frame
public import proofs.«01_k».proof.Proof.Gen.Step2.Frame
public import proofs.«01_k».proof.Proof.Gen.Step3.Frame
public import proofs.«01_k».proof.Proof.Gen.Step4.Frame
public import proofs.«01_k».proof.Proof.Gen.Step5.Frame
public import proofs.«01_k».proof.Proof.Gen.Step6.Frame
public import proofs.«01_k».proof.Proof.Gen.Step7.Frame
public import proofs.«01_k».proof.Proof.Gen.Step8.Frame
public import proofs.«01_k».proof.Proof.Gen.Step16.Frame
public import proofs.«01_k».proof.Proof.Gen.Step24.Frame
public import proofs.«01_k».proof.Proof.Gen.Step32.Frame
public import proofs.«01_k».proof.Proof.Gen.Step40.Frame
public import proofs.«01_k».proof.Proof.Gen.Step48.Frame
public import proofs.«01_k».proof.Proof.Gen.Step56.Frame
public import proofs.«01_k».proof.Proof.Gen.Step64.Frame
public import proofs.«01_k».proof.Proof.LastValue
public import proofs.«01_k».proof.Proof.TopkValue
public import proofs.«01_k».proof.Proof.XwValue
public import proofs.«01_k».proof.Proof.Step1Value
public import proofs.«01_k».proof.Proof.Step2Value
public import proofs.«01_k».proof.Proof.Step3Value
public import proofs.«01_k».proof.Proof.Step4Value
public import proofs.«01_k».proof.Proof.Step5Value
public import proofs.«01_k».proof.Proof.Step6Value
public import proofs.«01_k».proof.Proof.Step7Value
public import proofs.«01_k».proof.Proof.Step8Value
public import proofs.«01_k».proof.Proof.Step16Value
public import proofs.«01_k».proof.Proof.Step24Value
public import proofs.«01_k».proof.Proof.Step32Value
public import proofs.«01_k».proof.Proof.Step40Value
public import proofs.«01_k».proof.Proof.Step48Value
public import proofs.«01_k».proof.Proof.Step56Value
public import proofs.«01_k».proof.Proof.Step64Value

@[expose] public section

noncomputable section

namespace Cert.Proof

open Idealize.ShloMosaic Idealize.SL.Sem

theorem claim : Cert.Claim := ⟨Cert.Last.Gen.facts, Cert.LastIdeal.Gen.facts, Cert.LastRefIdeal.Gen.facts,
  Cert.Topk.Gen.facts, Cert.TopkIdeal.Gen.facts, Cert.TopkRefIdeal.Gen.facts,
  Cert.Xw.Gen.facts, Cert.XwIdeal.Gen.facts, Cert.XwRefIdeal.Gen.facts,
  Cert.Step1.Gen.facts, Cert.Step1Ideal.Gen.facts, Cert.Step1RefIdeal.Gen.facts,
  Cert.Step2.Gen.facts, Cert.Step2Ideal.Gen.facts, Cert.Step2RefIdeal.Gen.facts,
  Cert.Step3.Gen.facts, Cert.Step3Ideal.Gen.facts, Cert.Step3RefIdeal.Gen.facts,
  Cert.Step4.Gen.facts, Cert.Step4Ideal.Gen.facts, Cert.Step4RefIdeal.Gen.facts,
  Cert.Step5.Gen.facts, Cert.Step5Ideal.Gen.facts, Cert.Step5RefIdeal.Gen.facts,
  Cert.Step6.Gen.facts, Cert.Step6Ideal.Gen.facts, Cert.Step6RefIdeal.Gen.facts,
  Cert.Step7.Gen.facts, Cert.Step7Ideal.Gen.facts, Cert.Step7RefIdeal.Gen.facts,
  Cert.Step8.Gen.facts, Cert.Step8Ideal.Gen.facts, Cert.Step8RefIdeal.Gen.facts,
  Cert.Step16.Gen.facts, Cert.Step16Ideal.Gen.facts, Cert.Step16RefIdeal.Gen.facts,
  Cert.Step24.Gen.facts, Cert.Step24Ideal.Gen.facts, Cert.Step24RefIdeal.Gen.facts,
  Cert.Step32.Gen.facts, Cert.Step32Ideal.Gen.facts, Cert.Step32RefIdeal.Gen.facts,
  Cert.Step40.Gen.facts, Cert.Step40Ideal.Gen.facts, Cert.Step40RefIdeal.Gen.facts,
  Cert.Step48.Gen.facts, Cert.Step48Ideal.Gen.facts, Cert.Step48RefIdeal.Gen.facts,
  Cert.Step56.Gen.facts, Cert.Step56Ideal.Gen.facts, Cert.Step56RefIdeal.Gen.facts,
  Cert.Step64.Gen.facts, Cert.Step64Ideal.Gen.facts, Cert.Step64RefIdeal.Gen.facts,
  fun m ρ _ => Cert.Last.Gen.frame m ρ, fun m ρ _ => Cert.LastIdeal.Gen.frame m ρ, Cert.LastIdeal.RefValue.ref_frame,
  fun m ρ _ => Cert.Topk.Gen.frame m ρ, fun m ρ _ => Cert.TopkIdeal.Gen.frame m ρ, Cert.TopkIdeal.RefValue.ref_frame,
  fun m ρ _ => Cert.Xw.Gen.frame m ρ, fun m ρ _ => Cert.XwIdeal.Gen.frame m ρ, Cert.XwIdeal.RefValue.ref_frame,
  fun m ρ _ => Cert.Step1.Gen.frame m ρ, fun m ρ _ => Cert.Step1Ideal.Gen.frame m ρ, Cert.Step1Ideal.RefValue.ref_frame,
  fun m ρ _ => Cert.Step2.Gen.frame m ρ, fun m ρ _ => Cert.Step2Ideal.Gen.frame m ρ, Cert.Step2Ideal.RefValue.ref_frame,
  fun m ρ _ => Cert.Step3.Gen.frame m ρ, fun m ρ _ => Cert.Step3Ideal.Gen.frame m ρ, Cert.Step3Ideal.RefValue.ref_frame,
  fun m ρ _ => Cert.Step4.Gen.frame m ρ, fun m ρ _ => Cert.Step4Ideal.Gen.frame m ρ, Cert.Step4Ideal.RefValue.ref_frame,
  fun m ρ _ => Cert.Step5.Gen.frame m ρ, fun m ρ _ => Cert.Step5Ideal.Gen.frame m ρ, Cert.Step5Ideal.RefValue.ref_frame,
  fun m ρ _ => Cert.Step6.Gen.frame m ρ, fun m ρ _ => Cert.Step6Ideal.Gen.frame m ρ, Cert.Step6Ideal.RefValue.ref_frame,
  fun m ρ _ => Cert.Step7.Gen.frame m ρ, fun m ρ _ => Cert.Step7Ideal.Gen.frame m ρ, Cert.Step7Ideal.RefValue.ref_frame,
  fun m ρ _ => Cert.Step8.Gen.frame m ρ, fun m ρ _ => Cert.Step8Ideal.Gen.frame m ρ, Cert.Step8Ideal.RefValue.ref_frame,
  fun m ρ _ => Cert.Step16.Gen.frame m ρ, fun m ρ _ => Cert.Step16Ideal.Gen.frame m ρ, Cert.Step16Ideal.RefValue.ref_frame,
  fun m ρ _ => Cert.Step24.Gen.frame m ρ, fun m ρ _ => Cert.Step24Ideal.Gen.frame m ρ, Cert.Step24Ideal.RefValue.ref_frame,
  fun m ρ _ => Cert.Step32.Gen.frame m ρ, fun m ρ _ => Cert.Step32Ideal.Gen.frame m ρ, Cert.Step32Ideal.RefValue.ref_frame,
  fun m ρ _ => Cert.Step40.Gen.frame m ρ, fun m ρ _ => Cert.Step40Ideal.Gen.frame m ρ, Cert.Step40Ideal.RefValue.ref_frame,
  fun m ρ _ => Cert.Step48.Gen.frame m ρ, fun m ρ _ => Cert.Step48Ideal.Gen.frame m ρ, Cert.Step48Ideal.RefValue.ref_frame,
  fun m ρ _ => Cert.Step56.Gen.frame m ρ, fun m ρ _ => Cert.Step56Ideal.Gen.frame m ρ, Cert.Step56Ideal.RefValue.ref_frame,
  fun m ρ _ => Cert.Step64.Gen.frame m ρ, fun m ρ _ => Cert.Step64Ideal.Gen.frame m ρ, Cert.Step64Ideal.RefValue.ref_frame,
  Cert.LastIdeal.RefValue.preserves, Cert.LastIdeal.RefValue.algebraic,
  Cert.TopkIdeal.RefValue.preserves, Cert.TopkIdeal.RefValue.algebraic,
  trivial, Cert.XwIdeal.RefValue.algebraic,
  trivial, Cert.Step1Ideal.RefValue.algebraic,
  trivial, Cert.Step2Ideal.RefValue.algebraic,
  trivial, Cert.Step3Ideal.RefValue.algebraic,
  trivial, Cert.Step4Ideal.RefValue.algebraic,
  trivial, Cert.Step5Ideal.RefValue.algebraic,
  trivial, Cert.Step6Ideal.RefValue.algebraic,
  trivial, Cert.Step7Ideal.RefValue.algebraic,
  trivial, Cert.Step8Ideal.RefValue.algebraic,
  trivial, Cert.Step16Ideal.RefValue.algebraic,
  trivial, Cert.Step24Ideal.RefValue.algebraic,
  trivial, Cert.Step32Ideal.RefValue.algebraic,
  trivial, Cert.Step40Ideal.RefValue.algebraic,
  trivial, Cert.Step48Ideal.RefValue.algebraic,
  trivial, Cert.Step56Ideal.RefValue.algebraic,
  trivial, Cert.Step64Ideal.RefValue.algebraic⟩

end Cert.Proof

end
